-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite6 : Cert.Pre_finite6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite6.lean ====
abbrev S2x8192x1024 : Shape := ⟨3, ![2, 8192, 1024]⟩
abbrev S1024x2048 : Shape := ⟨2, ![1024, 2048]⟩
abbrev S128x128 : Shape := ⟨2, ![128, 128]⟩
abbrev S_ : Shape := ⟨0, ![]⟩

class Facts : Prop where
  bcast_S_S2x8192x1024 : S_.BroadcastsInDim S2x8192x1024 (![] : Fin 0 → Fin S2x8192x1024.rank)
  bcast_S_S1024x2048 : S_.BroadcastsInDim S1024x2048 (![] : Fin 0 → Fin S1024x2048.rank)
  bcast_S_S128x128 : S_.BroadcastsInDim S128x128 (![] : Fin 0 → Fin S128x128.rank)

variable [Facts]

def fn {F : FTy → Type} [FloatOps F] (main_arg0 : FVec F S2x8192x1024 .f32) (main_arg1 : FVec F S1024x2048 .f32) (main_arg2 : FVec F S128x128 .f32) (main_arg3 : FVec F S128x128 .f32) : IVec S2x8192x1024 1 × IVec S1024x2048 1 × IVec S128x128 1 × IVec S128x128 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S1024x2048 .f32 := Host.absf main_arg1
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  (main_v2, main_v5, main_v8, main_v11)
-- ==== Kernel.lean ====
abbrev S2x8192x2252 : Shape := ⟨3, ![2, 8192, 2252]⟩
abbrev S2x8192x4x64 : Shape := ⟨4, ![2, 8192, 4, 64]⟩
abbrev S4 : Shape := ⟨1, ![4]⟩
abbrev S256 : Shape := ⟨1, ![256]⟩
abbrev S16384x2252 : Shape := ⟨2, ![16384, 2252]⟩
abbrev S16384x512 : Shape := ⟨2, ![16384, 512]⟩
abbrev S16384x128 : Shape := ⟨2, ![16384, 128]⟩
abbrev S16384x256 : Shape := ⟨2, ![16384, 256]⟩
abbrev S16384x64 : Shape := ⟨2, ![16384, 64]⟩
abbrev S16384x4 : Shape := ⟨2, ![16384, 4]⟩
abbrev S16384x1920 : Shape := ⟨2, ![16384, 1920]⟩
abbrev S_ : Shape := ⟨0, ![]⟩
abbrev S16384x44 : Shape := ⟨2, ![16384, 44]⟩
abbrev S16384x384 : Shape := ⟨2, ![16384, 384]⟩
abbrev S8 : Shape := ⟨1, ![8]⟩
abbrev S8x1 : Shape := ⟨2, ![8, 1]⟩
abbrev S1x256 : Shape := ⟨2, ![1, 256]⟩
abbrev S128x256 : Shape := ⟨2, ![128, 256]⟩
abbrev S128x128 : Shape := ⟨2, ![128, 128]⟩
abbrev S4x64x64 : Shape := ⟨3, ![4, 64, 64]⟩
abbrev S8x64 : Shape := ⟨2, ![8, 64]⟩
abbrev S8x128 : Shape := ⟨2, ![8, 128]⟩
abbrev S112x128 : Shape := ⟨2, ![112, 128]⟩
abbrev S64x64 : Shape := ⟨2, ![64, 64]⟩
abbrev S1x64 : Shape := ⟨2, ![1, 64]⟩
abbrev S64x1 : Shape := ⟨2, ![64, 1]⟩
abbrev S1x1 : Shape := ⟨2, ![1, 1]⟩
abbrev S1x64x64 : Shape := ⟨3, ![1, 64, 64]⟩
abbrev S64 : Shape := ⟨1, ![64]⟩
abbrev S1 : Shape := ⟨1, ![1]⟩
abbrev S1x128 : Shape := ⟨2, ![1, 128]⟩

abbrev nBuf : Space → Nat
  | .hbm => 41
  | .vmem => 18
  | .smem => 0
  | _ => 0

abbrev bufTy : (tb : Table) → Fin (tcTables nBuf tb) → BufTy
  | .hbm, ⟨0, _⟩ => ⟨S2x8192x2252, .f32⟩
  | .hbm, ⟨1, _⟩ => ⟨S2x8192x4x64, .f32⟩
  | .hbm, ⟨2, _⟩ => ⟨S2x8192x4x64, .f32⟩
  | .hbm, ⟨3, _⟩ => ⟨S4, .f32⟩
  | .hbm, ⟨4, _⟩ => ⟨S4, .f32⟩
  | .hbm, ⟨5, _⟩ => ⟨S256, .f32⟩
  | .hbm, ⟨6, _⟩ => ⟨S16384x2252, .f32⟩
  | .hbm, ⟨7, _⟩ => ⟨S16384x512, .f32⟩
  | .hbm, ⟨8, _⟩ => ⟨S16384x512, .f32⟩
  | .hbm, ⟨9, _⟩ => ⟨S16384x128, .f32⟩
  | .hbm, ⟨10, _⟩ => ⟨S16384x256, .f32⟩
  | .hbm, ⟨11, _⟩ => ⟨S16384x64, .f32⟩
  | .hbm, ⟨12, _⟩ => ⟨S16384x4, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x4, .f32⟩
  | .hbm, ⟨17, _⟩ => ⟨S16384x4, .f32⟩
  | .hbm, ⟨18, _⟩ => ⟨S16384x1920, .f32⟩
  | .hbm, ⟨19, _⟩ => ⟨S_, .f32⟩
  | .hbm, ⟨20, _⟩ => ⟨S16384x4, .f32⟩
  | .hbm, ⟨21, _⟩ => ⟨S_, .f32⟩
  | .hbm, ⟨22, _⟩ => ⟨S16384x4, .f32⟩
  | .hbm, ⟨23, _⟩ => ⟨S_, .f32⟩
  | .hbm, ⟨24, _⟩ => ⟨S16384x44, .f32⟩
  | .hbm, ⟨25, _⟩ => ⟨S16384x384, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S_, .i32⟩
  | .hbm, ⟨32, _⟩ => ⟨S_, .f32⟩
  | .hbm, ⟨33, _⟩ => ⟨S8, .f32⟩
  | .hbm, ⟨34, _⟩ => ⟨S8x1, .f32⟩
  | .hbm, ⟨35, _⟩ => ⟨S_, .i32⟩
  | .hbm, ⟨36, _⟩ => ⟨S_, .f32⟩
  | .hbm, ⟨37, _⟩ => ⟨S8, .f32⟩
  | .hbm, ⟨38, _⟩ => ⟨S8x1, .f32⟩
  | .hbm, ⟨39, _⟩ => ⟨S1x256, .f32⟩
  | .hbm, ⟨40, _⟩ => ⟨S16384x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x128, .f32⟩
  | .local _ .vmem, ⟨9, _⟩ => ⟨S128x128, .f32⟩
  | .local _ .vmem, ⟨10, _⟩ => ⟨S8x1, .f32⟩
  | .local _ .vmem, ⟨11, _⟩ => ⟨S8x1, .f32⟩
  | .local _ .vmem, ⟨12, _⟩ => ⟨S1x256, .f32⟩
  | .local _ .vmem, ⟨13, _⟩ => ⟨S128x256, .f32⟩
  | .local _ .vmem, ⟨14, _⟩ => ⟨S128x256, .f32⟩
  | .local _ .vmem, ⟨15, _⟩ => ⟨S4x64x64, .f32⟩
  | .local _ .vmem, ⟨16, _⟩ => ⟨S8x64, .f32⟩
  | .local _ .vmem, ⟨17, _⟩ => ⟨S8x128, .f32⟩
  | _, _ => ⟨S2x8192x2252, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c6_i32 : BitVec 32 := 6#32
  let c0_i32 : BitVec 32 := 0#32
  ![v1.toNat, c6_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x8192x2252 : Shape := ⟨3, ![2, 8192, 2252]⟩
abbrev S2x8192x4x64 : Shape := ⟨4, ![2, 8192, 4, 64]⟩
abbrev S4 : Shape := ⟨1, ![4]⟩
abbrev S256 : Shape := ⟨1, ![256]⟩
abbrev S2x8192x512 : Shape := ⟨3, ![2, 8192, 512]⟩
abbrev S2x8192x128 : Shape := ⟨3, ![2, 8192, 128]⟩
abbrev S2x8192x256 : Shape := ⟨3, ![2, 8192, 256]⟩
abbrev S2x8192x64 : Shape := ⟨3, ![2, 8192, 64]⟩
abbrev S2x8192x4 : Shape := ⟨3, ![2, 8192, 4]⟩
abbrev S2x4x8192x64 : Shape := ⟨4, ![2, 4, 8192, 64]⟩
abbrev S1x1x4 : Shape := ⟨3, ![1, 1, 4]⟩
abbrev S2x4x8192 : Shape := ⟨3, ![2, 4, 8192]⟩
abbrev S_ : Shape := ⟨0, ![]⟩
abbrev S2x4x128x64x64 : Shape := ⟨5, ![2, 4, 128, 64, 64]⟩
abbrev S128x2x4x64x64 : Shape := ⟨5, ![128, 2, 4, 64, 64]⟩
abbrev S2x4x128x64 : Shape := ⟨4, ![2, 4, 128, 64]⟩
abbrev S128x2x4x64 : Shape := ⟨4, ![128, 2, 4, 64]⟩
abbrev S64x64 : Shape := ⟨2, ![64, 64]⟩
abbrev S2x4x64x64 : Shape := ⟨4, ![2, 4, 64, 64]⟩
abbrev S2x4x64 : Shape := ⟨3, ![2, 4, 64]⟩
abbrev S2x4 : Shape := ⟨2, ![2, 4]⟩
abbrev S1x2x4x64x64 : Shape := ⟨5, ![1, 2, 4, 64, 64]⟩
abbrev S1x2x4x64 : Shape := ⟨4, ![1, 2, 4, 64]⟩
abbrev S2x4x64x1 : Shape := ⟨4, ![2, 4, 64, 1]⟩
abbrev S2x4x1x64 : Shape := ⟨4, ![2, 4, 1, 64]⟩
abbrev S2x4x1 : Shape := ⟨3, ![2, 4, 1]⟩
abbrev S2x4x1x1 : Shape := ⟨4, ![2, 4, 1, 1]⟩
abbrev S2x8192x4x1 : Shape := ⟨4, ![2, 8192, 4, 1]⟩
abbrev S1x1x256 : Shape := ⟨3, ![1, 1, 256]⟩
abbrev S16384x256 : Shape := ⟨2, ![16384, 256]⟩

abbrev nBuf : Space → Nat
  | .hbm => 256
  | .vmem => 0
  | .smem => 0
  | _ => 0

abbrev hbmTy0_0 (i : Nat) : BufTy := match i % 128 with
  | 0 => ⟨S2x8192x2252, .f32⟩
  | 1 => ⟨S2x8192x4x64, .f32⟩
  | 2 => ⟨S2x8192x4x64, .f32⟩
  | 3 => ⟨S4, .f32⟩
  | 4 => ⟨S4, .f32⟩
  | 5 => ⟨S256, .f32⟩
  | 6 => ⟨S2x8192x512, .f32⟩
  | 7 => ⟨S2x8192x512, .f32⟩
  | 8 => ⟨S2x8192x128, .f32⟩
  | 9 => ⟨S2x8192x256, .f32⟩
  | 10 => ⟨S2x8192x64, .f32⟩
  | 11 => ⟨S2x8192x4, .f32⟩
  | 12 => ⟨S2x8192x256, .f32⟩
  | 13 => ⟨S2x8192x256, .f32⟩
  | 14 => ⟨S2x8192x256, .f32⟩
  | 15 => ⟨S2x8192x4, .f32⟩
  | 16 => ⟨S2x8192x4, .f32⟩
  | 17 => ⟨S2x4x8192x64, .f32⟩
  | 18 => ⟨S2x4x8192x64, .f32⟩
  | 19 => ⟨S2x8192x4x64, .f32⟩
  | 20 => ⟨S2x4x8192x64, .f32⟩
  | 21 => ⟨S1x1x4, .f32⟩
  | 22 => ⟨S2x8192x4, .f32⟩
  | 23 => ⟨S2x8192x4, .f32⟩
  | 24 => ⟨S2x4x8192, .f32⟩
  | 25 => ⟨S1x1x4, .f32⟩
  | 26 => ⟨S2x8192x4, .f32⟩
  | 27 => ⟨S2x8192x4, .f32⟩
  | 28 => ⟨S2x4x8192, .f32⟩
  | 29 => ⟨S_, .f32⟩
  | 30 => ⟨S2x4x8192x64, .f32⟩
  | 31 => ⟨S2x4x8192x64, .f32⟩
  | 32 => ⟨S2x4x128x64x64, .f32⟩
  | 33 => ⟨S128x2x4x64x64, .f32⟩
  | 34 => ⟨S2x4x128x64x64, .f32⟩
  | 35 => ⟨S128x2x4x64x64, .f32⟩
  | 36 => ⟨S2x4x128x64x64, .f32⟩
  | 37 => ⟨S128x2x4x64x64, .f32⟩
  | 38 => ⟨S2x4x128x64, .f32⟩
  | 39 => ⟨S128x2x4x64, .f32⟩
  | 40 => ⟨S2x4x8192, .f32⟩
  | 41 => ⟨S_, .f32⟩
  | 42 => ⟨S2x4x8192, .f32⟩
  | 43 => ⟨S2x4x8192, .f32⟩
  | 44 => ⟨S2x4x8192, .f32⟩
  | 45 => ⟨S2x4x8192, .f32⟩
  | 46 => ⟨S2x4x8192, .i1⟩
  | 47 => ⟨S2x4x8192, .f32⟩
  | 48 => ⟨S2x4x8192, .f32⟩
  | 49 => ⟨S2x4x8192, .f32⟩
  | 50 => ⟨S2x4x8192, .f32⟩
  | 51 => ⟨S2x4x8192, .f32⟩
  | 52 => ⟨S2x4x8192, .f32⟩
  | 53 => ⟨S2x4x8192, .f32⟩
  | 54 => ⟨S2x4x8192, .f32⟩
  | 55 => ⟨S2x4x8192, .f32⟩
  | 56 => ⟨S2x4x128x64, .f32⟩
  | 57 => ⟨S128x2x4x64, .f32⟩
  | 58 => ⟨S_, .i1⟩
  | 59 => ⟨S64x64, .i1⟩
  | 60 => ⟨S64x64, .i32⟩
  | 61 => ⟨S_, .i32⟩
  | 62 => ⟨S64x64, .i32⟩
  | 63 => ⟨S64x64, .i32⟩
  | 64 => ⟨S64x64, .i32⟩
  | 65 => ⟨S64x64, .i1⟩
  | 66 => ⟨S_, .i1⟩
  | 67 => ⟨S64x64, .i1⟩
  | 68 => ⟨S64x64, .i1⟩
  | 69 => ⟨S_, .f32⟩
  | 70 => ⟨S2x4x64x64, .f32⟩
  | 71 => ⟨S_, .f32⟩
  | 72 => ⟨S2x4x64, .f32⟩
  | 73 => ⟨S_, .f32⟩
  | 74 => ⟨S2x4, .f32⟩
  | 75 => ⟨S_, .f32⟩
  | 76 => ⟨S128x2x4x64x64, .f32⟩
  | 77 => ⟨S_, .i32⟩
  | 78 => ⟨S128x2x4x64x64, .f32⟩
  | 79 => ⟨S128x2x4x64x64, .f32⟩
  | 80 => ⟨S128x2x4x64x64, .f32⟩
  | 81 => ⟨S128x2x4x64, .f32⟩
  | 82 => ⟨S128x2x4x64, .f32⟩
  | 83 => ⟨S64x64, .i1⟩
  | 84 => ⟨S_, .i32⟩
  | 85 => ⟨S2x4x64x64, .f32⟩
  | 86 => ⟨S2x4x64, .f32⟩
  | 87 => ⟨S2x4, .f32⟩
  | 88 => ⟨S128x2x4x64x64, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x2x4x64x64, .f32⟩
  | 96 => ⟨S2x4x64x64, .f32⟩
  | 97 => ⟨S_, .i32⟩
  | 98 => ⟨S_, .i32⟩
  | 99 => ⟨S_, .i32⟩
  | 100 => ⟨S_, .i32⟩
  | 101 => ⟨S1x2x4x64x64, .f32⟩
  | 102 => ⟨S2x4x64x64, .f32⟩
  | 103 => ⟨S_, .i32⟩
  | 104 => ⟨S_, .i32⟩
  | 105 => ⟨S_, .i32⟩
  | 106 => ⟨S_, .i32⟩
  | 107 => ⟨S1x2x4x64x64, .f32⟩
  | 108 => ⟨S2x4x64x64, .f32⟩
  | 109 => ⟨S_, .i32⟩
  | 110 => ⟨S_, .i32⟩
  | 111 => ⟨S_, .i32⟩
  | 112 => ⟨S1x2x4x64, .f32⟩
  | 113 => ⟨S2x4x64, .f32⟩
  | 114 => ⟨S_, .i32⟩
  | 115 => ⟨S_, .i32⟩
  | 116 => ⟨S_, .i32⟩
  | 117 => ⟨S1x2x4x64, .f32⟩
  | 118 => ⟨S2x4x64, .f32⟩
  | 119 => ⟨S_, .f32⟩
  | 120 => ⟨S_, .f32⟩
  | 121 => ⟨S2x4x64, .f32⟩
  | 122 => ⟨S2x4x64x1, .f32⟩
  | 123 => ⟨S2x4x1x64, .f32⟩
  | 124 => ⟨S2x4x64x64, .f32⟩
  | 125 => ⟨S2x4x64x64, .f32⟩
  | 126 => ⟨S2x4x64x64, .f32⟩
  | 127 => ⟨S2x4x1x64, .f32⟩
  | _ => ⟨S2x8192x2252, .f32⟩

abbrev hbmTy0_1 (i : Nat) : BufTy := match i % 128 with
  | 0 => ⟨S2x4x64x64, .f32⟩
  | 1 => ⟨S2x4x64x64, .f32⟩
  | 2 => ⟨S_, .f32⟩
  | 3 => ⟨S_, .f32⟩
  | 4 => ⟨S2x4x64x64, .i1⟩
  | 5 => ⟨S2x4x64x64, .f32⟩
  | 6 => ⟨S2x4x64x64, .f32⟩
  | 7 => ⟨S2x4x1, .f32⟩
  | 8 => ⟨S2x4x64, .f32⟩
  | 9 => ⟨S2x4x64, .f32⟩
  | 10 => ⟨S_, .f32⟩
  | 11 => ⟨S2x4x64, .f32⟩
  | 12 => ⟨S2x4x64, .f32⟩
  | 13 => ⟨S2x4x64, .f32⟩
  | 14 => ⟨S2x4x64, .f32⟩
  | 15 => ⟨S2x4x64x64, .f32⟩
  | 16 => ⟨S2x4x64x1, .f32⟩
  | 17 => ⟨S2x4x64x64, .f32⟩
  | 18 => ⟨S2x4x64x64, .f32⟩
  | 19 => ⟨S2x4x64x64, .f32⟩
  | 20 => ⟨S2x4x64x64, .f32⟩
  | 21 => ⟨S2x4x64x64, .f32⟩
  | 22 => ⟨S2x4x64x1, .f32⟩
  | 23 => ⟨S2x4x64x64, .f32⟩
  | 24 => ⟨S2x4x64x64, .f32⟩
  | 25 => ⟨S2x4x64x64, .f32⟩
  | 26 => ⟨S2x4x64x64, .f32⟩
  | 27 => ⟨S_, .f32⟩
  | 28 => ⟨S2x4x64, .f32⟩
  | 29 => ⟨S2x4x64, .f32⟩
  | 30 => ⟨S2x4x64, .f32⟩
  | 31 => ⟨S2x4x64, .f32⟩
  | 32 => ⟨S2x4x64, .f32⟩
  | 33 => ⟨S2x4x64, .f32⟩
  | 34 => ⟨S2x4x64, .f32⟩
  | 35 => ⟨S2x4x64, .f32⟩
  | 36 => ⟨S2x4x64x1, .f32⟩
  | 37 => ⟨S2x4x64x64, .f32⟩
  | 38 => ⟨S2x4x64x64, .f32⟩
  | 39 => ⟨S2x4x1, .f32⟩
  | 40 => ⟨S2x4, .f32⟩
  | 41 => ⟨S2x4x1, .f32⟩
  | 42 => ⟨S2x4x64, .f32⟩
  | 43 => ⟨S2x4x64, .f32⟩
  | 44 => ⟨S2x4x64, .f32⟩
  | 45 => ⟨S2x4, .f32⟩
  | 46 => ⟨S_, .f32⟩
  | 47 => ⟨S2x4, .f32⟩
  | 48 => ⟨S2x4, .f32⟩
  | 49 => ⟨S2x4, .f32⟩
  | 50 => ⟨S2x4, .f32⟩
  | 51 => ⟨S2x4, .f32⟩
  | 52 => ⟨S2x4x1, .f32⟩
  | 53 => ⟨S2x4x64, .f32⟩
  | 54 => ⟨S2x4x64, .f32⟩
  | 55 => ⟨S2x4x64, .f32⟩
  | 56 => ⟨S2x4x1x1, .f32⟩
  | 57 => ⟨S2x4x64x64, .f32⟩
  | 58 => ⟨S2x4x64x64, .f32⟩
  | 59 => ⟨S2x4x64x1, .f32⟩
  | 60 => ⟨S2x4x64x64, .f32⟩
  | 61 => ⟨S2x4x64x64, .f32⟩
  | 62 => ⟨S2x4x64x64, .f32⟩
  | 63 => ⟨S2x4x64x64, .f32⟩
  | 64 => ⟨S2x4x1, .f32⟩
  | 65 => ⟨S2x4x64, .f32⟩
  | 66 => ⟨S2x4x64, .f32⟩
  | 67 => ⟨S2x4x64, .f32⟩
  | 68 => ⟨S2x4x64, .f32⟩
  | 69 => ⟨S1x2x4x64x64, .f32⟩
  | 70 => ⟨S_, .i32⟩
  | 71 => ⟨S_, .i32⟩
  | 72 => ⟨S_, .i32⟩
  | 73 => ⟨S_, .i32⟩
  | 74 => ⟨S128x2x4x64x64, .f32⟩
  | 75 => ⟨S_, .i32⟩
  | 76 => ⟨S_, .i32⟩
  | 77 => ⟨S2x4x128x64x64, .f32⟩
  | 78 => ⟨S2x4x8192x64, .f32⟩
  | 79 => ⟨S2x8192x512, .f32⟩
  | 80 => ⟨S2x8192x512, .f32⟩
  | 81 => ⟨S2x8192x128, .f32⟩
  | 82 => ⟨S2x8192x256, .f32⟩
  | 83 => ⟨S2x8192x64, .f32⟩
  | 84 => ⟨S2x8192x4, .f32⟩
  | 85 => ⟨S2x8192x256, .f32⟩
  | 86 => ⟨S2x8192x256, .f32⟩
  | 87 => ⟨S2x8192x256, .f32⟩
  | 88 => ⟨S2x8192x4, .f32⟩
  | 89 => ⟨S2x8192x4, .f32⟩
  | 90 => ⟨S2x8192x4x64, .f32⟩
  | 91 => ⟨S_, .f32⟩
  | 92 => ⟨S2x8192x4, .f32⟩
  | 93 => ⟨S2x8192x4x1, .f32⟩
  | 94 => ⟨S_, .f32⟩
  | 95 => ⟨S2x8192x4x1, .f32⟩
  | 96 => ⟨S2x8192x4x1, .f32⟩
  | 97 => ⟨S2x8192x4x64, .f32⟩
  | 98 => ⟨S2x8192x4x64, .f32⟩
  | 99 => ⟨S2x8192x4x64, .f32⟩
  | 100 => ⟨S_, .f32⟩
  | 101 => ⟨S2x8192x4, .f32⟩
  | 102 => ⟨S2x8192x4x1, .f32⟩
  | 103 => ⟨S_, .f32⟩
  | 104 => ⟨S2x8192x4x1, .f32⟩
  | 105 => ⟨S2x8192x4x1, .f32⟩
  | 106 => ⟨S2x8192x4x64, .f32⟩
  | 107 => ⟨S2x8192x4x64, .f32⟩
  | 108 => ⟨S_, .f32⟩
  | 109 => ⟨S2x8192x4x1, .f32⟩
  | 110 => ⟨S2x8192x4x1, .f32⟩
  | 111 => ⟨S2x8192x4x1, .f32⟩
  | 112 => ⟨S2x8192x4x64, .f32⟩
  | 113 => ⟨S2x8192x4x64, .f32⟩
  | 114 => ⟨S2x8192x256, .f32⟩
  | 115 => ⟨S1x1x256, .f32⟩
  | 116 => ⟨S2x8192x256, .f32⟩
  | 117 => ⟨S2x8192x256, .f32⟩
  | 118 => ⟨S2x8192x256, .f32⟩
  | 119 => ⟨S2x8192x256, .f32⟩
  | 120 => ⟨S_, .f32⟩
  | 121 => ⟨S2x8192x256, .f32⟩
  | 122 => ⟨S2x8192x256, .f32⟩
  | 123 => ⟨S_, .f32⟩
  | 124 => ⟨S2x8192x256, .f32⟩
  | 125 => ⟨S2x8192x256, .f32⟩
  | 126 => ⟨S2x8192x256, .f32⟩
  | 127 => ⟨S16384x256, .f32⟩
  | _ => ⟨S2x8192x2252, .f32⟩

abbrev hbmTy (i : Nat) : BufTy := match i / 128 with
  | 0 => hbmTy0_0 i
  | 1 => hbmTy0_1 i
  | _ => ⟨S2x8192x2252, .f32⟩

abbrev bufTy : (tb : Table) → Fin (tcTables nBuf tb) → BufTy
  | .hbm, ⟨i, _⟩ => hbmTy i
  | _, _ => ⟨S2x8192x2252, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c : Ref sig .tc := ⟨.hbm, 58, rfl⟩
abbrev main_v38 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_0 : Ref sig .tc := ⟨.hbm, 66, rfl⟩
abbrev main_call1_v5 : Ref sig .tc := ⟨.hbm, 67, rfl⟩
abbrev main_v39 : Ref sig .tc := ⟨.hbm, 68, rfl⟩
abbrev main_cst_0 : Ref sig .tc := ⟨.hbm, 69, rfl⟩
abbrev main_v40 : Ref sig .tc := ⟨.hbm, 70, rfl⟩
abbrev main_cst_1 : Ref sig .tc := ⟨.hbm, 71, rfl⟩
abbrev main_v41 : Ref sig .tc := ⟨.hbm, 72, rfl⟩
abbrev main_cst_2 : Ref sig .tc := ⟨.hbm, 73, rfl⟩
abbrev main_v42 : Ref sig .tc := ⟨.hbm, 74, rfl⟩
abbrev main_cst_3 : Ref sig .tc := ⟨.hbm, 75, rfl⟩
abbrev main_v43 : Ref sig .tc := ⟨.hbm, 76, rfl⟩
abbrev main_c_4 : Ref sig .tc := ⟨.hbm, 77, rfl⟩
abbrev main_v44_0 : Ref sig .tc := ⟨.hbm, 78, rfl⟩
abbrev main_v44_1 : Ref sig .tc := ⟨.hbm, 79, rfl⟩
abbrev main_v44_2 : Ref sig .tc := ⟨.hbm, 80, rfl⟩
abbrev main_v44_3 : Ref sig .tc := ⟨.hbm, 81, rfl⟩
abbrev main_v44_4 : Ref sig .tc := ⟨.hbm, 82, rfl⟩
abbrev main_v44_5 : Ref sig .tc := ⟨.hbm, 83, rfl⟩
abbrev main_v44_6 : Ref sig .tc := ⟨.hbm, 84, rfl⟩
abbrev main_v44_7 : Ref sig .tc := ⟨.hbm, 85, rfl⟩
abbrev main_v44_8 : Ref sig .tc := ⟨.hbm, 86, rfl⟩
abbrev main_v44_9 : Ref sig .tc := ⟨.hbm, 87, rfl⟩
abbrev main_v44_10 : Ref sig .tc := ⟨.hbm, 88, rfl⟩
abbrev main_while0c_c_22 : Ref sig .tc := ⟨.hbm, 89, rfl⟩
abbrev main_while0c_v89 : Ref sig .tc := ⟨.hbm, 90, rfl⟩
abbrev main_while0b_call2_c : Ref sig .tc := ⟨.hbm, 91, rfl⟩
abbrev main_while0b_call2_c_0 : Ref sig .tc := ⟨.hbm, 92, rfl⟩
abbrev main_while0b_call2_c_1 : Ref sig .tc := ⟨.hbm, 93, rfl⟩
abbrev main_while0b_call2_c_2 : Ref sig .tc := ⟨.hbm, 94, rfl⟩
abbrev main_while0b_call2_v0 : Ref sig .tc := ⟨.hbm, 95, rfl⟩
abbrev main_while0b_v89 : Ref sig .tc := ⟨.hbm, 96, rfl⟩
abbrev main_while0b_call3_c : Ref sig .tc := ⟨.hbm, 97, rfl⟩
abbrev main_while0b_call3_c_0 : Ref sig .tc := ⟨.hbm, 98, rfl⟩
abbrev main_while0b_call3_c_1 : Ref sig .tc := ⟨.hbm, 99, rfl⟩
abbrev main_while0b_call3_c_2 : Ref sig .tc := ⟨.hbm, 100, rfl⟩
abbrev main_while0b_call3_v0 : Ref sig .tc := ⟨.hbm, 101, rfl⟩
abbrev main_while0b_v90 : Ref sig .tc := ⟨.hbm, 102, rfl⟩
abbrev main_while0b_call4_c : Ref sig .tc := ⟨.hbm, 103, rfl⟩
abbrev main_while0b_call4_c_0 : Ref sig .tc := ⟨.hbm, 104, rfl⟩
abbrev main_while0b_call4_c_1 : Ref sig .tc := ⟨.hbm, 105, rfl⟩
abbrev main_while0b_call4_c_2 : Ref sig .tc := ⟨.hbm, 106, rfl⟩
abbrev main_while0b_call4_v0 : Ref sig .tc := ⟨.hbm, 107, rfl⟩
abbrev main_while0b_v91 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_v0 : Ref sig .tc := ⟨.hbm, 112, rfl⟩
abbrev main_while0b_v92 : Ref sig .tc := ⟨.hbm, 113, rfl⟩
abbrev main_while0b_call6_c : Ref sig .tc := ⟨.hbm, 114, rfl⟩
abbrev main_while0b_call6_c_0 : Ref sig .tc := ⟨.hbm, 115, rfl⟩
abbrev main_while0b_call6_c_1 : Ref sig .tc := ⟨.hbm, 116, rfl⟩
abbrev main_while0b_call6_v0 : Ref sig .tc := ⟨.hbm, 117, rfl⟩
abbrev main_while0b_v93 : Ref sig .tc := ⟨.hbm, 118, rfl⟩
abbrev main_while0b_call7_call0_cst : Ref sig .tc := ⟨.hbm, 119, rfl⟩
abbrev main_while0b_call7_call0_v0 : Ref sig .tc := ⟨.hbm, 120, rfl⟩
abbrev main_while0b_v94 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_v99 : Ref sig .tc := ⟨.hbm, 126, rfl⟩
abbrev main_while0b_v100 : Ref sig .tc := ⟨.hbm, 127, rfl⟩
abbrev main_while0b_v101 : Ref sig .tc := ⟨.hbm, 128, rfl⟩
abbrev main_while0b_v102 : Ref sig .tc := ⟨.hbm, 129, rfl⟩
abbrev main_while0b_cst_22 : Ref sig .tc := ⟨.hbm, 130, rfl⟩
abbrev main_while0b_call8_v0 : Ref sig .tc := ⟨.hbm, 131, rfl⟩
abbrev main_while0b_call8_v1 : Ref sig .tc := ⟨.hbm, 132, rfl⟩
abbrev main_while0b_call8_v2 : Ref sig .tc := ⟨.hbm, 133, rfl⟩
abbrev main_while0b_v103 : Ref sig .tc := ⟨.hbm, 134, rfl⟩
abbrev main_while0b_v104 : Ref sig .tc := ⟨.hbm, 135, rfl⟩
abbrev main_while0b_v105 : Ref sig .tc := ⟨.hbm, 136, rfl⟩
abbrev main_while0b_v106 : Ref sig .tc := ⟨.hbm, 137, rfl⟩
abbrev main_while0b_cst_23 : Ref sig .tc := ⟨.hbm, 138, rfl⟩
abbrev main_while0b_v107 : Ref sig .tc := ⟨.hbm, 139, rfl⟩
abbrev main_while0b_v108 : Ref sig .tc := ⟨.hbm, 140, rfl⟩
abbrev main_while0b_v109 : Ref sig .tc := ⟨.hbm, 141, rfl⟩
abbrev main_while0b_v110 : Ref sig .tc := ⟨.hbm, 142, rfl⟩
abbrev main_while0b_v111 : Ref sig .tc := ⟨.hbm, 143, rfl⟩
abbrev main_while0b_v112 : Ref sig .tc := ⟨.hbm, 144, rfl⟩
abbrev main_while0b_v113 : Ref sig .tc := ⟨.hbm, 145, rfl⟩
abbrev main_while0b_v114 : Ref sig .tc := ⟨.hbm, 146, rfl⟩
abbrev main_while0b_v115 : Ref sig .tc := ⟨.hbm, 147, rfl⟩
abbrev main_while0b_v116 : Ref sig .tc := ⟨.hbm, 148, rfl⟩
abbrev main_while0b_v117 : Ref sig .tc := ⟨.hbm, 149, rfl⟩
abbrev main_while0b_v118 : Ref sig .tc := ⟨.hbm, 150, rfl⟩
abbrev main_while0b_v119 : Ref sig .tc := ⟨.hbm, 151, rfl⟩
abbrev main_while0b_v120 : Ref sig .tc := ⟨.hbm, 152, rfl⟩
abbrev main_while0b_v121 : Ref sig .tc := ⟨.hbm, 153, rfl⟩
abbrev main_while0b_v122 : Ref sig .tc := ⟨.hbm, 154, rfl⟩
abbrev main_while0b_cst_24 : Ref sig .tc := ⟨.hbm, 155, rfl⟩
abbrev main_while0b_v123 : Ref sig .tc := ⟨.hbm, 156, rfl⟩
abbrev main_while0b_v124 : Ref sig .tc := ⟨.hbm, 157, rfl⟩
abbrev main_while0b_v125 : Ref sig .tc := ⟨.hbm, 158, rfl⟩
abbrev main_while0b_v126 : Ref sig .tc := ⟨.hbm, 159, rfl⟩
abbrev main_while0b_v127 : Ref sig .tc := ⟨.hbm, 160, rfl⟩
abbrev main_while0b_v128 : Ref sig .tc := ⟨.hbm, 161, rfl⟩
abbrev main_while0b_v129 : Ref sig .tc := ⟨.hbm, 162, rfl⟩
abbrev main_while0b_v130 : Ref sig .tc := ⟨.hbm, 163, rfl⟩
abbrev main_while0b_v131 : Ref sig .tc := ⟨.hbm, 164, rfl⟩
abbrev main_while0b_v132 : Ref sig .tc := ⟨.hbm, 165, rfl⟩
abbrev main_while0b_v133 : Ref sig .tc := ⟨.hbm, 166, rfl⟩
abbrev main_while0b_v134 : Ref sig .tc := ⟨.hbm, 167, rfl⟩
abbrev main_while0b_v135 : Ref sig .tc := ⟨.hbm, 168, rfl⟩
abbrev main_while0b_v136 : Ref sig .tc := ⟨.hbm, 169, rfl⟩
abbrev main_while0b_v137 : Ref sig .tc := ⟨.hbm, 170, rfl⟩
abbrev main_while0b_v138 : Ref sig .tc := ⟨.hbm, 171, rfl⟩
abbrev main_while0b_v139 : Ref sig .tc := ⟨.hbm, 172, rfl⟩
abbrev main_while0b_v140 : Ref sig .tc := ⟨.hbm, 173, rfl⟩
abbrev main_while0b_cst_25 : Ref sig .tc := ⟨.hbm, 174, rfl⟩
abbrev main_while0b_v141 : Ref sig .tc := ⟨.hbm, 175, rfl⟩
abbrev main_while0b_v142 : Ref sig .tc := ⟨.hbm, 176, rfl⟩
abbrev main_while0b_v143 : Ref sig .tc := ⟨.hbm, 177, rfl⟩
abbrev main_while0b_v144 : Ref sig .tc := ⟨.hbm, 178, rfl⟩
abbrev main_while0b_v145 : Ref sig .tc := ⟨.hbm, 179, rfl⟩
abbrev main_while0b_v146 : Ref sig .tc := ⟨.hbm, 180, rfl⟩
abbrev main_while0b_v147 : Ref sig .tc := ⟨.hbm, 181, rfl⟩
abbrev main_while0b_v148 : Ref sig .tc := ⟨.hbm, 182, rfl⟩
abbrev main_while0b_v149 : Ref sig .tc := ⟨.hbm, 183, rfl⟩
abbrev main_while0b_v150 : Ref sig .tc := ⟨.hbm, 184, rfl⟩
abbrev main_while0b_v151 : Ref sig .tc := ⟨.hbm, 185, rfl⟩
abbrev main_while0b_v152 : Ref sig .tc := ⟨.hbm, 186, rfl⟩
abbrev main_while0b_v153 : Ref sig .tc := ⟨.hbm, 187, rfl⟩
abbrev main_while0b_v154 : Ref sig .tc := ⟨.hbm, 188, rfl⟩
abbrev main_while0b_v155 : Ref sig .tc := ⟨.hbm, 189, rfl⟩
abbrev main_while0b_v156 : Ref sig .tc := ⟨.hbm, 190, rfl⟩
abbrev main_while0b_v157 : Ref sig .tc := ⟨.hbm, 191, rfl⟩
abbrev main_while0b_v158 : Ref sig .tc := ⟨.hbm, 192, rfl⟩
abbrev main_while0b_v159 : Ref sig .tc := ⟨.hbm, 193, rfl⟩
abbrev main_while0b_v160 : Ref sig .tc := ⟨.hbm, 194, rfl⟩
abbrev main_while0b_v161 : Ref sig .tc := ⟨.hbm, 195, rfl⟩
abbrev main_while0b_v162 : Ref sig .tc := ⟨.hbm, 196, rfl⟩
abbrev main_while0b_call9_v0 : Ref sig .tc := ⟨.hbm, 197, rfl⟩
abbrev main_while0b_call9_c : Ref sig .tc := ⟨.hbm, 198, rfl⟩
abbrev main_while0b_call9_c_0 : Ref sig .tc := ⟨.hbm, 199, rfl⟩
abbrev main_while0b_call9_c_1 : Ref sig .tc := ⟨.hbm, 200, rfl⟩
abbrev main_while0b_call9_c_2 : Ref sig .tc := ⟨.hbm, 201, rfl⟩
abbrev main_while0b_v163 : Ref sig .tc := ⟨.hbm, 202, rfl⟩
abbrev main_while0b_c_26 : Ref sig .tc := ⟨.hbm, 203, rfl⟩
abbrev main_while0b_v164 : Ref sig .tc := ⟨.hbm, 204, rfl⟩
abbrev main_v45 : Ref sig .tc := ⟨.hbm, 205, rfl⟩
abbrev main_v46 : Ref sig .tc := ⟨.hbm, 206, rfl⟩
abbrev main_v47 : Ref sig .tc := ⟨.hbm, 207, rfl⟩
abbrev main_v48 : Ref sig .tc := ⟨.hbm, 208, rfl⟩
abbrev main_v49 : Ref sig .tc := ⟨.hbm, 209, rfl⟩
abbrev main_v50 : Ref sig .tc := ⟨.hbm, 210, rfl⟩
abbrev main_v51 : Ref sig .tc := ⟨.hbm, 211, rfl⟩
abbrev main_v52 : Ref sig .tc := ⟨.hbm, 212, rfl⟩
abbrev main_v53 : Ref sig .tc := ⟨.hbm, 213, rfl⟩
abbrev main_v54 : Ref sig .tc := ⟨.hbm, 214, rfl⟩
abbrev main_v55 : Ref sig .tc := ⟨.hbm, 215, rfl⟩
abbrev main_v56 : Ref sig .tc := ⟨.hbm, 216, rfl⟩
abbrev main_v57 : Ref sig .tc := ⟨.hbm, 217, rfl⟩
abbrev main_v58 : Ref sig .tc := ⟨.hbm, 218, rfl⟩
abbrev main_cst_5 : Ref sig .tc := ⟨.hbm, 219, rfl⟩
abbrev main_v59 : Ref sig .tc := ⟨.hbm, 220, rfl⟩
abbrev main_v60 : Ref sig .tc := ⟨.hbm, 221, rfl⟩
abbrev main_cst_6 : Ref sig .tc := ⟨.hbm, 222, rfl⟩
abbrev main_v61 : Ref sig .tc := ⟨.hbm, 223, rfl⟩
abbrev main_v62 : Ref sig .tc := ⟨.hbm, 224, rfl⟩
abbrev main_v63 : Ref sig .tc := ⟨.hbm, 225, rfl⟩
abbrev main_v64 : Ref sig .tc := ⟨.hbm, 226, rfl⟩
abbrev main_v65 : Ref sig .tc := ⟨.hbm, 227, rfl⟩
abbrev main_cst_7 : Ref sig .tc := ⟨.hbm, 228, rfl⟩
abbrev main_v66 : Ref sig .tc := ⟨.hbm, 229, rfl⟩
abbrev main_v67 : Ref sig .tc := ⟨.hbm, 230, rfl⟩
abbrev main_cst_8 : Ref sig .tc := ⟨.hbm, 231, rfl⟩
abbrev main_v68 : Ref sig .tc := ⟨.hbm, 232, rfl⟩
abbrev main_v69 : Ref sig .tc := ⟨.hbm, 233, rfl⟩
abbrev main_v70 : Ref sig .tc := ⟨.hbm, 234, rfl⟩
abbrev main_v71 : Ref sig .tc := ⟨.hbm, 235, rfl⟩
abbrev main_cst_9 : Ref sig .tc := ⟨.hbm, 236, rfl⟩
abbrev main_v72 : Ref sig .tc := ⟨.hbm, 237, rfl⟩
abbrev main_v73 : Ref sig .tc := ⟨.hbm, 238, rfl⟩
abbrev main_v74 : Ref sig .tc := ⟨.hbm, 239, rfl⟩
abbrev main_v75 : Ref sig .tc := ⟨.hbm, 240, rfl⟩
abbrev main_v76 : Ref sig .tc := ⟨.hbm, 241, rfl⟩
abbrev main_v77 : Ref sig .tc := ⟨.hbm, 242, rfl⟩
abbrev main_v78 : Ref sig .tc := ⟨.hbm, 243, rfl⟩
abbrev main_v79 : Ref sig .tc := ⟨.hbm, 244, rfl⟩
abbrev main_v80 : Ref sig .tc := ⟨.hbm, 245, rfl⟩
abbrev main_v81 : Ref sig .tc := ⟨.hbm, 246, rfl⟩
abbrev main_v82 : Ref sig .tc := ⟨.hbm, 247, rfl⟩
abbrev main_cst_10 : Ref sig .tc := ⟨.hbm, 248, rfl⟩
abbrev main_v83 : Ref sig .tc := ⟨.hbm, 249, rfl⟩
abbrev main_v84 : Ref sig .tc := ⟨.hbm, 250, rfl⟩
abbrev main_cst_11 : Ref sig .tc := ⟨.hbm, 251, rfl⟩
abbrev main_v85 : Ref sig .tc := ⟨.hbm, 252, rfl⟩
abbrev main_v86 : Ref sig .tc := ⟨.hbm, 253, rfl⟩
abbrev main_v87 : Ref sig .tc := ⟨.hbm, 254, rfl⟩
abbrev main_v88 : Ref sig .tc := ⟨.hbm, 255, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x8192x1024 : Shape := ⟨3, ![2, 8192, 1024]⟩
abbrev S2x256x2048 : Shape := ⟨3, ![2, 256, 2048]⟩
abbrev S1024x1024 : Shape := ⟨2, ![1024, 1024]⟩
abbrev S1024 : Shape := ⟨1, ![1024]⟩
abbrev S16384x1024 : Shape := ⟨2, ![16384, 1024]⟩
abbrev S512x2048 : Shape := ⟨2, ![512, 2048]⟩
abbrev S1x1024 : Shape := ⟨2, ![1, 1024]⟩
abbrev S512x1024 : Shape := ⟨2, ![512, 1024]⟩
abbrev S256x2048 : Shape := ⟨2, ![256, 2048]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x256x2048, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S512x2048, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S256x2048, .f32⟩
  | .local _ .vmem, ⟨3, _⟩ => ⟨S256x2048, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x8192x1024 : Shape := ⟨3, ![2, 8192, 1024]⟩
abbrev S2x256x2048 : Shape := ⟨3, ![2, 256, 2048]⟩
abbrev S1024x1024 : Shape := ⟨2, ![1024, 1024]⟩
abbrev S1024 : Shape := ⟨1, ![1024]⟩
abbrev S2x8192x4x256 : Shape := ⟨4, ![2, 8192, 4, 256]⟩
abbrev S2x256x1024 : Shape := ⟨3, ![2, 256, 1024]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x256x2048, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S2x8192x1024, .f32⟩
  | .hbm, ⟨7, _⟩ => ⟨S2x8192x4x256, .f32⟩
  | .hbm, ⟨8, _⟩ => ⟨S2x256x1024, .f32⟩
  | .hbm, ⟨9, _⟩ => ⟨S2x256x1024, .f32⟩
  | .hbm, ⟨10, _⟩ => ⟨S2x256x4x256, .f32⟩
  | .hbm, ⟨11, _⟩ => ⟨S2x256x4x256, .f32⟩
  | .hbm, ⟨12, _⟩ => ⟨S2x4x8192x256, .f32⟩
  | .hbm, ⟨13, _⟩ => ⟨S_, .f32⟩
  | .hbm, ⟨14, _⟩ => ⟨S2x4x8192x256, .f32⟩
  | .hbm, ⟨15, _⟩ => ⟨S2x4x8192x256, .f32⟩
  | .hbm, ⟨16, _⟩ => ⟨S_, .f32⟩
  | .hbm, ⟨17, _⟩ => ⟨S2x4x8192, .f32⟩
  | .hbm, ⟨18, _⟩ => ⟨S_, .f32⟩
  | .hbm, ⟨19, _⟩ => ⟨S2x4x8192, .f32⟩
  | .hbm, ⟨20, _⟩ => ⟨S2x4x8192, .f32⟩
  | .hbm, ⟨21, _⟩ => ⟨S2x4x8192x1, .f32⟩
  | .hbm, ⟨22, _⟩ => ⟨S2x4x8192x256, .f32⟩
  | .hbm, ⟨23, _⟩ => ⟨S2x4x8192x256, .f32⟩
  | .hbm, ⟨24, _⟩ => ⟨S2x4x8192x256, .f32⟩
  | .hbm, ⟨25, _⟩ => ⟨S_, .f32⟩
  | .hbm, ⟨26, _⟩ => ⟨S2x4x8192, .f32⟩
  | .hbm, ⟨27, _⟩ => ⟨S2x4x8192x1, .f32⟩
  | .hbm, ⟨28, _⟩ => ⟨S2x4x8192x256, .f32⟩
  | .hbm, ⟨29, _⟩ => ⟨S2x4x8192x256, .f32⟩
  | .hbm, ⟨30, _⟩ => ⟨S2x4x256x8192, .f32⟩
  | .hbm, ⟨31, _⟩ => ⟨S2x8192x4x256, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1024, .f32⟩
  | .hbm, ⟨54, _⟩ => ⟨S2x8192x1024, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x1024, .f32⟩
  | .hbm, ⟨60, _⟩ => ⟨S2x8192x1024, .f32⟩
  | .hbm, ⟨61, _⟩ => ⟨S1x1x1024, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x2252 : Shape := ⟨2, ![1024, 2252]⟩
abbrev S1024x512 : Shape := ⟨2, ![1024, 512]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x1920 : Shape := ⟨2, ![1024, 1920]⟩
abbrev S_ : Shape := ⟨0, ![]⟩
abbrev S1024x44 : Shape := ⟨2, ![1024, 44]⟩
abbrev S1024x384 : Shape := ⟨2, ![1024, 384]⟩
abbrev S16384x1024 : Shape := ⟨2, ![16384, 1024]⟩
abbrev S16384x1920 : Shape := ⟨2, ![16384, 1920]⟩
abbrev S512x1024 : Shape := ⟨2, ![512, 1024]⟩
abbrev S512x1920 : Shape := ⟨2, ![512, 1920]⟩

abbrev nBuf : Space → Nat
  | .hbm => 24
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x2252, .f32⟩
  | .hbm, ⟨2, _⟩ => ⟨S1024x512, .f32⟩
  | .hbm, ⟨3, _⟩ => ⟨S1024x512, .f32⟩
  | .hbm, ⟨4, _⟩ => ⟨S1024x128, .f32⟩
  | .hbm, ⟨5, _⟩ => ⟨S1024x256, .f32⟩
  | .hbm, ⟨6, _⟩ => ⟨S1024x64, .f32⟩
  | .hbm, ⟨7, _⟩ => ⟨S1024x4, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x4, .f32⟩
  | .hbm, ⟨12, _⟩ => ⟨S1024x4, .f32⟩
  | .hbm, ⟨13, _⟩ => ⟨S1024x1920, .f32⟩
  | .hbm, ⟨14, _⟩ => ⟨S_, .f32⟩
  | .hbm, ⟨15, _⟩ => ⟨S1024x4, .f32⟩
  | .hbm, ⟨16, _⟩ => ⟨S_, .f32⟩
  | .hbm, ⟨17, _⟩ => ⟨S1024x4, .f32⟩
  | .hbm, ⟨18, _⟩ => ⟨S_, .f32⟩
  | .hbm, ⟨19, _⟩ => ⟨S1024x44, .f32⟩
  | .hbm, ⟨20, _⟩ => ⟨S1024x384, .f32⟩
  | .hbm, ⟨21, _⟩ => ⟨S16384x1024, .f32⟩
  | .hbm, ⟨22, _⟩ => ⟨S1024x1920, .bf16⟩
  | .hbm, ⟨23, _⟩ => ⟨S16384x1920, .f32⟩
  | .local _ .vmem, ⟨0, _⟩ => ⟨S512x1024, .f32⟩
  | .local _ .vmem, ⟨1, _⟩ => ⟨S512x1024, .f32⟩
  | .local _ .vmem, ⟨2, _⟩ => ⟨S1024x1920, .bf16⟩
  | .local _ .vmem, ⟨3, _⟩ => ⟨S512x1920, .f32⟩
  | .local _ .vmem, ⟨4, _⟩ => ⟨S512x1920, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x8192x1024 : Shape := ⟨3, ![2, 8192, 1024]⟩
abbrev S1024x2252 : Shape := ⟨2, ![1024, 2252]⟩
abbrev S2x8192x2252 : Shape := ⟨3, ![2, 8192, 2252]⟩
abbrev S2x8192x512 : Shape := ⟨3, ![2, 8192, 512]⟩
abbrev S2x8192x128 : Shape := ⟨3, ![2, 8192, 128]⟩
abbrev S2x8192x256 : Shape := ⟨3, ![2, 8192, 256]⟩
abbrev S2x8192x64 : Shape := ⟨3, ![2, 8192, 64]⟩
abbrev S2x8192x4 : Shape := ⟨3, ![2, 8192, 4]⟩
abbrev S2x8192x1920 : Shape := ⟨3, ![2, 8192, 1920]⟩
abbrev S16384x1920 : Shape := ⟨2, ![16384, 1920]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x2252, .f32⟩
  | .hbm, ⟨2, _⟩ => ⟨S2x8192x2252, .f32⟩
  | .hbm, ⟨3, _⟩ => ⟨S2x8192x512, .f32⟩
  | .hbm, ⟨4, _⟩ => ⟨S2x8192x512, .f32⟩
  | .hbm, ⟨5, _⟩ => ⟨S2x8192x128, .f32⟩
  | .hbm, ⟨6, _⟩ => ⟨S2x8192x256, .f32⟩
  | .hbm, ⟨7, _⟩ => ⟨S2x8192x64, .f32⟩
  | .hbm, ⟨8, _⟩ => ⟨S2x8192x4, .f32⟩
  | .hbm, ⟨9, _⟩ => ⟨S2x8192x256, .f32⟩
  | .hbm, ⟨10, _⟩ => ⟨S2x8192x256, .f32⟩
  | .hbm, ⟨11, _⟩ => ⟨S2x8192x256, .f32⟩
  | .hbm, ⟨12, _⟩ => ⟨S2x8192x4, .f32⟩
  | .hbm, ⟨13, _⟩ => ⟨S2x8192x4, .f32⟩
  | .hbm, ⟨14, _⟩ => ⟨S2x8192x1920, .f32⟩
  | .hbm, ⟨15, _⟩ => ⟨S16384x1920, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel4.lean ====
abbrev S2x8192x256 : Shape := ⟨3, ![2, 8192, 256]⟩
abbrev S2x8192x512 : Shape := ⟨3, ![2, 8192, 512]⟩
abbrev S2x8192x1024 : Shape := ⟨3, ![2, 8192, 1024]⟩
abbrev S1024x1024 : Shape := ⟨2, ![1024, 1024]⟩
abbrev S1024 : Shape := ⟨1, ![1024]⟩
abbrev S16384x256 : Shape := ⟨2, ![16384, 256]⟩
abbrev S16384x512 : Shape := ⟨2, ![16384, 512]⟩
abbrev S16384x1024 : Shape := ⟨2, ![16384, 1024]⟩
abbrev S256x1024 : Shape := ⟨2, ![256, 1024]⟩
abbrev S512x1024 : Shape := ⟨2, ![512, 1024]⟩
abbrev S1x1024 : Shape := ⟨2, ![1, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S2x8192x256, .f32⟩
  | .hbm, ⟨1, _⟩ => ⟨S2x8192x512, .f32⟩
  | .hbm, ⟨2, _⟩ => ⟨S2x8192x256, .f32⟩
  | .hbm, ⟨3, _⟩ => ⟨S2x8192x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16384x256, .f32⟩
  | .hbm, ⟨8, _⟩ => ⟨S16384x512, .f32⟩
  | .hbm, ⟨9, _⟩ => ⟨S16384x256, .f32⟩
  | .hbm, ⟨10, _⟩ => ⟨S16384x1024, .f32⟩
  | .hbm, ⟨11, _⟩ => ⟨S1024x1024, .bf16⟩
  | .hbm, ⟨12, _⟩ => ⟨S256x1024, .bf16⟩
  | .hbm, ⟨13, _⟩ => ⟨S512x1024, .bf16⟩
  | .hbm, ⟨14, _⟩ => ⟨S256x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S256x1024, .bf16⟩
  | .local _ .vmem, ⟨9, _⟩ => ⟨S512x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S2x8192x256 : Shape := ⟨3, ![2, 8192, 256]⟩
abbrev S2x8192x512 : Shape := ⟨3, ![2, 8192, 512]⟩
abbrev S2x8192x1024 : Shape := ⟨3, ![2, 8192, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S2x8192x512, .f32⟩
  | .hbm, ⟨2, _⟩ => ⟨S2x8192x256, .f32⟩
  | .hbm, ⟨3, _⟩ => ⟨S2x8192x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x8192, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S16384x1024, .f32⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel5.lean ====
abbrev S2x256x1024 : Shape := ⟨3, ![2, 256, 1024]⟩
abbrev S1024x2048 : Shape := ⟨2, ![1024, 2048]⟩
abbrev S512x1024 : Shape := ⟨2, ![512, 1024]⟩
abbrev S512x2048 : Shape := ⟨2, ![512, 2048]⟩
abbrev S1024x512 : Shape := ⟨2, ![1024, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2x256x1024, .f32⟩
  | .hbm, ⟨1, _⟩ => ⟨S1024x2048, .f32⟩
  | .hbm, ⟨2, _⟩ => ⟨S512x1024, .f32⟩
  | .hbm, ⟨3, _⟩ => ⟨S1024x2048, .bf16⟩
  | .hbm, ⟨4, _⟩ => ⟨S512x2048, .f32⟩
  | .local _ .vmem, ⟨0, _⟩ => ⟨S512x1024, .f32⟩
  | .local _ .vmem, ⟨1, _⟩ => ⟨S1024x512, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x256x1024 : Shape := ⟨3, ![2, 256, 1024]⟩
abbrev S1024x2048 : Shape := ⟨2, ![1024, 2048]⟩
abbrev S2x256x2048 : Shape := ⟨3, ![2, 256, 2048]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x2048, .f32⟩
  | .hbm, ⟨2, _⟩ => ⟨S2x256x2048, .f32⟩
  | .hbm, ⟨3, _⟩ => ⟨S512x2048, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024x2048 : Shape := ⟨2, ![1024, 2048]⟩
abbrev S128x128 : Shape := ⟨2, ![128, 128]⟩
abbrev S16384x1024 : Shape := ⟨2, ![16384, 1024]⟩
abbrev S16x128x16384 : Shape := ⟨3, ![16, 128, 16384]⟩
abbrev S512x1024 : Shape := ⟨2, ![512, 1024]⟩
abbrev S16x128x512 : Shape := ⟨3, ![16, 128, 512]⟩
abbrev S512x2048 : Shape := ⟨2, ![512, 2048]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 15
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024x2048, .f32⟩
  | .hbm, ⟨2, _⟩ => ⟨S128x128, .f32⟩
  | .hbm, ⟨3, _⟩ => ⟨S128x128, .f32⟩
  | .hbm, ⟨4, _⟩ => ⟨S16384x1024, .f32⟩
  | .hbm, ⟨5, _⟩ => ⟨S1024x2048, .bf16⟩
  | .hbm, ⟨6, _⟩ => ⟨S128x128, .bf16⟩
  | .hbm, ⟨7, _⟩ => ⟨S128x128, .f32⟩
  | .hbm, ⟨8, _⟩ => ⟨S128x128, .f32⟩
  | .hbm, ⟨9, _⟩ => ⟨S128x128, .bf16⟩
  | .hbm, ⟨10, _⟩ => ⟨S128x128, .bf16⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S16x128x16384, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S16x128x512, .f32⟩
  | .local _ .vmem, ⟨8, _⟩ => ⟨S16x128x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2x8192x1024 : Shape := ⟨3, ![2, 8192, 1024]⟩
abbrev S1024x2048 : Shape := ⟨2, ![1024, 2048]⟩
abbrev S128x128 : Shape := ⟨2, ![128, 128]⟩
abbrev S16384x1024 : Shape := ⟨2, ![16384, 1024]⟩
abbrev S16384x2048 : Shape := ⟨2, ![16384, 2048]⟩
abbrev S16384x8x256 : Shape := ⟨3, ![16384, 8, 256]⟩
abbrev S16384x8x128 : Shape := ⟨3, ![16384, 8, 128]⟩
abbrev S16384x8x1x128 : Shape := ⟨4, ![16384, 8, 1, 128]⟩
abbrev S16384x8x2x128 : Shape := ⟨4, ![16384, 8, 2, 128]⟩
abbrev S8x2x128x16384 : Shape := ⟨4, ![8, 2, 128, 16384]⟩
abbrev S16x128x16384 : Shape := ⟨3, ![16, 128, 16384]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x2048, .f32⟩
  | .hbm, ⟨2, _⟩ => ⟨S128x128, .f32⟩
  | .hbm, ⟨3, _⟩ => ⟨S128x128, .f32⟩
  | .hbm, ⟨4, _⟩ => ⟨S16384x1024, .f32⟩
  | .hbm, ⟨5, _⟩ => ⟨S16384x2048, .f32⟩
  | .hbm, ⟨6, _⟩ => ⟨S16384x8x256, .f32⟩
  | .hbm, ⟨7, _⟩ => ⟨S16384x8x128, .f32⟩
  | .hbm, ⟨8, _⟩ => ⟨S16384x8x128, .f32⟩
  | .hbm, ⟨9, _⟩ => ⟨S16384x8x128, .f32⟩
  | .hbm, ⟨10, _⟩ => ⟨S16384x8x128, .f32⟩
  | .hbm, ⟨11, _⟩ => ⟨S16384x8x1x128, .f32⟩
  | .hbm, ⟨12, _⟩ => ⟨S16384x8x1x128, .f32⟩
  | .hbm, ⟨13, _⟩ => ⟨S16384x8x2x128, .f32⟩
  | .hbm, ⟨14, _⟩ => ⟨S8x2x128x16384, .f32⟩
  | .hbm, ⟨15, _⟩ => ⟨S16x128x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.MModel.lean ====
/-
  The mLSTM, one chunk of 64 positions of one head at a time, over the extended reals. Both programs are compared with these
  definitions. `In` is what a chunk takes: its queries, keys, values, the running sum `b` of the log forget gates from the
  chunk's start, and the input gates `i`. `St` is what is carried from chunk to chunk: the memory `cm` (key lane, value lane),
  the normaliser `n` and the stabiliser `m`. `hh` is what a chunk gives at position `t`, `next` what it carries on.
-/
module

public import Idealize.ShloMosaic.PureOps.Ideal
public import Idealize.ShloMosaic.Lib.Pointwise

@[expose] public section

noncomputable section

namespace Cert.M

open Idealize.ShloMosaic

/-- What one chunk of one head takes. -/
structure In where
  q : Fin 64 → Fin 64 → EReal
  k : Fin 64 → Fin 64 → EReal
  v : Fin 64 → Fin 64 → EReal
  b : Fin 64 → EReal
  i : Fin 64 → EReal

/-- What one head carries from chunk to chunk. -/
@[ext] structure St where
  cm : Fin 64 → Fin 64 → EReal
  n : Fin 64 → EReal
  m : EReal

/-- The value a masked logit takes, and the start of every maximum. -/
abbrev low : EReal := Ideal.ofBits .f32 0xFF800000#32

/-- The log weight of position `s` at position `t`, masked to `s ≤ t`. -/
def dm (x : In) (t s : Fin 64) : EReal := if s.val ≤ t.val then x.b t - x.b s + x.i s else low

/-- The log weight of what was carried, at position `t`. -/
def inter (x : In) (S : St) (t : Fin 64) : EReal := x.b t + S.m

/-- The row's stabiliser. -/
def mrow (x : In) (S : St) (t : Fin 64) : EReal := max (inter x S t) (Finset.univ.fold max low (dm x t))

/-- The weight of what was carried. -/
def win (x : In) (S : St) (t : Fin 64) : EReal := Ideal.exp (inter x S t - mrow x S t)

/-- The weighted product of query `t` with key `s`. -/
def sw (x : In) (S : St) (t s : Fin 64) : EReal := (∑ d, x.q t d * x.k s d) * Ideal.exp (dm x t s - mrow x S t)

/-- The numerator, lane `d`. -/
def num (x : In) (S : St) (t d : Fin 64) : EReal :=
  (∑ s, sw x S t s * x.v s d) + win x S t * (∑ a, x.q t a * S.cm a d)

/-- The denominator. -/
def den (x : In) (S : St) (t : Fin 64) : EReal :=
  (∑ s, sw x S t s) + win x S t * (∑ a, x.q t a * S.n a)

/-- The absolute value. -/
def mag (z : EReal) : EReal := FloatOps.absf (F := Ideal) (φ := .f32) z

/-- What the chunk gives at position `t`, lane `d`. -/
def hh (x : In) (S : St) (t d : Fin 64) : EReal :=
  Ideal.div (num x S t d) (max (mag (den x S t)) (Ideal.exp (0 - mrow x S t)))

/-- The log weight of position `s` in what is carried on. -/
def gate (x : In) (s : Fin 64) : EReal := x.b 63 - x.b s + x.i s

/-- The stabiliser carried on. -/
def mnew (x : In) (S : St) : EReal := max (x.b 63 + S.m) (Finset.univ.fold max low (gate x))

/-- How much of what was carried is kept. -/
def decay (x : In) (S : St) : EReal := Ideal.exp (x.b 63 + S.m - mnew x S)

/-- The sum of the first entries of a row, up to and with position `t`. -/
def cum (f : Fin 64 → EReal) (t : Fin 64) : EReal := ∑ u, if u.val ≤ t.val then f u else 0

/-- Key `s` with its weight, lane `a`. -/
def kw (x : In) (S : St) (s a : Fin 64) : EReal := x.k s a * Ideal.exp (gate x s - mnew x S)

/-- What the chunk carries on. -/
def next (x : In) (S : St) : St where
  cm a d := decay x S * S.cm a d + ∑ s, kw x S s a * x.v s d
  n a := decay x S * S.n a + ∑ s, kw x S s a
  m := mnew x S

/-- The norm of a head's 64 lanes, scaled by `g` and gated by the logistic of `o`. -/
def out (z g o : Fin 64 → EReal) (d : Fin 64) : EReal :=
  let mu := Ideal.div (∑ k, z k) (Ideal.ofBits .f32 0x42800000#32)
  let var := Ideal.div (∑ k, (z k - mu) * (z k - mu)) (Ideal.ofBits .f32 0x42800000#32)
  Ideal.logistic (o d) * ((z d - mu) * Ideal.rsqrt (var + Ideal.ofBits .f32 0x3727C5AC#32) * g d)

end Cert.M

end
-- ==== Proof.MVec.lean ====
module

public import proofs.«01_k».proof.Proof.Gen.KernelIdeal.Skeleton
public import proofs.«01_k».proof.Proof.MModel

/-! # One chunk of one head, in the kernel's operations

The kernel works on a chunk of a head with blocks of 64 by 64. From the blocks it takes (queries `q`, keys `k`, values `v`, the
gates as rows `br`, `ir` and as columns `bc`, `ic`) and the carried `cm`, `n`, `m`, these are the values it makes, in its own
order of operations; each is then shown to be the model's. -/

@[expose] public section

set_option maxRecDepth 16384

noncomputable section

namespace Cert.M

open Idealize.ShloMosaic Cert.KernelIdeal Cert.KernelIdeal.Gen

variable (q k v cm : FVec Ideal S64x64 .f32) (br ir n : FVec Ideal S1x64 .f32) (bc ic : FVec Ideal S64x1 .f32) (m : FVec Ideal S1x1 .f32)

def dmV : FVec Ideal S64x64 .f32 :=
  select k0_pay14 (addf (subf (broadcastTo S64x64 bc broadcasts_S64x1_S64x64) (broadcastTo S64x64 br broadcasts_S1x64_S64x64)) (broadcastTo S64x64 ir broadcasts_S1x64_S64x64)) (broadcast S64x64 (Scalar.ofBits .f32 0xFF800000#32))

def interV : FVec Ideal S64x1 .f32 := addf bc (broadcastTo S64x1 m broadcasts_S1x1_S64x1)

def mrowV : FVec Ideal S64x1 .f32 :=
  maximumf (interV bc m) (shapeCast S64x1 (multiReduction .maximumf [1] S64 (dmV br ir bc) 0xFF800000#32 reduces_S64x64_S64 (.inl rfl) rfl) shapeCasts_S64_S64x1)

def winV : FVec Ideal S64x1 .f32 := exp (subf (interV bc m) (mrowV br ir bc m))

def swV : FVec Ideal S64x64 .f32 :=
  mulf (matmul dot_S64x64_S64x64_S64x64_1_1_0_0_n_n none (truncf .bf16 q bitsLt_bf16_f32) (truncf .bf16 k bitsLt_bf16_f32) (constant S64x64 .f32 0x00000000#32))
    (exp (subf (dmV br ir bc) (broadcastTo S64x64 (mrowV br ir bc m) broadcasts_S64x1_S64x64)))

def hhV : FVec Ideal S64x64 .f32 :=
  divf
    (addf (matmul dot_S64x64_S64x64_S64x64_1_0_0_1_n_n none (truncf .bf16 (swV q k br ir bc m) bitsLt_bf16_f32) (truncf .bf16 v bitsLt_bf16_f32) (constant S64x64 .f32 0x00000000#32))
      (mulf (broadcastTo S64x64 (winV br ir bc m) broadcasts_S64x1_S64x64)
        (matmul dot_S64x64_S64x64_S64x64_1_0_0_1_n_n none (truncf .bf16 q bitsLt_bf16_f32) (truncf .bf16 cm bitsLt_bf16_f32) (constant S64x64 .f32 0x00000000#32))))
    (broadcastTo S64x64
      (maximumf
        (absf (addf (shapeCast S64x1 (multiReduction .add [1] S64 (swV q k br ir bc m) 0x00000000#32 reduces_S64x64_S64 (.inl rfl) rfl) shapeCasts_S64_S64x1)
          (mulf (winV br ir bc m) (shapeCast S64x1 (multiReduction .add [1] S64 (mulf q (broadcastTo S64x64 n broadcasts_S1x64_S64x64)) 0x00000000#32 reduces_S64x64_S64 (.inl rfl) rfl) shapeCasts_S64_S64x1))))
        (exp (subf (broadcast S64x1 (Scalar.ofBits .f32 0x00000000#32)) (mrowV br ir bc m))))
      broadcasts_S64x1_S64x64)

def lastV : FVec Ideal S1x1 .f32 := extractStridedSlice S1x1 ![0, 63] br slices_S1x64_o0_63_S1x1

def mnewV : FVec Ideal S1x1 .f32 :=
  maximumf (addf (lastV br) m)
    (shapeCast S1x1 (multiReduction .maximumf [1] S1 (addf (subf (broadcastTo S1x64 (lastV br) broadcasts_S1x1_S1x64) br) ir) 0xFF800000#32 reduces_S1x64_S1 (.inl rfl) rfl) shapeCasts_S1_S1x1)

def decayV : FVec Ideal S1x1 .f32 := exp (subf (addf (lastV br) m) (mnewV br ir m))

def kwV : FVec Ideal S64x64 .f32 :=
  mulf k (broadcastTo S64x64
    (exp (subf (addf (subf (broadcastTo S64x1 (lastV br) broadcasts_S1x1_S64x1) bc) ic) (broadcastTo S64x1 (mnewV br ir m) broadcasts_S1x1_S64x1)))
    broadcasts_S64x1_S64x64)

def cmV : FVec Ideal S1x64x64 .f32 :=
  shapeCast S1x64x64
    (addf (mulf (broadcastTo S64x64 (decayV br ir m) broadcasts_S1x1_S64x64) cm)
      (matmul dot_S64x64_S64x64_S64x64_0_0_1_1_n_n none (truncf .bf16 (kwV k br ir bc ic m) bitsLt_bf16_f32) (truncf .bf16 v bitsLt_bf16_f32) (constant S64x64 .f32 0x00000000#32)))
    shapeCasts_S64x64_S1x64x64

def nV : FVec Ideal S1x64 .f32 :=
  shapeCast S1x64
    (addf (mulf (broadcastTo S1x64 (decayV br ir m) broadcasts_S1x1_S1x64) n)
      (shapeCast S1x64 (multiReduction .add [0] S64 (kwV k br ir bc ic m) 0x00000000#32 reduces_S64x64_S64_2 (.inl rfl) rfl) shapeCasts_S64_S1x64))
    shapeCasts_S1x64_S1x64

def mV : FVec Ideal S1x128 .f32 :=
  shapeCast S1x128 (broadcastTo S1x128 (shapeCast S1x1 (mnewV br ir m) shapeCasts_S1x1_S1x1) broadcasts_S1x1_S1x128) shapeCasts_S1x128_S1x128

/-- The output block, from the chunk's result `z`, the scale `g` and the gate's block `o`. -/
def outV (o z : FVec Ideal S64x64 .f32) (g : FVec Ideal S1x64 .f32) : FVec Ideal S64x64 .f32 :=
  let hc := subf z (broadcastTo S64x64 (divf (shapeCast S64x1 (multiReduction .add [1] S64 z 0x00000000#32 reduces_S64x64_S64 (.inl rfl) rfl) shapeCasts_S64_S64x1) (broadcast S64x1 (Scalar.ofBits .f32 0x42800000#32))) broadcasts_S64x1_S64x64)
  mulf (logistic o)
    (mulf (mulf hc (broadcastTo S64x64 (rsqrt (addf (divf (shapeCast S64x1 (multiReduction .add [1] S64 (mulf hc hc) 0x00000000#32 reduces_S64x64_S64 (.inl rfl) rfl) shapeCasts_S64_S64x1) (broadcast S64x1 (Scalar.ofBits .f32 0x42800000#32))) (broadcast S64x1 (Scalar.ofBits .f32 0x3727C5AC#32)))) broadcasts_S64x1_S64x64))
      (broadcastTo S64x64 g broadcasts_S1x64_S64x64))

/-- The chunk's arrays as the model takes them. -/
def inOf : In := ⟨fun t d => q (ix2 t d), fun t d => k (ix2 t d), fun t d => v (ix2 t d), fun t => br (ix2 0 t), fun t => ir (ix2 0 t)⟩

/-- The carried arrays as the model takes them. -/
def stOf : St := ⟨fun a d => cm (ix2 a d), fun a => n (ix2 0 a), m (ix2 0 0)⟩

theorem le_bit : ∀ t s : Fin 64, IntOp.cmpi .sle (BitVec.ofNat 32 s.val) (BitVec.ofNat 32 t.val) = if s.val ≤ t.val then 1#1 else 0#1 := by
  decide +kernel

variable (hb : ∀ t, bc (ix2 t 0) = br (ix2 0 t)) (hi : ∀ t, ic (ix2 t 0) = ir (ix2 0 t))
include hb

theorem dmV_apply (t s : Fin 64) : dmV br ir bc (ix2 t s) = dm (inOf q k v br ir) t s := by
  pointwise [dmV, k0_pay14, dm, inOf, hb]
  rw [le_bit]
  by_cases h : s.val ≤ t.val
  · rw [if_pos h, if_pos h]; rfl
  · rw [if_neg h, if_neg h]; rfl

theorem mrowV_apply (t : Fin 64) : mrowV br ir bc m (ix2 t 0) = mrow (inOf q k v br ir) (stOf cm n m) t := by
  pointwise [mrowV, interV, dmV_apply q k v br ir bc hb, mrow, inter, inOf, stOf, hb]

theorem hhV_apply (t d : Fin 64) :
    hhV q k v cm br ir n bc m (ix2 t d) = hh (inOf q k v br ir) (stOf cm n m) t d := by
  pointwise [hhV, swV, winV, interV, mrowV_apply q k v cm br ir n bc m hb, dmV_apply q k v br ir bc hb, hh, num, den, sw, win, inter, mag, inOf, stOf, hb]

omit hb in
theorem mnewV_apply : mnewV br ir m (ix2 0 0) = mnew (inOf q k v br ir) (stOf cm n m) := by
  pointwise [mnewV, lastV, mnew, gate, inOf, stOf]

omit hb in
theorem mV_apply (j : Fin 128) : mV br ir m (ix2 0 j) = (next (inOf q k v br ir) (stOf cm n m)).m := by
  pointwise [mV, mnewV_apply q k v cm br ir n m, next]

include hi
theorem kwV_apply (s a : Fin 64) : kwV k br ir bc ic m (ix2 s a) = kw (inOf q k v br ir) (stOf cm n m) s a := by
  pointwise [kwV, lastV, mnewV_apply q k v cm br ir n m, kw, gate, inOf, hb, hi]

theorem cmV_apply (a d : Fin 64) :
    cmV k v cm br ir bc ic m (ix3 0 a d) = (next (inOf q k v br ir) (stOf cm n m)).cm a d := by
  pointwise [cmV, decayV, lastV, mnewV_apply q k v cm br ir n m, kwV_apply q k v cm br ir n bc ic m hb hi, next, decay, inOf, stOf]

theorem nV_apply (a : Fin 64) :
    nV k br ir n bc ic m (ix2 0 a) = (next (inOf q k v br ir) (stOf cm n m)).n a := by
  pointwise [nV, decayV, lastV, mnewV_apply q k v cm br ir n m, kwV_apply q k v cm br ir n bc ic m hb hi, next, decay, inOf, stOf]

omit hb hi in
theorem outV_apply (o z : FVec Ideal S64x64 .f32) (g : FVec Ideal S1x64 .f32) (t d : Fin 64) :
    outV o z g (ix2 t d) = out (fun d => z (ix2 t d)) (fun d => g (ix2 0 d)) (fun d => o (ix2 t d)) d := by
  pointwise [outV, out]

end Cert.M

end
-- ==== Proof.MBlock.lean ====
module

public import proofs.«01_k».proof.Proof.Gen.KernelIdeal.Frame
public import proofs.«01_k».proof.Proof.MVec
public import Idealize.ShloMosaic.Lib.Pipeline.ValueKit
public import Idealize.ShloMosaic.Lib.Pipeline.ReadBack
public import Idealize.ShloMosaic.Lib.WholeRead

/-! # One point of the mLSTM kernel as lists of stores

A point takes 128 rows, as two chunks of 64, and four heads. `Ins` are the arrays it loads; `Held` is what it reads of the
carried scratch before a chunk, one entry per head. The stores of a point are the same expressions for every chunk and head,
over other slices: `outPiece`, `cmPiece`, `nPiece` and `mPiece` are the stores, `four` the list of the heads', last store first. -/

@[expose] public section

set_option maxRecDepth 16384

noncomputable section

namespace Cert.M

open Idealize.ShloMosaic Cert.KernelIdeal Cert.KernelIdeal.Gen

/-- The arrays a point loads. -/
structure Ins where
  q : Vec Ideal S128x256 .f32
  k : Vec Ideal S128x256 .f32
  v : Vec Ideal S128x256 .f32
  o : Vec Ideal S128x256 .f32
  sm : Vec Ideal S128x128 .f32
  bi : Vec Ideal S8x1 .f32
  bf : Vec Ideal S8x1 .f32
  g : Vec Ideal S1x256 .f32

/-- What a chunk reads of the scratch, head by head. -/
structure Held where
  m : Fin 4 → Vec Ideal S1x1 .f32
  n : Fin 4 → Vec Ideal S1x64 .f32
  cm : Fin 4 → Vec Ideal S1x64x64 .f32

theorem block_ok : ∀ (c : Fin 2) (h : Fin 4), S128x256.Slices ![64 * c.val, 64 * h.val] S64x64 := by decide
theorem row_ok : ∀ (c : Fin 2) (h : Fin 4), S8x128.Slices ![h.val, 64 * c.val] S1x64 := by decide
theorem bcol_ok : ∀ (c : Fin 2) (h : Fin 4), S128x128.Slices ![64 * c.val, h.val] S64x1 := by decide
theorem icol_ok : ∀ (c : Fin 2) (h : Fin 4), S128x128.Slices ![64 * c.val, 8 + h.val] S64x1 := by decide
theorem scale_ok : ∀ (h : Fin 4), S1x256.Slices ![0, 64 * h.val] S1x64 := by decide

/-- The block of chunk `c`, head `h`. -/
def cut (x : Vec Ideal S128x256 .f32) (c : Fin 2) (h : Fin 4) : FVec Ideal S64x64 .f32 :=
  extractStridedSlice S64x64 ![64 * c.val, 64 * h.val] (shapeCast S128x256 x shapeCasts_S128x256_S128x256) (block_ok c h)

namespace Ins

variable (I : Ins)

/-- The input gates, one row per head. -/
def ig : FVec Ideal S8x128 .f32 := k0_pay6 I.sm I.bi
/-- The running sums of the log forget gates, one row per head. -/
def bcum : FVec Ideal S8x128 .f32 := k0_pay12 (k0_pay7 I.sm I.bf) k0_pay8 k0_pay9 (k0_pay10 I.sm I.bf) k0_pay11
/-- Both, one column per head. -/
def cols : FVec Ideal S128x128 .f32 := k0_pay13 I.ig (k0_pay7 I.sm I.bf) k0_pay8 k0_pay9 (k0_pay10 I.sm I.bf) k0_pay11

variable (c : Fin 2) (h : Fin 4)

def br : FVec Ideal S1x64 .f32 := extractStridedSlice S1x64 ![h.val, 64 * c.val] I.bcum (row_ok c h)
def ir : FVec Ideal S1x64 .f32 := extractStridedSlice S1x64 ![h.val, 64 * c.val] I.ig (row_ok c h)
def bc : FVec Ideal S64x1 .f32 := extractStridedSlice S64x1 ![64 * c.val, h.val] I.cols (bcol_ok c h)
def ic : FVec Ideal S64x1 .f32 := extractStridedSlice S64x1 ![64 * c.val, 8 + h.val] I.cols (icol_ok c h)
def gs : FVec Ideal S1x64 .f32 := extractStridedSlice S1x64 ![0, 64 * h.val] (shapeCast S1x256 I.g shapeCasts_S1x256_S1x256) (scale_ok h)

variable (H : Held)

/-- The carried memory of a head as a square. -/
def sq (h : Fin 4) : FVec Ideal S64x64 .f32 := shapeCast S64x64 (H.cm h) shapeCasts_S1x64x64_S64x64

/-- The store into the output. -/
def chO : FVec Ideal S64x64 .f32 :=
  outV (cut I.o c h) (hhV (cut I.q c h) (cut I.k c h) (cut I.v c h) (sq H h) (I.br c h) (I.ir c h) (H.n h) (I.bc c h) (H.m h)) (I.gs h)
/-- The store into the carried memory. -/
def chC : FVec Ideal S1x64x64 .f32 := cmV (cut I.k c h) (cut I.v c h) (sq H h) (I.br c h) (I.ir c h) (I.bc c h) (I.ic c h) (H.m h)
/-- The store into the normaliser. -/
def chN : FVec Ideal S1x64 .f32 := nV (cut I.k c h) (I.br c h) (I.ir c h) (H.n h) (I.bc c h) (I.ic c h) (H.m h)
/-- The store into the stabiliser. -/
def chM : FVec Ideal S1x128 .f32 := mV (I.br c h) (I.ir c h) (H.m h)

end Ins

theorem out_inb : ∀ (c : Fin 2) (h : Fin 4) (a : Fin 2), (![64 * c.val, 64 * h.val] : Fin 2 → ℕ) a + S64x64.size a ≤ S128x256.size a := by decide
theorem cm_inb : ∀ (h : Fin 4) (a : Fin 3), (![h.val, 0, 0] : Fin 3 → ℕ) a + S1x64x64.size a ≤ S4x64x64.size a := by decide
theorem n_inb : ∀ (h : Fin 4) (a : Fin 2), (![h.val, 0] : Fin 2 → ℕ) a + S1x64.size a ≤ S8x64.size a := by decide
theorem m_inb : ∀ (h : Fin 4) (a : Fin 2), (![h.val, 0] : Fin 2 → ℕ) a + S1x128.size a ≤ S8x128.size a := by decide

variable (I : Ins) (H : Held)

def outPiece (c : Fin 2) (h : Fin 4) : View.Piece (Elt Ideal) S128x256 .f32 :=
  ⟨Rect.unit ![64 * c.val, 64 * h.val] S64x64.size (out_inb c h), I.chO c h H⟩
def cmPiece (c : Fin 2) (h : Fin 4) : View.Piece (Elt Ideal) S4x64x64 .f32 :=
  ⟨Rect.unit ![h.val, 0, 0] S1x64x64.size (cm_inb h), I.chC c h H⟩
def nPiece (c : Fin 2) (h : Fin 4) : View.Piece (Elt Ideal) S8x64 .f32 :=
  ⟨Rect.unit ![h.val, 0] S1x64.size (n_inb h), I.chN c h H⟩
def mPiece (c : Fin 2) (h : Fin 4) : View.Piece (Elt Ideal) S8x128 .f32 :=
  ⟨Rect.unit ![h.val, 0] S1x128.size (m_inb h), I.chM c h H⟩

/-- The four heads' stores of one piece kind, the last head first. -/
def four {α : Type} (f : Fin 4 → α) : List α := [f 3, f 2, f 1, f 0]

end Cert.M

end
-- ==== Proof.MChain.lean ====
module

public import proofs.«01_k».proof.Proof.MBlock

/-! # What lists of stores leave

The scratch is written head by head, one row (or one slice) per head, and the output block by block. Reading such a list at an
index gives the store whose rectangle holds it. From this: a chunk's state of a head is the model's step of its state before. -/

@[expose] public section

set_option maxRecDepth 16384

noncomputable section

namespace Cert.M

open Idealize.ShloMosaic Cert.KernelIdeal Cert.KernelIdeal.Gen

section Lists

variable {s : Shape} {e : EltTy}

/-- An index in the last store's rectangle reads that store. -/
theorem hit (off size : Fin s.rank → ℕ) (inb : ∀ a, off a + size a ≤ s.size a) (w : (Rect.unit off size inb).shape.Idx → Elt Ideal e)
    (L : List (View.Piece (Elt Ideal) s e)) (y : s.Idx) (x : (Rect.unit off size inb).shape.Idx)
    (h : ∀ a, (y a).val = off a + (x a).val) : View.canon (⟨Rect.unit off size inb, w⟩ :: L) y = w x := by
  have hy : (Rect.unit off size inb).emb x = y := by
    funext a
    apply Fin.ext
    show off a + 1 * (x a).val = _
    rw [h a, one_mul]
  rw [← hy, View.canon_cons_emb]

theorem outside (off size : Fin s.rank → ℕ) (inb : ∀ a, off a + size a ≤ s.size a) (y : s.Idx) (a : Fin s.rank)
    (h : (y a).val < off a ∨ off a + size a ≤ (y a).val) : y ∉ (Rect.unit off size inb).set := fun hm => by
  have := (Rect.mem_set_unit (inb := inb)).mp hm a
  omega

/-- An index outside the last store's rectangle reads the stores before. -/
theorem miss (off size : Fin s.rank → ℕ) (inb : ∀ a, off a + size a ≤ s.size a) (w : (Rect.unit off size inb).shape.Idx → Elt Ideal e)
    (L : List (View.Piece (Elt Ideal) s e)) (y : s.Idx) (a : Fin s.rank)
    (h : (y a).val < off a ∨ off a + size a ≤ (y a).val) : View.canon (⟨Rect.unit off size inb, w⟩ :: L) y = View.canon L y :=
  View.canon_cons_of_not_mem _ _ (outside off size inb y a h)

/-- The list of the four heads, at an index that no later head's store holds. -/
theorem canon_four (P : Fin 4 → View.Piece (Elt Ideal) s e) (R : List (View.Piece (Elt Ideal) s e)) (y : s.Idx) (h : Fin 4)
    (hm : ∀ h' : Fin 4, h.val < h'.val → y ∉ (P h').1.set) : ∃ L, View.canon (four P ++ R) y = View.canon (P h :: L) y := by
  show ∃ L, View.canon (P 3 :: P 2 :: P 1 :: P 0 :: R) y = View.canon (P h :: L) y
  match h, hm with
  | 3, _ => exact ⟨_, rfl⟩
  | 2, hm => exact ⟨_, View.canon_cons_of_not_mem _ _ (hm 3 (by decide))⟩
  | 1, hm => exact ⟨_, (View.canon_cons_of_not_mem _ _ (hm 3 (by decide))).trans (View.canon_cons_of_not_mem _ _ (hm 2 (by decide)))⟩
  | 0, hm =>
    exact ⟨_, (View.canon_cons_of_not_mem _ _ (hm 3 (by decide))).trans
      ((View.canon_cons_of_not_mem _ _ (hm 2 (by decide))).trans (View.canon_cons_of_not_mem _ _ (hm 1 (by decide))))⟩

/-- At an index that none of the four holds. -/
theorem skip_four (P : Fin 4 → View.Piece (Elt Ideal) s e) (R : List (View.Piece (Elt Ideal) s e)) (y : s.Idx)
    (hm : ∀ h' : Fin 4, y ∉ (P h').1.set) : View.canon (four P ++ R) y = View.canon R y := by
  show View.canon (P 3 :: P 2 :: P 1 :: P 0 :: R) y = _
  rw [View.canon_cons_of_not_mem _ _ (hm 3), View.canon_cons_of_not_mem _ _ (hm 2), View.canon_cons_of_not_mem _ _ (hm 1),
    View.canon_cons_of_not_mem _ _ (hm 0)]

/-- A statement about each head. -/
theorem all4 {P : Fin 4 → Prop} (h0 : P 0) (h1 : P 1) (h2 : P 2) (h3 : P 3) (h : Fin 4) : P h :=
  match h with
  | 0 => h0
  | 1 => h1
  | 2 => h2
  | 3 => h3

/-- A load through a rectangle of what the stores leave. -/
theorem read_of {sig : RefSig} {κ : Kind} {sp : Space} (v : View sig κ sp s e) (L : List (View.Piece (Elt Ideal) s e))
    (off size : Fin s.rank → ℕ) (inb : ∀ a, off a + size a ≤ s.size a) (y : s.Idx) (x : (Rect.unit off size inb).shape.Idx)
    (h : ∀ a, (y a).val = off a + (x a).val) : v.readCov L (Rect.unit off size inb).toLoadRect x = View.canon L y := by
  rw [View.readCov_eq_canon']
  refine congrArg (View.canon L) (funext fun a => Fin.ext ?_)
  show off a + 1 * (x a).val = _
  rw [h a, one_mul]

/-- A load through a rectangle of what a buffer holds. -/
theorem read_held {sig : RefSig} {κ : Kind} {sp : Space} {mr : Memref sig κ sp s e} (hm : mr.IsWhole) (X : Vec Ideal s e)
    (off size : Fin s.rank → ℕ) (inb : ∀ a, off a + size a ≤ s.size a) (y : s.Idx) (x : (Rect.unit off size inb).shape.Idx)
    (h : ∀ a, (y a).val = off a + (x a).val) :
    View.readAt (Elt Ideal) mr.view (Rect.unit off size inb).toLoadRect (hm.unread X) x = X y := by
  rw [Memref.IsWhole.readAt_unread]
  refine congrArg X (funext fun a => Fin.ext ?_)
  show off a + 1 * (x a).val = _
  rw [h a, one_mul]

end Lists

/-- Head `h` as a row of the eight that a scratch array has. -/
def row8 (h : Fin 4) : Fin 8 := ⟨h.val, by omega⟩

theorem miss_m (h h' : Fin 4) (hh : h'.val < h.val) (w : Vec Ideal S1x128 .f32) (L : List (View.Piece (Elt Ideal) S8x128 .f32)) (j : Fin 128) :
    View.canon ((⟨Rect.unit ![h'.val, 0] S1x128.size (m_inb h'), w⟩ : View.Piece (Elt Ideal) S8x128 .f32) :: L) (ix2 (row8 h) j) = View.canon L (ix2 (row8 h) j) :=
  miss (s := S8x128) ![h'.val, 0] S1x128.size (m_inb h') w L (ix2 (row8 h) j) (0 : Fin 2) (.inr hh)

theorem miss_n (h h' : Fin 4) (hh : h'.val < h.val) (w : Vec Ideal S1x64 .f32) (L : List (View.Piece (Elt Ideal) S8x64 .f32)) (j : Fin 64) :
    View.canon ((⟨Rect.unit ![h'.val, 0] S1x64.size (n_inb h'), w⟩ : View.Piece (Elt Ideal) S8x64 .f32) :: L) (ix2 (row8 h) j) = View.canon L (ix2 (row8 h) j) :=
  miss (s := S8x64) ![h'.val, 0] S1x64.size (n_inb h') w L (ix2 (row8 h) j) (0 : Fin 2) (.inr hh)

theorem miss_cm (h h' : Fin 4) (hh : h'.val < h.val) (w : Vec Ideal S1x64x64 .f32) (L : List (View.Piece (Elt Ideal) S4x64x64 .f32)) (a d : Fin 64) :
    View.canon ((⟨Rect.unit ![h'.val, 0, 0] S1x64x64.size (cm_inb h'), w⟩ : View.Piece (Elt Ideal) S4x64x64 .f32) :: L) (ix3 h a d) = View.canon L (ix3 h a d) :=
  miss (s := S4x64x64) ![h'.val, 0, 0] S1x64x64.size (cm_inb h') w L (ix3 h a d) (0 : Fin 3) (.inr hh)

/-- The places of a head's row, as a rectangle's offsets and an index in it. -/
theorem at_m (h : Fin 4) : ∀ a : Fin 2, ((ix2 (row8 h) 0 : S8x128.Idx) a).val = (![h.val, 0] : Fin 2 → ℕ) a + ((ix2 0 0 : S1x1.Idx) a).val :=
  fun a => match a with
  | 0 => rfl
  | 1 => rfl

theorem at_n (h : Fin 4) (j : Fin 64) : ∀ a : Fin 2, ((ix2 (row8 h) j : S8x64.Idx) a).val = (![h.val, 0] : Fin 2 → ℕ) a + ((ix2 0 j : S1x64.Idx) a).val :=
  fun a => match a with
  | 0 => rfl
  | 1 => (Nat.zero_add _).symm

theorem at_cm (h : Fin 4) (a d : Fin 64) : ∀ b : Fin 3, ((ix3 h a d : S4x64x64.Idx) b).val = (![h.val, 0, 0] : Fin 3 → ℕ) b + ((ix3 0 a d : S1x64x64.Idx) b).val :=
  fun b => match b with
  | 0 => rfl
  | 1 => (Nat.zero_add _).symm
  | 2 => (Nat.zero_add _).symm

variable (I : Ins) (H : Held) (c : Fin 2)

theorem canon_m (R : List (View.Piece (Elt Ideal) S8x128 .f32)) (h : Fin 4) (j : Fin 128) :
    View.canon (four (mPiece I H c) ++ R) (ix2 (row8 h) j) = I.chM c h H (ix2 0 j) := by
  obtain ⟨L, e⟩ := canon_four (mPiece I H c) R (ix2 (row8 h) j) h fun h' hh => by
    have o : h.val < h'.val := hh
    exact outside (s := S8x128) ![h'.val, 0] S1x128.size (m_inb h') (ix2 (row8 h) j) (0 : Fin 2) (.inl o)
  rw [e]
  refine hit (s := S8x128) ![h.val, 0] S1x128.size (m_inb h) (I.chM c h H) L (ix2 (row8 h) j) (ix2 0 j) fun a => ?_
  match a with
  | 0 => rfl
  | 1 => exact (Nat.zero_add _).symm

theorem canon_n (R : List (View.Piece (Elt Ideal) S8x64 .f32)) (h : Fin 4) (j : Fin 64) :
    View.canon (four (nPiece I H c) ++ R) (ix2 (row8 h) j) = I.chN c h H (ix2 0 j) := by
  obtain ⟨L, e⟩ := canon_four (nPiece I H c) R (ix2 (row8 h) j) h fun h' hh => by
    have o : h.val < h'.val := hh
    exact outside (s := S8x64) ![h'.val, 0] S1x64.size (n_inb h') (ix2 (row8 h) j) (0 : Fin 2) (.inl o)
  rw [e]
  refine hit (s := S8x64) ![h.val, 0] S1x64.size (n_inb h) (I.chN c h H) L (ix2 (row8 h) j) (ix2 0 j) fun a => ?_
  match a with
  | 0 => rfl
  | 1 => exact (Nat.zero_add _).symm

theorem canon_cm (R : List (View.Piece (Elt Ideal) S4x64x64 .f32)) (h : Fin 4) (a d : Fin 64) :
    View.canon (four (cmPiece I H c) ++ R) (ix3 h a d) = I.chC c h H (ix3 0 a d) := by
  obtain ⟨L, e⟩ := canon_four (cmPiece I H c) R (ix3 h a d) h fun h' hh => by
    have o : h.val < h'.val := hh
    exact outside (s := S4x64x64) ![h'.val, 0, 0] S1x64x64.size (cm_inb h') (ix3 h a d) (0 : Fin 3) (.inl o)
  rw [e]
  refine hit (s := S4x64x64) ![h.val, 0, 0] S1x64x64.size (cm_inb h) (I.chC c h H) L (ix3 h a d) (ix3 0 a d) fun b => ?_
  match b with
  | 0 => rfl
  | 1 => exact (Nat.zero_add _).symm
  | 2 => exact (Nat.zero_add _).symm

/-- The stores' cover of the four heads' rows. -/
theorem cover_m (R : List (View.Piece (Elt Ideal) S8x128 .f32)) (h : Fin 4) (j : Fin 128) :
    ∃ p ∈ four (mPiece I H c) ++ R, (ix2 (row8 h) j : S8x128.Idx) ∈ p.1.set := by
  refine ⟨mPiece I H c h, List.mem_append_left _ (by match h with | 0 | 1 | 2 | 3 => simp [four]), ?_⟩
  refine (Rect.mem_set_unit (inb := m_inb h)).mpr (Fin.forall_fin_two.mpr ⟨⟨le_rfl, Nat.lt_succ_self _⟩, ⟨Nat.zero_le _, ?_⟩⟩)
  show j.val < 0 + 128
  omega

theorem cover_n (R : List (View.Piece (Elt Ideal) S8x64 .f32)) (h : Fin 4) (j : Fin 64) :
    ∃ p ∈ four (nPiece I H c) ++ R, (ix2 (row8 h) j : S8x64.Idx) ∈ p.1.set := by
  refine ⟨nPiece I H c h, List.mem_append_left _ (by match h with | 0 | 1 | 2 | 3 => simp [four]), ?_⟩
  refine (Rect.mem_set_unit (inb := n_inb h)).mpr (Fin.forall_fin_two.mpr ⟨⟨le_rfl, Nat.lt_succ_self _⟩, ⟨Nat.zero_le _, ?_⟩⟩)
  show j.val < 0 + 64
  omega

/-- The row of the output block that chunk `c` keeps position `t` in, and the column of head `h`, entry `d`. -/
def orow (c : Fin 2) (t : Fin 64) : Fin 128 := ⟨64 * c.val + t.val, by omega⟩
def ocol (h : Fin 4) (d : Fin 64) : Fin 256 := ⟨64 * h.val + d.val, by omega⟩

theorem canon_out4 (R : List (View.Piece (Elt Ideal) S128x256 .f32)) (h : Fin 4) (t d : Fin 64) :
    View.canon (four (outPiece I H c) ++ R) (ix2 (orow c t) (ocol h d)) = I.chO c h H (ix2 t d) := by
  obtain ⟨L, e⟩ := canon_four (outPiece I H c) R (ix2 (orow c t) (ocol h d)) h fun h' hh => by
    have o : 64 * h.val + d.val < 64 * h'.val := by omega
    exact outside (s := S128x256) ![64 * c.val, 64 * h'.val] S64x64.size (out_inb c h') (ix2 (orow c t) (ocol h d)) (1 : Fin 2) (.inl o)
  rw [e]
  refine hit (s := S128x256) ![64 * c.val, 64 * h.val] S64x64.size (out_inb c h) (I.chO c h H) L (ix2 (orow c t) (ocol h d)) (ix2 t d) fun a => ?_
  match a with
  | 0 => rfl
  | 1 => rfl

theorem skip_out4 (R : List (View.Piece (Elt Ideal) S128x256 .f32)) (h : Fin 4) (t d : Fin 64) :
    View.canon (four (outPiece I H 1) ++ R) (ix2 (orow 0 t) (ocol h d)) = View.canon R (ix2 (orow 0 t) (ocol h d)) :=
  skip_four _ _ _ fun h' => by
    have o : 64 * 0 + t.val < 64 * 1 := by omega
    exact outside (s := S128x256) ![64 * (1 : Fin 2).val, 64 * h'.val] S64x64.size (out_inb 1 h') (ix2 (orow 0 t) (ocol h d)) (0 : Fin 2) (.inl o)

/-- The chunk's arrays of one head as the model takes them. -/
def Ins.inp (h : Fin 4) : In := inOf (cut I.q c h) (cut I.k c h) (cut I.v c h) (I.br c h) (I.ir c h)

/-- The state of a head that a chunk reads. -/
def stH (H : Held) (h : Fin 4) : St := stOf (Ins.sq H h) (H.n h) (H.m h)

/-- The gates as columns are the gates as rows. -/
theorem bc_eq (h : Fin 4) (t : Fin 64) : I.bc c h (ix2 t 0) = I.br c h (ix2 0 t) := by
  match c, h with
  | 0, 0 | 0, 1 | 0, 2 | 0, 3 | 1, 0 | 1, 1 | 1, 2 | 1, 3 => pointwise [Ins.bc, Ins.br, Ins.cols, Ins.bcum, k0_pay13]

theorem ic_eq (h : Fin 4) (t : Fin 64) : I.ic c h (ix2 t 0) = I.ir c h (ix2 0 t) := by
  match c, h with
  | 0, 0 | 0, 1 | 0, 2 | 0, 3 | 1, 0 | 1, 1 | 1, 2 | 1, 3 => pointwise [Ins.ic, Ins.ir, Ins.cols, k0_pay13]

theorem chO_apply (h : Fin 4) (t d : Fin 64) :
    I.chO c h H (ix2 t d) = out (fun d => hh (I.inp c h) (stH H h) t d) (fun d => I.gs h (ix2 0 d)) (fun d => cut I.o c h (ix2 t d)) d := by
  rw [Ins.chO, outV_apply]
  congr 1
  funext d'
  exact hhV_apply _ _ _ _ _ _ _ _ _ (bc_eq I c h) t d'

/-- A head's state that reads a chunk's stores is the model's step. -/
theorem st_next (H' : Held) (h : Fin 4) (hm : H'.m h (ix2 0 0) = I.chM c h H (ix2 0 0)) (hn : ∀ a, H'.n h (ix2 0 a) = I.chN c h H (ix2 0 a))
    (hc : ∀ a d, H'.cm h (ix3 0 a d) = I.chC c h H (ix3 0 a d)) : stH H' h = next (I.inp c h) (stH H h) := by
  have e := fun a d => (hc a d).trans (cmV_apply (cut I.q c h) (cut I.k c h) (cut I.v c h) (Ins.sq H h) (I.br c h) (I.ir c h) (H.n h) (I.bc c h) (I.ic c h) (H.m h) (bc_eq I c h) (ic_eq I c h) a d)
  ext1
  · funext a d
    refine Eq.trans ?_ (e a d)
    show Ins.sq H' h (ix2 a d) = _
    pointwise [Ins.sq]
  · funext a
    exact (hn a).trans (nV_apply (cut I.q c h) (cut I.k c h) (cut I.v c h) (Ins.sq H h) (I.br c h) (I.ir c h) (H.n h) (I.bc c h) (I.ic c h) (H.m h) (bc_eq I c h) (ic_eq I c h) a)
  · exact hm.trans (mV_apply (cut I.q c h) (cut I.k c h) (cut I.v c h) (Ins.sq H h) (I.br c h) (I.ir c h) (H.n h) (H.m h) 0)

/-- The state of a head in the scratch arrays. -/
def scr (x0 : Vec Ideal S4x64x64 .f32) (x1 : Vec Ideal S8x64 .f32) (x2 : Vec Ideal S8x128 .f32) (h : Fin 4) : St :=
  ⟨fun a d => x0 (ix3 h a d), fun a => x1 (ix2 (row8 h) a), x2 (ix2 (row8 h) 0)⟩

theorem scr_next (x0 : Vec Ideal S4x64x64 .f32) (x1 : Vec Ideal S8x64 .f32) (x2 : Vec Ideal S8x128 .f32) (h : Fin 4)
    (hm : x2 (ix2 (row8 h) 0) = I.chM c h H (ix2 0 0)) (hn : ∀ a, x1 (ix2 (row8 h) a) = I.chN c h H (ix2 0 a))
    (hc : ∀ a d, x0 (ix3 h a d) = I.chC c h H (ix3 0 a d)) : scr x0 x1 x2 h = next (I.inp c h) (stH H h) := by
  ext1
  · funext a d
    exact (hc a d).trans (cmV_apply (cut I.q c h) (cut I.k c h) (cut I.v c h) (Ins.sq H h) (I.br c h) (I.ir c h) (H.n h) (I.bc c h) (I.ic c h) (H.m h) (bc_eq I c h) (ic_eq I c h) a d)
  · funext a
    exact (hn a).trans (nV_apply (cut I.q c h) (cut I.k c h) (cut I.v c h) (Ins.sq H h) (I.br c h) (I.ir c h) (H.n h) (I.bc c h) (I.ic c h) (H.m h) (bc_eq I c h) (ic_eq I c h) a)
  · exact hm.trans (mV_apply (cut I.q c h) (cut I.k c h) (cut I.v c h) (Ins.sq H h) (I.br c h) (I.ir c h) (H.n h) (H.m h) 0)

end Cert.M

end
-- ==== Proof.MHeads.lean ====
module

public import proofs.«01_k».proof.Proof.MChain

/-! # What the four heads read of the scratch

A chunk's heads follow one another: each reads its own row and stores there before the next one reads. A store into an earlier
head's row does not change a later head's, so every head reads what the list held before the chunk. -/

@[expose] public section

noncomputable section

namespace Cert.M

open Idealize.ShloMosaic Cert.KernelIdeal Cert.KernelIdeal.Gen

variable {sig : RefSig} {κ : Kind} {sp : Space}

theorem heads_m (v : View sig κ sp S8x128 .f32) (L : List (View.Piece (Elt Ideal) S8x128 .f32)) (w0 w1 w2 : Vec Ideal S1x128 .f32)
    (i : ∀ (h : Fin 4) (a : Fin 2), (![h.val, 0] : Fin 2 → ℕ) a + S1x1.size a ≤ S8x128.size a) (h : Fin 4) :
    (![v.readCov L (Rect.unit (s := S8x128) ![0, 0] S1x1.size (i 0)).toLoadRect,
      v.readCov (⟨Rect.unit (s := S8x128) ![0, 0] S1x128.size (m_inb 0), w0⟩ :: L) (Rect.unit (s := S8x128) ![1, 0] S1x1.size (i 1)).toLoadRect,
      v.readCov (⟨Rect.unit (s := S8x128) ![1, 0] S1x128.size (m_inb 1), w1⟩ :: ⟨Rect.unit (s := S8x128) ![0, 0] S1x128.size (m_inb 0), w0⟩ :: L)
        (Rect.unit (s := S8x128) ![2, 0] S1x1.size (i 2)).toLoadRect,
      v.readCov (⟨Rect.unit (s := S8x128) ![2, 0] S1x128.size (m_inb 2), w2⟩ :: ⟨Rect.unit (s := S8x128) ![1, 0] S1x128.size (m_inb 1), w1⟩ ::
        ⟨Rect.unit (s := S8x128) ![0, 0] S1x128.size (m_inb 0), w0⟩ :: L) (Rect.unit (s := S8x128) ![3, 0] S1x1.size (i 3)).toLoadRect]
      : Fin 4 → Vec Ideal S1x1 .f32) h (ix2 0 0) = View.canon L (ix2 (row8 h) 0) := by
  match h with
  | 0 => exact read_of v _ ![0, 0] S1x1.size _ (ix2 (row8 0) 0) (ix2 0 0) (at_m 0)
  | 1 => exact (read_of v _ ![1, 0] S1x1.size _ (ix2 (row8 1) 0) (ix2 0 0) (at_m 1)).trans (miss_m 1 0 (by decide) _ _ 0)
  | 2 => exact (read_of v _ ![2, 0] S1x1.size _ (ix2 (row8 2) 0) (ix2 0 0) (at_m 2)).trans ((miss_m 2 1 (by decide) _ _ 0).trans (miss_m 2 0 (by decide) _ _ 0))
  | 3 => exact (read_of v _ ![3, 0] S1x1.size _ (ix2 (row8 3) 0) (ix2 0 0) (at_m 3)).trans ((miss_m 3 2 (by decide) _ _ 0).trans ((miss_m 3 1 (by decide) _ _ 0).trans (miss_m 3 0 (by decide) _ _ 0)))

theorem heads_n (v : View sig κ sp S8x64 .f32) (L : List (View.Piece (Elt Ideal) S8x64 .f32)) (w0 w1 w2 : Vec Ideal S1x64 .f32)
    (h : Fin 4) (j : Fin 64) :
    (![v.readCov L (Rect.unit (s := S8x64) ![0, 0] S1x64.size (n_inb 0)).toLoadRect,
      v.readCov (⟨Rect.unit (s := S8x64) ![0, 0] S1x64.size (n_inb 0), w0⟩ :: L) (Rect.unit (s := S8x64) ![1, 0] S1x64.size (n_inb 1)).toLoadRect,
      v.readCov (⟨Rect.unit (s := S8x64) ![1, 0] S1x64.size (n_inb 1), w1⟩ :: ⟨Rect.unit (s := S8x64) ![0, 0] S1x64.size (n_inb 0), w0⟩ :: L)
        (Rect.unit (s := S8x64) ![2, 0] S1x64.size (n_inb 2)).toLoadRect,
      v.readCov (⟨Rect.unit (s := S8x64) ![2, 0] S1x64.size (n_inb 2), w2⟩ :: ⟨Rect.unit (s := S8x64) ![1, 0] S1x64.size (n_inb 1), w1⟩ ::
        ⟨Rect.unit (s := S8x64) ![0, 0] S1x64.size (n_inb 0), w0⟩ :: L) (Rect.unit (s := S8x64) ![3, 0] S1x64.size (n_inb 3)).toLoadRect]
      : Fin 4 → Vec Ideal S1x64 .f32) h (ix2 0 j) = View.canon L (ix2 (row8 h) j) := by
  match h with
  | 0 => exact read_of v _ ![0, 0] S1x64.size _ (ix2 (row8 0) j) (ix2 0 j) (at_n 0 j)
  | 1 => exact (read_of v _ ![1, 0] S1x64.size _ (ix2 (row8 1) j) (ix2 0 j) (at_n 1 j)).trans (miss_n 1 0 (by decide) _ _ j)
  | 2 => exact (read_of v _ ![2, 0] S1x64.size _ (ix2 (row8 2) j) (ix2 0 j) (at_n 2 j)).trans ((miss_n 2 1 (by decide) _ _ j).trans (miss_n 2 0 (by decide) _ _ j))
  | 3 => exact (read_of v _ ![3, 0] S1x64.size _ (ix2 (row8 3) j) (ix2 0 j) (at_n 3 j)).trans ((miss_n 3 2 (by decide) _ _ j).trans ((miss_n 3 1 (by decide) _ _ j).trans (miss_n 3 0 (by decide) _ _ j)))

theorem heads_cm (v : View sig κ sp S4x64x64 .f32) (L : List (View.Piece (Elt Ideal) S4x64x64 .f32)) (w0 w1 w2 : Vec Ideal S1x64x64 .f32)
    (h : Fin 4) (a d : Fin 64) :
    (![v.readCov L (Rect.unit (s := S4x64x64) ![0, 0, 0] S1x64x64.size (cm_inb 0)).toLoadRect,
      v.readCov (⟨Rect.unit (s := S4x64x64) ![0, 0, 0] S1x64x64.size (cm_inb 0), w0⟩ :: L) (Rect.unit (s := S4x64x64) ![1, 0, 0] S1x64x64.size (cm_inb 1)).toLoadRect,
      v.readCov (⟨Rect.unit (s := S4x64x64) ![1, 0, 0] S1x64x64.size (cm_inb 1), w1⟩ :: ⟨Rect.unit (s := S4x64x64) ![0, 0, 0] S1x64x64.size (cm_inb 0), w0⟩ :: L)
        (Rect.unit (s := S4x64x64) ![2, 0, 0] S1x64x64.size (cm_inb 2)).toLoadRect,
      v.readCov (⟨Rect.unit (s := S4x64x64) ![2, 0, 0] S1x64x64.size (cm_inb 2), w2⟩ :: ⟨Rect.unit (s := S4x64x64) ![1, 0, 0] S1x64x64.size (cm_inb 1), w1⟩ ::
        ⟨Rect.unit (s := S4x64x64) ![0, 0, 0] S1x64x64.size (cm_inb 0), w0⟩ :: L) (Rect.unit (s := S4x64x64) ![3, 0, 0] S1x64x64.size (cm_inb 3)).toLoadRect]
      : Fin 4 → Vec Ideal S1x64x64 .f32) h (ix3 0 a d) = View.canon L (ix3 h a d) := by
  match h with
  | 0 => exact read_of v _ ![0, 0, 0] S1x64x64.size _ (ix3 0 a d) (ix3 0 a d) (at_cm 0 a d)
  | 1 => exact (read_of v _ ![1, 0, 0] S1x64x64.size _ (ix3 1 a d) (ix3 0 a d) (at_cm 1 a d)).trans (miss_cm 1 0 (by decide) _ _ a d)
  | 2 => exact (read_of v _ ![2, 0, 0] S1x64x64.size _ (ix3 2 a d) (ix3 0 a d) (at_cm 2 a d)).trans ((miss_cm 2 1 (by decide) _ _ a d).trans (miss_cm 2 0 (by decide) _ _ a d))
  | 3 => exact (read_of v _ ![3, 0, 0] S1x64x64.size _ (ix3 3 a d) (ix3 0 a d) (at_cm 3 a d)).trans ((miss_cm 3 2 (by decide) _ _ a d).trans ((miss_cm 3 1 (by decide) _ _ a d).trans (miss_cm 3 0 (by decide) _ _ a d)))

end Cert.M

end
-- ==== Proof.MRun.lean ====
module

public import proofs.«01_k».proof.Proof.MBlock

/-! # The printed run of a point is the lists of stores

The two cases of the kernel's body (a batch's first point, which fills the scratch with zeros, and the others) give the stores
of `MBlock` for the arrays and the scratch they read. -/

@[expose] public section

set_option maxRecDepth 16384

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- The arrays as a point reads them from its windows. -/
def loads : Ins where
  q := View.readAt (Elt Ideal) arg2.view (Rect.unit ![0, 0] S128x256.size inb_S128x256_S128x256_0_0).toLoadRect (harg2.unread x0)
  k := View.readAt (Elt Ideal) arg3.view (Rect.unit ![0, 0] S128x256.size inb_S128x256_S128x256_0_0).toLoadRect (harg3.unread x1)
  v := View.readAt (Elt Ideal) arg4.view (Rect.unit ![0, 0] S128x256.size inb_S128x256_S128x256_0_0).toLoadRect (harg4.unread x2)
  o := View.readAt (Elt Ideal) arg5.view (Rect.unit ![0, 0] S128x256.size inb_S128x256_S128x256_0_0).toLoadRect (harg5.unread x3)
  sm := View.readAt (Elt Ideal) arg6.view (Rect.unit ![0, 0] S128x128.size inb_S128x128_S128x128_0_0).toLoadRect (harg6.unread x4)
  bi := View.readAt (Elt Ideal) arg7.view (Rect.unit ![0, 0] S8x1.size inb_S8x1_S8x1_0_0).toLoadRect (harg7.unread x5)
  bf := View.readAt (Elt Ideal) arg8.view (Rect.unit ![0, 0] S8x1.size inb_S8x1_S8x1_0_0).toLoadRect (harg8.unread x6)
  g := View.readAt (Elt Ideal) arg9.view (Rect.unit ![0, 0] S1x256.size inb_S1x256_S1x256_0_0).toLoadRect (harg9.unread x7)

open kernelRun0_B.sl in
/-- The scratch before the first chunk of a later point. -/
def heldB0 : Held where
  m := ![r_16 c arg13 harg13 xs2, v214 c arg13 harg13 xs2, v332 c arg13 harg13 xs2, v450 c arg13 harg13 xs2]
  n := ![r_17 c arg12 harg12 xs1, v215 c arg12 harg12 xs1, v333 c arg12 harg12 xs1, v451 c arg12 harg12 xs1]
  cm := ![View.readAt (Elt Ideal) arg11.view (Rect.unit (s := S4x64x64) ![0, 0, 0] S1x64x64.size inb_S4x64x64_S1x64x64_0_0_0).toLoadRect (harg11.unread xs0), v216 c arg11 harg11 xs0, v334 c arg11 harg11 xs0, v452 c arg11 harg11 xs0]

open kernelRun0_B.sl in
/-- The scratch before the second chunk of a later point. -/
def heldB1 : Held where
  m := ![v568 c arg6 harg6 arg7 harg7 arg8 harg8 arg13 harg13 x4 x5 x6 xs2, v686 c arg6 harg6 arg7 harg7 arg8 harg8 arg13 harg13 x4 x5 x6 xs2,
    v804 c arg6 harg6 arg7 harg7 arg8 harg8 arg13 harg13 x4 x5 x6 xs2, v922 c arg6 harg6 arg7 harg7 arg8 harg8 arg13 harg13 x4 x5 x6 xs2]
  n := ![v569 c arg3 harg3 arg6 harg6 arg7 harg7 arg8 harg8 arg12 harg12 arg13 harg13 x1 x4 x5 x6 xs1 xs2, v687 c arg3 harg3 arg6 harg6 arg7 harg7 arg8 harg8 arg12 harg12 arg13 harg13 x1 x4 x5 x6 xs1 xs2,
    v805 c arg3 harg3 arg6 harg6 arg7 harg7 arg8 harg8 arg12 harg12 arg13 harg13 x1 x4 x5 x6 xs1 xs2, v923 c arg3 harg3 arg6 harg6 arg7 harg7 arg8 harg8 arg12 harg12 arg13 harg13 x1 x4 x5 x6 xs1 xs2]
  cm := ![v570 c arg3 harg3 arg4 harg4 arg6 harg6 arg7 harg7 arg8 harg8 arg11 harg11 arg13 harg13 x1 x2 x4 x5 x6 xs0 xs2, v688 c arg3 harg3 arg4 harg4 arg6 harg6 arg7 harg7 arg8 harg8 arg11 harg11 arg13 harg13 x1 x2 x4 x5 x6 xs0 xs2,
    v806 c arg3 harg3 arg4 harg4 arg6 harg6 arg7 harg7 arg8 harg8 arg11 harg11 arg13 harg13 x1 x2 x4 x5 x6 xs0 xs2, v924 c arg3 harg3 arg4 harg4 arg6 harg6 arg7 harg7 arg8 harg8 arg11 harg11 arg13 harg13 x1 x2 x4 x5 x6 xs0 xs2]

open kernelRun0_A.sl in
/-- The scratch before the first chunk of a batch's first point. -/
def heldA0 : Held where
  m := ![v96 c arg13, v214 c arg6 harg6 arg7 harg7 arg8 harg8 arg13 x4 x5 x6, v332 c arg6 harg6 arg7 harg7 arg8 harg8 arg13 x4 x5 x6, v450 c arg6 harg6 arg7 harg7 arg8 harg8 arg13 x4 x5 x6]
  n := ![v97 c arg12, v215 c arg3 harg3 arg6 harg6 arg7 harg7 arg8 harg8 arg12 arg13 x1 x4 x5 x6, v333 c arg3 harg3 arg6 harg6 arg7 harg7 arg8 harg8 arg12 arg13 x1 x4 x5 x6, v451 c arg3 harg3 arg6 harg6 arg7 harg7 arg8 harg8 arg12 arg13 x1 x4 x5 x6]
  cm := ![v98 c arg11, v216 c arg3 harg3 arg4 harg4 arg6 harg6 arg7 harg7 arg8 harg8 arg11 arg13 x1 x2 x4 x5 x6, v334 c arg3 harg3 arg4 harg4 arg6 harg6 arg7 harg7 arg8 harg8 arg11 arg13 x1 x2 x4 x5 x6, v452 c arg3 harg3 arg4 harg4 arg6 harg6 arg7 harg7 arg8 harg8 arg11 arg13 x1 x2 x4 x5 x6]

open kernelRun0_A.sl in
/-- The scratch before the second chunk of a batch's first point. -/
def heldA1 : Held where
  m := ![v568 c arg6 harg6 arg7 harg7 arg8 harg8 arg13 x4 x5 x6, v686 c arg6 harg6 arg7 harg7 arg8 harg8 arg13 x4 x5 x6, v804 c arg6 harg6 arg7 harg7 arg8 harg8 arg13 x4 x5 x6, v922 c arg6 harg6 arg7 harg7 arg8 harg8 arg13 x4 x5 x6]
  n := ![v569 c arg3 harg3 arg6 harg6 arg7 harg7 arg8 harg8 arg12 arg13 x1 x4 x5 x6, v687 c arg3 harg3 arg6 harg6 arg7 harg7 arg8 harg8 arg12 arg13 x1 x4 x5 x6, v805 c arg3 harg3 arg6 harg6 arg7 harg7 arg8 harg8 arg12 arg13 x1 x4 x5 x6, v923 c arg3 harg3 arg6 harg6 arg7 harg7 arg8 harg8 arg12 arg13 x1 x4 x5 x6]
  cm := ![v570 c arg3 harg3 arg4 harg4 arg6 harg6 arg7 harg7 arg8 harg8 arg11 arg13 x1 x2 x4 x5 x6, v688 c arg3 harg3 arg4 harg4 arg6 harg6 arg7 harg7 arg8 harg8 arg11 arg13 x1 x2 x4 x5 x6, v806 c arg3 harg3 arg4 harg4 arg6 harg6 arg7 harg7 arg8 harg8 arg11 arg13 x1 x2 x4 x5 x6, v924 c arg3 harg3 arg4 harg4 arg6 harg6 arg7 harg7 arg8 harg8 arg11 arg13 x1 x2 x4 x5 x6]

end Cert.M

end
-- ==== Proof.MRunAM.lean ====
module

public import proofs.«01_k».proof.Proof.MRun

/-! # The stores into the stabilisers, a batch's first point -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- The stores of the first chunk. -/
theorem firstA_m : kernelRun0_A.sl.HS2_5 c arg6 harg6 arg7 harg7 arg8 harg8 arg13 x4 x5 x6 = four (mPiece (loads arg2 harg2 arg3 harg3 arg4 harg4 arg5 harg5 arg6 harg6 arg7 harg7 arg8 harg8 arg9 harg9 x0 x1 x2 x3 x4 x5 x6 x7) (heldA0 c arg3 harg3 arg4 harg4 arg6 harg6 arg7 harg7 arg8 harg8 arg11 arg12 arg13 x1 x2 x4 x5 x6) 0) ++ kernelRun0_A.sl.HS2_1 := by apply Eq.refl

variable (hc0 : cond0_0 i)

/-- The stores of both chunks. -/
theorem runA_m : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.1 = four (mPiece (loads arg2 harg2 arg3 harg3 arg4 harg4 arg5 harg5 arg6 harg6 arg7 harg7 arg8 harg8 arg9 harg9 x0 x1 x2 x3 x4 x5 x6 x7) (heldA1 c arg3 harg3 arg4 harg4 arg6 harg6 arg7 harg7 arg8 harg8 arg11 arg12 arg13 x1 x2 x4 x5 x6) 1) ++ kernelRun0_A.sl.HS2_5 c arg6 harg6 arg7 harg7 arg8 harg8 arg13 x4 x5 x6 := by apply Eq.refl

end Cert.M

end
-- ==== Proof.MRunAN.lean ====
module

public import proofs.«01_k».proof.Proof.MRun

/-! # The stores into the normalisers, a batch's first point -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- The stores of the first chunk. -/
theorem firstA_n : kernelRun0_A.sl.HS1_5 c arg3 harg3 arg6 harg6 arg7 harg7 arg8 harg8 arg12 arg13 x1 x4 x5 x6 = four (nPiece (loads arg2 harg2 arg3 harg3 arg4 harg4 arg5 harg5 arg6 harg6 arg7 harg7 arg8 harg8 arg9 harg9 x0 x1 x2 x3 x4 x5 x6 x7) (heldA0 c arg3 harg3 arg4 harg4 arg6 harg6 arg7 harg7 arg8 harg8 arg11 arg12 arg13 x1 x2 x4 x5 x6) 0) ++ kernelRun0_A.sl.HS1_1 := by apply Eq.refl

variable (hc0 : cond0_0 i)

/-- The stores of both chunks. -/
theorem runA_n : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1 = four (nPiece (loads arg2 harg2 arg3 harg3 arg4 harg4 arg5 harg5 arg6 harg6 arg7 harg7 arg8 harg8 arg9 harg9 x0 x1 x2 x3 x4 x5 x6 x7) (heldA1 c arg3 harg3 arg4 harg4 arg6 harg6 arg7 harg7 arg8 harg8 arg11 arg12 arg13 x1 x2 x4 x5 x6) 1) ++ kernelRun0_A.sl.HS1_5 c arg3 harg3 arg6 harg6 arg7 harg7 arg8 harg8 arg12 arg13 x1 x4 x5 x6 := by apply Eq.refl

end Cert.M

end
-- ==== Proof.MRunACm.lean ====
module

public import proofs.«01_k».proof.Proof.MRun

/-! # The stores into the memories, a batch's first point -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- The stores of the first chunk. -/
theorem firstA_cm : kernelRun0_A.sl.HS0_5 c arg3 harg3 arg4 harg4 arg6 harg6 arg7 harg7 arg8 harg8 arg11 arg13 x1 x2 x4 x5 x6 = four (cmPiece (loads arg2 harg2 arg3 harg3 arg4 harg4 arg5 harg5 arg6 harg6 arg7 harg7 arg8 harg8 arg9 harg9 x0 x1 x2 x3 x4 x5 x6 x7) (heldA0 c arg3 harg3 arg4 harg4 arg6 harg6 arg7 harg7 arg8 harg8 arg11 arg12 arg13 x1 x2 x4 x5 x6) 0) ++ kernelRun0_A.sl.HS0_1 := by apply Eq.refl

variable (hc0 : cond0_0 i)

/-- The stores of both chunks. -/
theorem runA_cm : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 = four (cmPiece (loads arg2 harg2 arg3 harg3 arg4 harg4 arg5 harg5 arg6 harg6 arg7 harg7 arg8 harg8 arg9 harg9 x0 x1 x2 x3 x4 x5 x6 x7) (heldA1 c arg3 harg3 arg4 harg4 arg6 harg6 arg7 harg7 arg8 harg8 arg11 arg12 arg13 x1 x2 x4 x5 x6) 1) ++ kernelRun0_A.sl.HS0_5 c arg3 harg3 arg4 harg4 arg6 harg6 arg7 harg7 arg8 harg8 arg11 arg13 x1 x2 x4 x5 x6 := by apply Eq.refl

end Cert.M

end
-- ==== Proof.MReadA.lean ====
module

public import proofs.«01_k».proof.Proof.MHeads
public import proofs.«01_k».proof.Proof.MRunAM
public import proofs.«01_k».proof.Proof.MRunAN
public import proofs.«01_k».proof.Proof.MRunACm

/-! # What a point reads of the scratch, a batch's first point

Before the second chunk a head reads what the first chunk stored; before the first, the zeros that the point stores. -/

@[expose] public section

set_option maxRecDepth 16384
set_option maxHeartbeats 1000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- The first chunk reads the zeros. -/
theorem startA_m (h : Fin 4) : ((heldA0 c arg3 harg3 arg4 harg4 arg6 harg6 arg7 harg7 arg8 harg8 arg11 arg12 arg13 x1 x2 x4 x5 x6)).m h (ix2 0 0) = 0 := by
  have key : ∀ h : Fin 4, View.canon (kernelRun0_A.sl.HS2_1 (F := Ideal)) (ix2 (row8 h) 0) = 0 := fun h => by
    refine (hit (s := S8x128) (e := .f32) ![0, 0] S8x128.size (by decide) (k0_pay4 (F := Ideal)) [] (ix2 (row8 h) 0) (ix2 (row8 h) 0) fun b => ?_).trans ?_
    · match b with
      | 0 => exact (Nat.zero_add _).symm
      | 1 => exact (Nat.zero_add _).symm
    · pointwise [k0_pay4]
  exact (heads_m arg13.view _ _ _ _ (by decide) h).trans (key h)

/-- The first chunk reads the zeros. -/
theorem startA_n (h : Fin 4) (j : Fin 64) : ((heldA0 c arg3 harg3 arg4 harg4 arg6 harg6 arg7 harg7 arg8 harg8 arg11 arg12 arg13 x1 x2 x4 x5 x6)).n h (ix2 0 j) = 0 := by
  have key : ∀ h : Fin 4, View.canon (kernelRun0_A.sl.HS1_1 (F := Ideal)) (ix2 (row8 h) j) = 0 := fun h => by
    refine (hit (s := S8x64) (e := .f32) ![0, 0] S8x64.size (by decide) (k0_pay3 (F := Ideal)) [] (ix2 (row8 h) j) (ix2 (row8 h) j) fun b => ?_).trans ?_
    · match b with
      | 0 => exact (Nat.zero_add _).symm
      | 1 => exact (Nat.zero_add _).symm
    · pointwise [k0_pay3]
  exact (heads_n arg12.view _ _ _ _ h j).trans (key h)

/-- The first chunk reads the zeros. -/
theorem startA_cm (h : Fin 4) (a d : Fin 64) : ((heldA0 c arg3 harg3 arg4 harg4 arg6 harg6 arg7 harg7 arg8 harg8 arg11 arg12 arg13 x1 x2 x4 x5 x6)).cm h (ix3 0 a d) = 0 := by
  have key : ∀ h : Fin 4, View.canon (kernelRun0_A.sl.HS0_1 (F := Ideal)) (ix3 h a d) = 0 := fun h => by
    refine (hit (s := S4x64x64) (e := .f32) ![0, 0, 0] S4x64x64.size (by decide) (k0_pay2 (F := Ideal)) [] (ix3 h a d) (ix3 h a d) fun b => ?_).trans ?_
    · match b with
      | 0 => exact (Nat.zero_add _).symm
      | 1 => exact (Nat.zero_add _).symm
      | 2 => exact (Nat.zero_add _).symm
    · pointwise [k0_pay2]
  exact (heads_cm arg11.view _ _ _ _ h a d).trans (key h)

/-- The second chunk reads what the first left. -/
theorem readA_m (h : Fin 4) :
    ((heldA1 c arg3 harg3 arg4 harg4 arg6 harg6 arg7 harg7 arg8 harg8 arg11 arg12 arg13 x1 x2 x4 x5 x6)).m h (ix2 0 0) = ((loads arg2 harg2 arg3 harg3 arg4 harg4 arg5 harg5 arg6 harg6 arg7 harg7 arg8 harg8 arg9 harg9 x0 x1 x2 x3 x4 x5 x6 x7)).chM 0 h (heldA0 c arg3 harg3 arg4 harg4 arg6 harg6 arg7 harg7 arg8 harg8 arg11 arg12 arg13 x1 x2 x4 x5 x6) (ix2 0 0) := by
  have key : ∀ h : Fin 4, View.canon (kernelRun0_A.sl.HS2_5 c arg6 harg6 arg7 harg7 arg8 harg8 arg13 x4 x5 x6) (ix2 (row8 h) 0) = ((loads arg2 harg2 arg3 harg3 arg4 harg4 arg5 harg5 arg6 harg6 arg7 harg7 arg8 harg8 arg9 harg9 x0 x1 x2 x3 x4 x5 x6 x7)).chM 0 h (heldA0 c arg3 harg3 arg4 harg4 arg6 harg6 arg7 harg7 arg8 harg8 arg11 arg12 arg13 x1 x2 x4 x5 x6) (ix2 0 0) := fun h => by
    rw [firstA_m c arg2 harg2 arg3 harg3 arg4 harg4 arg5 harg5 arg6 harg6 arg7 harg7 arg8 harg8 arg9 harg9 arg11 arg12 arg13 x0 x1 x2 x3 x4 x5 x6 x7]
    exact canon_m _ _ 0 kernelRun0_A.sl.HS2_1 h 0
  exact (heads_m arg13.view _ _ _ _ (by decide) h).trans (key h)

/-- The second chunk reads what the first left. -/
theorem readA_n (h : Fin 4) (j : Fin 64) :
    ((heldA1 c arg3 harg3 arg4 harg4 arg6 harg6 arg7 harg7 arg8 harg8 arg11 arg12 arg13 x1 x2 x4 x5 x6)).n h (ix2 0 j) = ((loads arg2 harg2 arg3 harg3 arg4 harg4 arg5 harg5 arg6 harg6 arg7 harg7 arg8 harg8 arg9 harg9 x0 x1 x2 x3 x4 x5 x6 x7)).chN 0 h (heldA0 c arg3 harg3 arg4 harg4 arg6 harg6 arg7 harg7 arg8 harg8 arg11 arg12 arg13 x1 x2 x4 x5 x6) (ix2 0 j) := by
  have key : ∀ h : Fin 4, View.canon (kernelRun0_A.sl.HS1_5 c arg3 harg3 arg6 harg6 arg7 harg7 arg8 harg8 arg12 arg13 x1 x4 x5 x6) (ix2 (row8 h) j) = ((loads arg2 harg2 arg3 harg3 arg4 harg4 arg5 harg5 arg6 harg6 arg7 harg7 arg8 harg8 arg9 harg9 x0 x1 x2 x3 x4 x5 x6 x7)).chN 0 h (heldA0 c arg3 harg3 arg4 harg4 arg6 harg6 arg7 harg7 arg8 harg8 arg11 arg12 arg13 x1 x2 x4 x5 x6) (ix2 0 j) := fun h => by
    rw [firstA_n c arg2 harg2 arg3 harg3 arg4 harg4 arg5 harg5 arg6 harg6 arg7 harg7 arg8 harg8 arg9 harg9 arg11 arg12 arg13 x0 x1 x2 x3 x4 x5 x6 x7]
    exact canon_n _ _ 0 kernelRun0_A.sl.HS1_1 h j
  exact (heads_n arg12.view _ _ _ _ h j).trans (key h)

/-- The second chunk reads what the first left. -/
theorem readA_cm (h : Fin 4) (a d : Fin 64) :
    ((heldA1 c arg3 harg3 arg4 harg4 arg6 harg6 arg7 harg7 arg8 harg8 arg11 arg12 arg13 x1 x2 x4 x5 x6)).cm h (ix3 0 a d) = ((loads arg2 harg2 arg3 harg3 arg4 harg4 arg5 harg5 arg6 harg6 arg7 harg7 arg8 harg8 arg9 harg9 x0 x1 x2 x3 x4 x5 x6 x7)).chC 0 h (heldA0 c arg3 harg3 arg4 harg4 arg6 harg6 arg7 harg7 arg8 harg8 arg11 arg12 arg13 x1 x2 x4 x5 x6) (ix3 0 a d) := by
  have key : ∀ h : Fin 4, View.canon (kernelRun0_A.sl.HS0_5 c arg3 harg3 arg4 harg4 arg6 harg6 arg7 harg7 arg8 harg8 arg11 arg13 x1 x2 x4 x5 x6) (ix3 h a d) = ((loads arg2 harg2 arg3 harg3 arg4 harg4 arg5 harg5 arg6 harg6 arg7 harg7 arg8 harg8 arg9 harg9 x0 x1 x2 x3 x4 x5 x6 x7)).chC 0 h (heldA0 c arg3 harg3 arg4 harg4 arg6 harg6 arg7 harg7 arg8 harg8 arg11 arg12 arg13 x1 x2 x4 x5 x6) (ix3 0 a d) := fun h => by
    rw [firstA_cm c arg2 harg2 arg3 harg3 arg4 harg4 arg5 harg5 arg6 harg6 arg7 harg7 arg8 harg8 arg9 harg9 arg11 arg12 arg13 x0 x1 x2 x3 x4 x5 x6 x7]
    exact canon_cm _ _ 0 kernelRun0_A.sl.HS0_1 h a d
  exact (heads_cm arg11.view _ _ _ _ h a d).trans (key h)

end Cert.M

end
-- ==== Proof.MOut.lean ====
module

public import proofs.«01_k».proof.Proof.MChain

/-! # The stores into the output, from what the heads give -/

@[expose] public section

set_option maxRecDepth 16384

noncomputable section

namespace Cert.M

open Idealize.ShloMosaic Cert.KernelIdeal Cert.KernelIdeal.Gen

/-- The store of a head's result `z`. -/
def put (o : Vec Ideal S128x256 .f32) (g : Vec Ideal S1x256 .f32) (c : Fin 2) (h : Fin 4) (z : FVec Ideal S64x64 .f32) : View.Piece (Elt Ideal) S128x256 .f32 :=
  ⟨Rect.unit ![64 * c.val, 64 * h.val] S64x64.size (out_inb c h),
    outV (cut o c h) z (extractStridedSlice S1x64 ![0, 64 * h.val] (shapeCast S1x256 g shapeCasts_S1x256_S1x256) (scale_ok h))⟩

/-- The stores of a point, the last first, from what each chunk and head gives. -/
def puts (o : Vec Ideal S128x256 .f32) (g : Vec Ideal S1x256 .f32) (z00 z01 z02 z03 z10 z11 z12 z13 : FVec Ideal S64x64 .f32) : List (View.Piece (Elt Ideal) S128x256 .f32) :=
  [put o g 1 3 z13, put o g 1 2 z12, put o g 1 1 z11, put o g 1 0 z10, put o g 0 3 z03, put o g 0 2 z02, put o g 0 1 z01, put o g 0 0 z00]

theorem puts_eq (I : Ins) (H0 H1 : Held) (z00 z01 z02 z03 z10 z11 z12 z13 : FVec Ideal S64x64 .f32)
    (h00 : z00 = hhV (cut I.q 0 0) (cut I.k 0 0) (cut I.v 0 0) (Ins.sq H0 0) (I.br 0 0) (I.ir 0 0) (H0.n 0) (I.bc 0 0) (H0.m 0))
    (h01 : z01 = hhV (cut I.q 0 1) (cut I.k 0 1) (cut I.v 0 1) (Ins.sq H0 1) (I.br 0 1) (I.ir 0 1) (H0.n 1) (I.bc 0 1) (H0.m 1))
    (h02 : z02 = hhV (cut I.q 0 2) (cut I.k 0 2) (cut I.v 0 2) (Ins.sq H0 2) (I.br 0 2) (I.ir 0 2) (H0.n 2) (I.bc 0 2) (H0.m 2))
    (h03 : z03 = hhV (cut I.q 0 3) (cut I.k 0 3) (cut I.v 0 3) (Ins.sq H0 3) (I.br 0 3) (I.ir 0 3) (H0.n 3) (I.bc 0 3) (H0.m 3))
    (h10 : z10 = hhV (cut I.q 1 0) (cut I.k 1 0) (cut I.v 1 0) (Ins.sq H1 0) (I.br 1 0) (I.ir 1 0) (H1.n 0) (I.bc 1 0) (H1.m 0))
    (h11 : z11 = hhV (cut I.q 1 1) (cut I.k 1 1) (cut I.v 1 1) (Ins.sq H1 1) (I.br 1 1) (I.ir 1 1) (H1.n 1) (I.bc 1 1) (H1.m 1))
    (h12 : z12 = hhV (cut I.q 1 2) (cut I.k 1 2) (cut I.v 1 2) (Ins.sq H1 2) (I.br 1 2) (I.ir 1 2) (H1.n 2) (I.bc 1 2) (H1.m 2))
    (h13 : z13 = hhV (cut I.q 1 3) (cut I.k 1 3) (cut I.v 1 3) (Ins.sq H1 3) (I.br 1 3) (I.ir 1 3) (H1.n 3) (I.bc 1 3) (H1.m 3))
    : puts I.o I.g z00 z01 z02 z03 z10 z11 z12 z13 = four (outPiece I H1 1) ++ four (outPiece I H0 0) := by
  subst h00 h01 h02 h03 h10 h11 h12 h13
  rfl

end Cert.M

end
-- ==== Proof.MRunAH0.lean ====
module

public import proofs.«01_k».proof.Proof.MRun

/-! # What the heads give, first chunk, a batch's first point -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- What chunk 0 of head 0 gives. -/
theorem givesA_00 : kernelRun0_A.sl.r_23 c arg2 harg2 arg3 harg3 arg4 harg4 arg6 harg6 arg7 harg7 arg8 harg8 arg11 arg12 arg13 x0 x1 x2 x4 x5 x6
    = hhV (cut (loads arg2 harg2 arg3 harg3 arg4 harg4 arg5 harg5 arg6 harg6 arg7 harg7 arg8 harg8 arg9 harg9 x0 x1 x2 x3 x4 x5 x6 x7).q 0 0) (cut (loads arg2 harg2 arg3 harg3 arg4 harg4 arg5 harg5 arg6 harg6 arg7 harg7 arg8 harg8 arg9 harg9 x0 x1 x2 x3 x4 x5 x6 x7).k 0 0) (cut (loads arg2 harg2 arg3 harg3 arg4 harg4 arg5 harg5 arg6 harg6 arg7 harg7 arg8 harg8 arg9 harg9 x0 x1 x2 x3 x4 x5 x6 x7).v 0 0) (Ins.sq (heldA0 c arg3 harg3 arg4 harg4 arg6 harg6 arg7 harg7 arg8 harg8 arg11 arg12 arg13 x1 x2 x4 x5 x6) 0) ((loads arg2 harg2 arg3 harg3 arg4 harg4 arg5 harg5 arg6 harg6 arg7 harg7 arg8 harg8 arg9 harg9 x0 x1 x2 x3 x4 x5 x6 x7).br 0 0) ((loads arg2 harg2 arg3 harg3 arg4 harg4 arg5 harg5 arg6 harg6 arg7 harg7 arg8 harg8 arg9 harg9 x0 x1 x2 x3 x4 x5 x6 x7).ir 0 0) ((heldA0 c arg3 harg3 arg4 harg4 arg6 harg6 arg7 harg7 arg8 harg8 arg11 arg12 arg13 x1 x2 x4 x5 x6).n 0) ((loads arg2 harg2 arg3 harg3 arg4 harg4 arg5 harg5 arg6 harg6 arg7 harg7 arg8 harg8 arg9 harg9 x0 x1 x2 x3 x4 x5 x6 x7).bc 0 0) ((heldA0 c arg3 harg3 arg4 harg4 arg6 harg6 arg7 harg7 arg8 harg8 arg11 arg12 arg13 x1 x2 x4 x5 x6).m 0) := by apply Eq.refl

/-- What chunk 0 of head 1 gives. -/
theorem givesA_01 : kernelRun0_A.sl.r_36 c arg2 harg2 arg3 harg3 arg4 harg4 arg6 harg6 arg7 harg7 arg8 harg8 arg11 arg12 arg13 x0 x1 x2 x4 x5 x6
    = hhV (cut (loads arg2 harg2 arg3 harg3 arg4 harg4 arg5 harg5 arg6 harg6 arg7 harg7 arg8 harg8 arg9 harg9 x0 x1 x2 x3 x4 x5 x6 x7).q 0 1) (cut (loads arg2 harg2 arg3 harg3 arg4 harg4 arg5 harg5 arg6 harg6 arg7 harg7 arg8 harg8 arg9 harg9 x0 x1 x2 x3 x4 x5 x6 x7).k 0 1) (cut (loads arg2 harg2 arg3 harg3 arg4 harg4 arg5 harg5 arg6 harg6 arg7 harg7 arg8 harg8 arg9 harg9 x0 x1 x2 x3 x4 x5 x6 x7).v 0 1) (Ins.sq (heldA0 c arg3 harg3 arg4 harg4 arg6 harg6 arg7 harg7 arg8 harg8 arg11 arg12 arg13 x1 x2 x4 x5 x6) 1) ((loads arg2 harg2 arg3 harg3 arg4 harg4 arg5 harg5 arg6 harg6 arg7 harg7 arg8 harg8 arg9 harg9 x0 x1 x2 x3 x4 x5 x6 x7).br 0 1) ((loads arg2 harg2 arg3 harg3 arg4 harg4 arg5 harg5 arg6 harg6 arg7 harg7 arg8 harg8 arg9 harg9 x0 x1 x2 x3 x4 x5 x6 x7).ir 0 1) ((heldA0 c arg3 harg3 arg4 harg4 arg6 harg6 arg7 harg7 arg8 harg8 arg11 arg12 arg13 x1 x2 x4 x5 x6).n 1) ((loads arg2 harg2 arg3 harg3 arg4 harg4 arg5 harg5 arg6 harg6 arg7 harg7 arg8 harg8 arg9 harg9 x0 x1 x2 x3 x4 x5 x6 x7).bc 0 1) ((heldA0 c arg3 harg3 arg4 harg4 arg6 harg6 arg7 harg7 arg8 harg8 arg11 arg12 arg13 x1 x2 x4 x5 x6).m 1) := by apply Eq.refl

/-- What chunk 0 of head 2 gives. -/
theorem givesA_02 : kernelRun0_A.sl.r_54 c arg2 harg2 arg3 harg3 arg4 harg4 arg6 harg6 arg7 harg7 arg8 harg8 arg11 arg12 arg13 x0 x1 x2 x4 x5 x6
    = hhV (cut (loads arg2 harg2 arg3 harg3 arg4 harg4 arg5 harg5 arg6 harg6 arg7 harg7 arg8 harg8 arg9 harg9 x0 x1 x2 x3 x4 x5 x6 x7).q 0 2) (cut (loads arg2 harg2 arg3 harg3 arg4 harg4 arg5 harg5 arg6 harg6 arg7 harg7 arg8 harg8 arg9 harg9 x0 x1 x2 x3 x4 x5 x6 x7).k 0 2) (cut (loads arg2 harg2 arg3 harg3 arg4 harg4 arg5 harg5 arg6 harg6 arg7 harg7 arg8 harg8 arg9 harg9 x0 x1 x2 x3 x4 x5 x6 x7).v 0 2) (Ins.sq (heldA0 c arg3 harg3 arg4 harg4 arg6 harg6 arg7 harg7 arg8 harg8 arg11 arg12 arg13 x1 x2 x4 x5 x6) 2) ((loads arg2 harg2 arg3 harg3 arg4 harg4 arg5 harg5 arg6 harg6 arg7 harg7 arg8 harg8 arg9 harg9 x0 x1 x2 x3 x4 x5 x6 x7).br 0 2) ((loads arg2 harg2 arg3 harg3 arg4 harg4 arg5 harg5 arg6 harg6 arg7 harg7 arg8 harg8 arg9 harg9 x0 x1 x2 x3 x4 x5 x6 x7).ir 0 2) ((heldA0 c arg3 harg3 arg4 harg4 arg6 harg6 arg7 harg7 arg8 harg8 arg11 arg12 arg13 x1 x2 x4 x5 x6).n 2) ((loads arg2 harg2 arg3 harg3 arg4 harg4 arg5 harg5 arg6 harg6 arg7 harg7 arg8 harg8 arg9 harg9 x0 x1 x2 x3 x4 x5 x6 x7).bc 0 2) ((heldA0 c arg3 harg3 arg4 harg4 arg6 harg6 arg7 harg7 arg8 harg8 arg11 arg12 arg13 x1 x2 x4 x5 x6).m 2) := by apply Eq.refl

/-- What chunk 0 of head 3 gives. -/
theorem givesA_03 : kernelRun0_A.sl.r_71 c arg2 harg2 arg3 harg3 arg4 harg4 arg6 harg6 arg7 harg7 arg8 harg8 arg11 arg12 arg13 x0 x1 x2 x4 x5 x6
    = hhV (cut (loads arg2 harg2 arg3 harg3 arg4 harg4 arg5 harg5 arg6 harg6 arg7 harg7 arg8 harg8 arg9 harg9 x0 x1 x2 x3 x4 x5 x6 x7).q 0 3) (cut (loads arg2 harg2 arg3 harg3 arg4 harg4 arg5 harg5 arg6 harg6 arg7 harg7 arg8 harg8 arg9 harg9 x0 x1 x2 x3 x4 x5 x6 x7).k 0 3) (cut (loads arg2 harg2 arg3 harg3 arg4 harg4 arg5 harg5 arg6 harg6 arg7 harg7 arg8 harg8 arg9 harg9 x0 x1 x2 x3 x4 x5 x6 x7).v 0 3) (Ins.sq (heldA0 c arg3 harg3 arg4 harg4 arg6 harg6 arg7 harg7 arg8 harg8 arg11 arg12 arg13 x1 x2 x4 x5 x6) 3) ((loads arg2 harg2 arg3 harg3 arg4 harg4 arg5 harg5 arg6 harg6 arg7 harg7 arg8 harg8 arg9 harg9 x0 x1 x2 x3 x4 x5 x6 x7).br 0 3) ((loads arg2 harg2 arg3 harg3 arg4 harg4 arg5 harg5 arg6 harg6 arg7 harg7 arg8 harg8 arg9 harg9 x0 x1 x2 x3 x4 x5 x6 x7).ir 0 3) ((heldA0 c arg3 harg3 arg4 harg4 arg6 harg6 arg7 harg7 arg8 harg8 arg11 arg12 arg13 x1 x2 x4 x5 x6).n 3) ((loads arg2 harg2 arg3 harg3 arg4 harg4 arg5 harg5 arg6 harg6 arg7 harg7 arg8 harg8 arg9 harg9 x0 x1 x2 x3 x4 x5 x6 x7).bc 0 3) ((heldA0 c arg3 harg3 arg4 harg4 arg6 harg6 arg7 harg7 arg8 harg8 arg11 arg12 arg13 x1 x2 x4 x5 x6).m 3) := by apply Eq.refl

end Cert.M

end
-- ==== Proof.MRunAH1.lean ====
module

public import proofs.«01_k».proof.Proof.MRun

/-! # What the heads give, second chunk, a batch's first point -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- What chunk 1 of head 0 gives. -/
theorem givesA_10 : kernelRun0_A.sl.r_84 c arg2 harg2 arg3 harg3 arg4 harg4 arg6 harg6 arg7 harg7 arg8 harg8 arg11 arg12 arg13 x0 x1 x2 x4 x5 x6
    = hhV (cut (loads arg2 harg2 arg3 harg3 arg4 harg4 arg5 harg5 arg6 harg6 arg7 harg7 arg8 harg8 arg9 harg9 x0 x1 x2 x3 x4 x5 x6 x7).q 1 0) (cut (loads arg2 harg2 arg3 harg3 arg4 harg4 arg5 harg5 arg6 harg6 arg7 harg7 arg8 harg8 arg9 harg9 x0 x1 x2 x3 x4 x5 x6 x7).k 1 0) (cut (loads arg2 harg2 arg3 harg3 arg4 harg4 arg5 harg5 arg6 harg6 arg7 harg7 arg8 harg8 arg9 harg9 x0 x1 x2 x3 x4 x5 x6 x7).v 1 0) (Ins.sq (heldA1 c arg3 harg3 arg4 harg4 arg6 harg6 arg7 harg7 arg8 harg8 arg11 arg12 arg13 x1 x2 x4 x5 x6) 0) ((loads arg2 harg2 arg3 harg3 arg4 harg4 arg5 harg5 arg6 harg6 arg7 harg7 arg8 harg8 arg9 harg9 x0 x1 x2 x3 x4 x5 x6 x7).br 1 0) ((loads arg2 harg2 arg3 harg3 arg4 harg4 arg5 harg5 arg6 harg6 arg7 harg7 arg8 harg8 arg9 harg9 x0 x1 x2 x3 x4 x5 x6 x7).ir 1 0) ((heldA1 c arg3 harg3 arg4 harg4 arg6 harg6 arg7 harg7 arg8 harg8 arg11 arg12 arg13 x1 x2 x4 x5 x6).n 0) ((loads arg2 harg2 arg3 harg3 arg4 harg4 arg5 harg5 arg6 harg6 arg7 harg7 arg8 harg8 arg9 harg9 x0 x1 x2 x3 x4 x5 x6 x7).bc 1 0) ((heldA1 c arg3 harg3 arg4 harg4 arg6 harg6 arg7 harg7 arg8 harg8 arg11 arg12 arg13 x1 x2 x4 x5 x6).m 0) := by apply Eq.refl

/-- What chunk 1 of head 1 gives. -/
theorem givesA_11 : kernelRun0_A.sl.r_102 c arg2 harg2 arg3 harg3 arg4 harg4 arg6 harg6 arg7 harg7 arg8 harg8 arg11 arg12 arg13 x0 x1 x2 x4 x5 x6
    = hhV (cut (loads arg2 harg2 arg3 harg3 arg4 harg4 arg5 harg5 arg6 harg6 arg7 harg7 arg8 harg8 arg9 harg9 x0 x1 x2 x3 x4 x5 x6 x7).q 1 1) (cut (loads arg2 harg2 arg3 harg3 arg4 harg4 arg5 harg5 arg6 harg6 arg7 harg7 arg8 harg8 arg9 harg9 x0 x1 x2 x3 x4 x5 x6 x7).k 1 1) (cut (loads arg2 harg2 arg3 harg3 arg4 harg4 arg5 harg5 arg6 harg6 arg7 harg7 arg8 harg8 arg9 harg9 x0 x1 x2 x3 x4 x5 x6 x7).v 1 1) (Ins.sq (heldA1 c arg3 harg3 arg4 harg4 arg6 harg6 arg7 harg7 arg8 harg8 arg11 arg12 arg13 x1 x2 x4 x5 x6) 1) ((loads arg2 harg2 arg3 harg3 arg4 harg4 arg5 harg5 arg6 harg6 arg7 harg7 arg8 harg8 arg9 harg9 x0 x1 x2 x3 x4 x5 x6 x7).br 1 1) ((loads arg2 harg2 arg3 harg3 arg4 harg4 arg5 harg5 arg6 harg6 arg7 harg7 arg8 harg8 arg9 harg9 x0 x1 x2 x3 x4 x5 x6 x7).ir 1 1) ((heldA1 c arg3 harg3 arg4 harg4 arg6 harg6 arg7 harg7 arg8 harg8 arg11 arg12 arg13 x1 x2 x4 x5 x6).n 1) ((loads arg2 harg2 arg3 harg3 arg4 harg4 arg5 harg5 arg6 harg6 arg7 harg7 arg8 harg8 arg9 harg9 x0 x1 x2 x3 x4 x5 x6 x7).bc 1 1) ((heldA1 c arg3 harg3 arg4 harg4 arg6 harg6 arg7 harg7 arg8 harg8 arg11 arg12 arg13 x1 x2 x4 x5 x6).m 1) := by apply Eq.refl

/-- What chunk 1 of head 2 gives. -/
theorem givesA_12 : kernelRun0_A.sl.r_115 c arg2 harg2 arg3 harg3 arg4 harg4 arg6 harg6 arg7 harg7 arg8 harg8 arg11 arg12 arg13 x0 x1 x2 x4 x5 x6
    = hhV (cut (loads arg2 harg2 arg3 harg3 arg4 harg4 arg5 harg5 arg6 harg6 arg7 harg7 arg8 harg8 arg9 harg9 x0 x1 x2 x3 x4 x5 x6 x7).q 1 2) (cut (loads arg2 harg2 arg3 harg3 arg4 harg4 arg5 harg5 arg6 harg6 arg7 harg7 arg8 harg8 arg9 harg9 x0 x1 x2 x3 x4 x5 x6 x7).k 1 2) (cut (loads arg2 harg2 arg3 harg3 arg4 harg4 arg5 harg5 arg6 harg6 arg7 harg7 arg8 harg8 arg9 harg9 x0 x1 x2 x3 x4 x5 x6 x7).v 1 2) (Ins.sq (heldA1 c arg3 harg3 arg4 harg4 arg6 harg6 arg7 harg7 arg8 harg8 arg11 arg12 arg13 x1 x2 x4 x5 x6) 2) ((loads arg2 harg2 arg3 harg3 arg4 harg4 arg5 harg5 arg6 harg6 arg7 harg7 arg8 harg8 arg9 harg9 x0 x1 x2 x3 x4 x5 x6 x7).br 1 2) ((loads arg2 harg2 arg3 harg3 arg4 harg4 arg5 harg5 arg6 harg6 arg7 harg7 arg8 harg8 arg9 harg9 x0 x1 x2 x3 x4 x5 x6 x7).ir 1 2) ((heldA1 c arg3 harg3 arg4 harg4 arg6 harg6 arg7 harg7 arg8 harg8 arg11 arg12 arg13 x1 x2 x4 x5 x6).n 2) ((loads arg2 harg2 arg3 harg3 arg4 harg4 arg5 harg5 arg6 harg6 arg7 harg7 arg8 harg8 arg9 harg9 x0 x1 x2 x3 x4 x5 x6 x7).bc 1 2) ((heldA1 c arg3 harg3 arg4 harg4 arg6 harg6 arg7 harg7 arg8 harg8 arg11 arg12 arg13 x1 x2 x4 x5 x6).m 2) := by apply Eq.refl

/-- What chunk 1 of head 3 gives. -/
theorem givesA_13 : kernelRun0_A.sl.r_135 c arg2 harg2 arg3 harg3 arg4 harg4 arg6 harg6 arg7 harg7 arg8 harg8 arg11 arg12 arg13 x0 x1 x2 x4 x5 x6
    = hhV (cut (loads arg2 harg2 arg3 harg3 arg4 harg4 arg5 harg5 arg6 harg6 arg7 harg7 arg8 harg8 arg9 harg9 x0 x1 x2 x3 x4 x5 x6 x7).q 1 3) (cut (loads arg2 harg2 arg3 harg3 arg4 harg4 arg5 harg5 arg6 harg6 arg7 harg7 arg8 harg8 arg9 harg9 x0 x1 x2 x3 x4 x5 x6 x7).k 1 3) (cut (loads arg2 harg2 arg3 harg3 arg4 harg4 arg5 harg5 arg6 harg6 arg7 harg7 arg8 harg8 arg9 harg9 x0 x1 x2 x3 x4 x5 x6 x7).v 1 3) (Ins.sq (heldA1 c arg3 harg3 arg4 harg4 arg6 harg6 arg7 harg7 arg8 harg8 arg11 arg12 arg13 x1 x2 x4 x5 x6) 3) ((loads arg2 harg2 arg3 harg3 arg4 harg4 arg5 harg5 arg6 harg6 arg7 harg7 arg8 harg8 arg9 harg9 x0 x1 x2 x3 x4 x5 x6 x7).br 1 3) ((loads arg2 harg2 arg3 harg3 arg4 harg4 arg5 harg5 arg6 harg6 arg7 harg7 arg8 harg8 arg9 harg9 x0 x1 x2 x3 x4 x5 x6 x7).ir 1 3) ((heldA1 c arg3 harg3 arg4 harg4 arg6 harg6 arg7 harg7 arg8 harg8 arg11 arg12 arg13 x1 x2 x4 x5 x6).n 3) ((loads arg2 harg2 arg3 harg3 arg4 harg4 arg5 harg5 arg6 harg6 arg7 harg7 arg8 harg8 arg9 harg9 x0 x1 x2 x3 x4 x5 x6 x7).bc 1 3) ((heldA1 c arg3 harg3 arg4 harg4 arg6 harg6 arg7 harg7 arg8 harg8 arg11 arg12 arg13 x1 x2 x4 x5 x6).m 3) := by apply Eq.refl

end Cert.M

end
-- ==== Proof.MRunAOut.lean ====
module

public import proofs.«01_k».proof.Proof.MOut
public import proofs.«01_k».proof.Proof.MRunAH0
public import proofs.«01_k».proof.Proof.MRunAH1

/-! # The stores into the output, a batch's first point -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

variable (hc0 : cond0_0 i)

/-- The stores, from what the heads give. -/
theorem putsA : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1
    = puts (loads arg2 harg2 arg3 harg3 arg4 harg4 arg5 harg5 arg6 harg6 arg7 harg7 arg8 harg8 arg9 harg9 x0 x1 x2 x3 x4 x5 x6 x7).o (loads arg2 harg2 arg3 harg3 arg4 harg4 arg5 harg5 arg6 harg6 arg7 harg7 arg8 harg8 arg9 harg9 x0 x1 x2 x3 x4 x5 x6 x7).g (kernelRun0_A.sl.r_23 c arg2 harg2 arg3 harg3 arg4 harg4 arg6 harg6 arg7 harg7 arg8 harg8 arg11 arg12 arg13 x0 x1 x2 x4 x5 x6)
      (kernelRun0_A.sl.r_36 c arg2 harg2 arg3 harg3 arg4 harg4 arg6 harg6 arg7 harg7 arg8 harg8 arg11 arg12 arg13 x0 x1 x2 x4 x5 x6)
      (kernelRun0_A.sl.r_54 c arg2 harg2 arg3 harg3 arg4 harg4 arg6 harg6 arg7 harg7 arg8 harg8 arg11 arg12 arg13 x0 x1 x2 x4 x5 x6)
      (kernelRun0_A.sl.r_71 c arg2 harg2 arg3 harg3 arg4 harg4 arg6 harg6 arg7 harg7 arg8 harg8 arg11 arg12 arg13 x0 x1 x2 x4 x5 x6)
      (kernelRun0_A.sl.r_84 c arg2 harg2 arg3 harg3 arg4 harg4 arg6 harg6 arg7 harg7 arg8 harg8 arg11 arg12 arg13 x0 x1 x2 x4 x5 x6)
      (kernelRun0_A.sl.r_102 c arg2 harg2 arg3 harg3 arg4 harg4 arg6 harg6 arg7 harg7 arg8 harg8 arg11 arg12 arg13 x0 x1 x2 x4 x5 x6)
      (kernelRun0_A.sl.r_115 c arg2 harg2 arg3 harg3 arg4 harg4 arg6 harg6 arg7 harg7 arg8 harg8 arg11 arg12 arg13 x0 x1 x2 x4 x5 x6)
      (kernelRun0_A.sl.r_135 c arg2 harg2 arg3 harg3 arg4 harg4 arg6 harg6 arg7 harg7 arg8 harg8 arg11 arg12 arg13 x0 x1 x2 x4 x5 x6) := by apply Eq.refl

/-- The stores of both chunks. -/
theorem runA_out : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1
    = four (outPiece (loads arg2 harg2 arg3 harg3 arg4 harg4 arg5 harg5 arg6 harg6 arg7 harg7 arg8 harg8 arg9 harg9 x0 x1 x2 x3 x4 x5 x6 x7) (heldA1 c arg3 harg3 arg4 harg4 arg6 harg6 arg7 harg7 arg8 harg8 arg11 arg12 arg13 x1 x2 x4 x5 x6) 1) ++ four (outPiece (loads arg2 harg2 arg3 harg3 arg4 harg4 arg5 harg5 arg6 harg6 arg7 harg7 arg8 harg8 arg9 harg9 x0 x1 x2 x3 x4 x5 x6 x7) (heldA0 c arg3 harg3 arg4 harg4 arg6 harg6 arg7 harg7 arg8 harg8 arg11 arg12 arg13 x1 x2 x4 x5 x6) 0) :=
  (putsA c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).trans (puts_eq _ _ _ _ _ _ _ _ _ _ _
    (givesA_00 c arg2 harg2 arg3 harg3 arg4 harg4 arg5 harg5 arg6 harg6 arg7 harg7 arg8 harg8 arg9 harg9 arg11 arg12 arg13 x0 x1 x2 x3 x4 x5 x6 x7)
    (givesA_01 c arg2 harg2 arg3 harg3 arg4 harg4 arg5 harg5 arg6 harg6 arg7 harg7 arg8 harg8 arg9 harg9 arg11 arg12 arg13 x0 x1 x2 x3 x4 x5 x6 x7)
    (givesA_02 c arg2 harg2 arg3 harg3 arg4 harg4 arg5 harg5 arg6 harg6 arg7 harg7 arg8 harg8 arg9 harg9 arg11 arg12 arg13 x0 x1 x2 x3 x4 x5 x6 x7)
    (givesA_03 c arg2 harg2 arg3 harg3 arg4 harg4 arg5 harg5 arg6 harg6 arg7 harg7 arg8 harg8 arg9 harg9 arg11 arg12 arg13 x0 x1 x2 x3 x4 x5 x6 x7)
    (givesA_10 c arg2 harg2 arg3 harg3 arg4 harg4 arg5 harg5 arg6 harg6 arg7 harg7 arg8 harg8 arg9 harg9 arg11 arg12 arg13 x0 x1 x2 x3 x4 x5 x6 x7)
    (givesA_11 c arg2 harg2 arg3 harg3 arg4 harg4 arg5 harg5 arg6 harg6 arg7 harg7 arg8 harg8 arg9 harg9 arg11 arg12 arg13 x0 x1 x2 x3 x4 x5 x6 x7)
    (givesA_12 c arg2 harg2 arg3 harg3 arg4 harg4 arg5 harg5 arg6 harg6 arg7 harg7 arg8 harg8 arg9 harg9 arg11 arg12 arg13 x0 x1 x2 x3 x4 x5 x6 x7)
    (givesA_13 c arg2 harg2 arg3 harg3 arg4 harg4 arg5 harg5 arg6 harg6 arg7 harg7 arg8 harg8 arg9 harg9 arg11 arg12 arg13 x0 x1 x2 x3 x4 x5 x6 x7))

end Cert.M

end
-- ==== Proof.MLoads.lean ====
module

public import proofs.«01_k».proof.Proof.MChain
public import proofs.«01_k».proof.Proof.MRun

/-! # What a point loads of its windows is what they hold -/

@[expose] public section

set_option maxRecDepth 16384

noncomputable section

namespace Cert.M

open Idealize.ShloMosaic Idealize.ShloMosaic.TcCoe Idealize.SL.Sem Cert.KernelIdeal Cert.KernelIdeal.Gen

theorem whole_load {s : Shape} {e : EltTy} {sig : RefSig} {κ : Kind} {sp : Space} {mr : Memref sig κ sp s e} (hm : mr.IsWhole) (X : Vec Ideal s e)
    (off : Fin s.rank → ℕ) (h0 : ∀ a, off a = 0) (inb : ∀ a, off a + s.size a ≤ s.size a) :
    View.readAt (Elt Ideal) mr.view (Rect.unit off s.size inb).toLoadRect (hm.unread X) = X :=
  funext fun y => read_held hm X off s.size inb y y fun a => by rw [h0]; exact (Nat.zero_add _).symm

theorem zero2 : ∀ a, (![0, 0] : Fin 2 → ℕ) a = 0 := by decide

theorem loads_eq (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole)
    (x0 x1 x2 x3 : Vec Ideal S128x256 .f32) (x4 : Vec Ideal S128x128 .f32) (x5 x6 : Vec Ideal S8x1 .f32) (x7 : Vec Ideal S1x256 .f32) :
    loads arg2 harg2 arg3 harg3 arg4 harg4 arg5 harg5 arg6 harg6 arg7 harg7 arg8 harg8 arg9 harg9 x0 x1 x2 x3 x4 x5 x6 x7 = ⟨x0, x1, x2, x3, x4, x5, x6, x7⟩ := by
  have e0 := whole_load harg2 x0 _ zero2 inb_S128x256_S128x256_0_0
  have e1 := whole_load harg3 x1 _ zero2 inb_S128x256_S128x256_0_0
  have e2 := whole_load harg4 x2 _ zero2 inb_S128x256_S128x256_0_0
  have e3 := whole_load harg5 x3 _ zero2 inb_S128x256_S128x256_0_0
  have e4 := whole_load harg6 x4 _ zero2 inb_S128x128_S128x128_0_0
  have e5 := whole_load harg7 x5 _ zero2 inb_S8x1_S8x1_0_0
  have e6 := whole_load harg8 x6 _ zero2 inb_S8x1_S8x1_0_0
  have e7 := whole_load harg9 x7 _ zero2 inb_S1x256_S1x256_0_0
  unfold loads
  rw [e0, e1, e2, e3, e4, e5, e6, e7]

end Cert.M

end
-- ==== Proof.MPointA.lean ====
module

public import proofs.«01_k».proof.Proof.MReadA
public import proofs.«01_k».proof.Proof.MRunAOut
public import proofs.«01_k».proof.Proof.MLoads

/-! # What a point leaves, the first point of a batch

Two steps of the model: the scratch after them, and the rows of the output block. -/

@[expose] public section

set_option maxRecDepth 16384
set_option maxHeartbeats 1000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32)

/-- The state before the first chunk. -/
theorem startA (h : Fin 4) : stH (heldA0 c arg3 harg3 arg4 harg4 arg6 harg6 arg7 harg7 arg8 harg8 arg11 arg12 arg13 x1 x2 x4 x5 x6) h = ⟨fun _ _ => 0, fun _ => 0, 0⟩ := by
  ext1
  · funext a d
    show Ins.sq (heldA0 c arg3 harg3 arg4 harg4 arg6 harg6 arg7 harg7 arg8 harg8 arg11 arg12 arg13 x1 x2 x4 x5 x6) h (ix2 a d) = _
    refine Eq.trans ?_ (startA_cm c arg3 harg3 arg4 harg4 arg6 harg6 arg7 harg7 arg8 harg8 arg11 arg12 arg13 x1 x2 x4 x5 x6 h a d)
    pointwise [Ins.sq]
  · funext a
    exact startA_n c arg3 harg3 arg4 harg4 arg6 harg6 arg7 harg7 arg8 harg8 arg11 arg12 arg13 x1 x2 x4 x5 x6 h a
  · exact startA_m c arg3 harg3 arg4 harg4 arg6 harg6 arg7 harg7 arg8 harg8 arg11 arg12 arg13 x1 x2 x4 x5 x6 h

/-- The state between the chunks. -/
theorem midA (h : Fin 4) : stH (heldA1 c arg3 harg3 arg4 harg4 arg6 harg6 arg7 harg7 arg8 harg8 arg11 arg12 arg13 x1 x2 x4 x5 x6) h = next ((loads arg2 harg2 arg3 harg3 arg4 harg4 arg5 harg5 arg6 harg6 arg7 harg7 arg8 harg8 arg9 harg9 x0 x1 x2 x3 x4 x5 x6 x7).inp 0 h) (⟨fun _ _ => 0, fun _ => 0, 0⟩) := by
  rw [← startA c arg3 harg3 arg4 harg4 arg6 harg6 arg7 harg7 arg8 harg8 arg11 arg12 arg13 x1 x2 x4 x5 x6 h]
  refine st_next (loads arg2 harg2 arg3 harg3 arg4 harg4 arg5 harg5 arg6 harg6 arg7 harg7 arg8 harg8 arg9 harg9 x0 x1 x2 x3 x4 x5 x6 x7) (heldA0 c arg3 harg3 arg4 harg4 arg6 harg6 arg7 harg7 arg8 harg8 arg11 arg12 arg13 x1 x2 x4 x5 x6) 0 (heldA1 c arg3 harg3 arg4 harg4 arg6 harg6 arg7 harg7 arg8 harg8 arg11 arg12 arg13 x1 x2 x4 x5 x6) h ?_ ?_ ?_
  · apply readA_m
  · intro a; apply readA_n
  · intro a d; apply readA_cm

variable (hc0 : cond0_0 i)

/-- The scratch after the point. -/
theorem scrA (h : Fin 4) : scr (sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (sout0_A_2 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7) h
    = next ((loads arg2 harg2 arg3 harg3 arg4 harg4 arg5 harg5 arg6 harg6 arg7 harg7 arg8 harg8 arg9 harg9 x0 x1 x2 x3 x4 x5 x6 x7).inp 1 h) (next ((loads arg2 harg2 arg3 harg3 arg4 harg4 arg5 harg5 arg6 harg6 arg7 harg7 arg8 harg8 arg9 harg9 x0 x1 x2 x3 x4 x5 x6 x7).inp 0 h) (⟨fun _ _ => 0, fun _ => 0, 0⟩)) := by
  rw [← midA c arg2 harg2 arg3 harg3 arg4 harg4 arg5 harg5 arg6 harg6 arg7 harg7 arg8 harg8 arg9 harg9 arg11 arg12 arg13 x0 x1 x2 x3 x4 x5 x6 x7 h]
  refine scr_next (loads arg2 harg2 arg3 harg3 arg4 harg4 arg5 harg5 arg6 harg6 arg7 harg7 arg8 harg8 arg9 harg9 x0 x1 x2 x3 x4 x5 x6 x7) (heldA1 c arg3 harg3 arg4 harg4 arg6 harg6 arg7 harg7 arg8 harg8 arg11 arg12 arg13 x1 x2 x4 x5 x6) 1 _ _ _ h ?_ ?_ ?_
  · refine (View.read_writes_junk_apply_eq_canon _ _ _).trans ?_
    rw [runA_m]
    exact canon_m (loads arg2 harg2 arg3 harg3 arg4 harg4 arg5 harg5 arg6 harg6 arg7 harg7 arg8 harg8 arg9 harg9 x0 x1 x2 x3 x4 x5 x6 x7) (heldA1 c arg3 harg3 arg4 harg4 arg6 harg6 arg7 harg7 arg8 harg8 arg11 arg12 arg13 x1 x2 x4 x5 x6) 1 _ h 0
  · intro a
    refine (View.read_writes_junk_apply_eq_canon _ _ _).trans ?_
    rw [runA_n]
    exact canon_n (loads arg2 harg2 arg3 harg3 arg4 harg4 arg5 harg5 arg6 harg6 arg7 harg7 arg8 harg8 arg9 harg9 x0 x1 x2 x3 x4 x5 x6 x7) (heldA1 c arg3 harg3 arg4 harg4 arg6 harg6 arg7 harg7 arg8 harg8 arg11 arg12 arg13 x1 x2 x4 x5 x6) 1 _ h a
  · intro a d
    refine (View.read_writes_junk_apply_eq_canon _ _ _).trans ?_
    rw [runA_cm]
    exact canon_cm (loads arg2 harg2 arg3 harg3 arg4 harg4 arg5 harg5 arg6 harg6 arg7 harg7 arg8 harg8 arg9 harg9 x0 x1 x2 x3 x4 x5 x6 x7) (heldA1 c arg3 harg3 arg4 harg4 arg6 harg6 arg7 harg7 arg8 harg8 arg11 arg12 arg13 x1 x2 x4 x5 x6) 1 _ h a d

/-- The rows of the first chunk. -/
theorem fstA (h : Fin 4) (t d : Fin 64) : out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix2 (orow 0 t) (ocol h d))
    = out (fun d => hh ((loads arg2 harg2 arg3 harg3 arg4 harg4 arg5 harg5 arg6 harg6 arg7 harg7 arg8 harg8 arg9 harg9 x0 x1 x2 x3 x4 x5 x6 x7).inp 0 h) (⟨fun _ _ => 0, fun _ => 0, 0⟩) t d) (fun d => (loads arg2 harg2 arg3 harg3 arg4 harg4 arg5 harg5 arg6 harg6 arg7 harg7 arg8 harg8 arg9 harg9 x0 x1 x2 x3 x4 x5 x6 x7).gs h (ix2 0 d)) (fun d => cut (loads arg2 harg2 arg3 harg3 arg4 harg4 arg5 harg5 arg6 harg6 arg7 harg7 arg8 harg8 arg9 harg9 x0 x1 x2 x3 x4 x5 x6 x7).o 0 h (ix2 t d)) d := by
  refine (View.read_writes_junk_apply_eq_canon _ _ _).trans ?_
  rw [runA_out, skip_out4]
  refine (congrArg (fun L => View.canon L (ix2 (orow 0 t) (ocol h d))) (List.append_nil _).symm).trans ?_
  refine (canon_out4 (loads arg2 harg2 arg3 harg3 arg4 harg4 arg5 harg5 arg6 harg6 arg7 harg7 arg8 harg8 arg9 harg9 x0 x1 x2 x3 x4 x5 x6 x7) (heldA0 c arg3 harg3 arg4 harg4 arg6 harg6 arg7 harg7 arg8 harg8 arg11 arg12 arg13 x1 x2 x4 x5 x6) 0 [] h t d).trans ?_
  rw [chO_apply, startA]

/-- The rows of the second chunk. -/
theorem sndA (h : Fin 4) (t d : Fin 64) : out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix2 (orow 1 t) (ocol h d))
    = out (fun d => hh ((loads arg2 harg2 arg3 harg3 arg4 harg4 arg5 harg5 arg6 harg6 arg7 harg7 arg8 harg8 arg9 harg9 x0 x1 x2 x3 x4 x5 x6 x7).inp 1 h) (next ((loads arg2 harg2 arg3 harg3 arg4 harg4 arg5 harg5 arg6 harg6 arg7 harg7 arg8 harg8 arg9 harg9 x0 x1 x2 x3 x4 x5 x6 x7).inp 0 h) (⟨fun _ _ => 0, fun _ => 0, 0⟩)) t d) (fun d => (loads arg2 harg2 arg3 harg3 arg4 harg4 arg5 harg5 arg6 harg6 arg7 harg7 arg8 harg8 arg9 harg9 x0 x1 x2 x3 x4 x5 x6 x7).gs h (ix2 0 d)) (fun d => cut (loads arg2 harg2 arg3 harg3 arg4 harg4 arg5 harg5 arg6 harg6 arg7 harg7 arg8 harg8 arg9 harg9 x0 x1 x2 x3 x4 x5 x6 x7).o 1 h (ix2 t d)) d := by
  refine (View.read_writes_junk_apply_eq_canon _ _ _).trans ?_
  rw [runA_out]
  refine (canon_out4 (loads arg2 harg2 arg3 harg3 arg4 harg4 arg5 harg5 arg6 harg6 arg7 harg7 arg8 harg8 arg9 harg9 x0 x1 x2 x3 x4 x5 x6 x7) (heldA1 c arg3 harg3 arg4 harg4 arg6 harg6 arg7 harg7 arg8 harg8 arg11 arg12 arg13 x1 x2 x4 x5 x6) 1 _ h t d).trans ?_
  rw [chO_apply, midA]

end Cert.M

end
-- ==== Proof.MRunBM.lean ====
module

public import proofs.«01_k».proof.Proof.MRun

/-! # The stores into the stabilisers, the other points -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- The stores of the first chunk. -/
theorem firstB_m : kernelRun0_B.sl.HS2_4 c arg6 harg6 arg7 harg7 arg8 harg8 arg13 harg13 x4 x5 x6 xs2 = four (mPiece (loads arg2 harg2 arg3 harg3 arg4 harg4 arg5 harg5 arg6 harg6 arg7 harg7 arg8 harg8 arg9 harg9 x0 x1 x2 x3 x4 x5 x6 x7) (heldB0 c arg11 harg11 arg12 harg12 arg13 harg13 xs0 xs1 xs2) 0) := by apply Eq.refl

variable (hc0 : ¬cond0_0 i)

/-- The stores of both chunks. -/
theorem runB_m : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2).2.2.2.1 = four (mPiece (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1) ++ kernelRun0_B.sl.HS2_4 c arg6 harg6 arg7 harg7 arg8 harg8 arg13 harg13 x4 x5 x6 xs2 := by apply Eq.refl

end Cert.M

end
-- ==== Proof.MRunBN.lean ====
module

public import proofs.«01_k».proof.Proof.MRun

/-! # The stores into the normalisers, the other points -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- The stores of the first chunk. -/
theorem firstB_n : kernelRun0_B.sl.HS1_4 c arg3 harg3 arg6 harg6 arg7 harg7 arg8 harg8 arg12 harg12 arg13 harg13 x1 x4 x5 x6 xs1 xs2 = four (nPiece (loads arg2 harg2 arg3 harg3 arg4 harg4 arg5 harg5 arg6 harg6 arg7 harg7 arg8 harg8 arg9 harg9 x0 x1 x2 x3 x4 x5 x6 x7) (heldB0 c arg11 harg11 arg12 harg12 arg13 harg13 xs0 xs1 xs2) 0) := by apply Eq.refl

variable (hc0 : ¬cond0_0 i)

/-- The stores of both chunks. -/
theorem runB_n : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2).2.2.1 = four (nPiece (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1) ++ kernelRun0_B.sl.HS1_4 c arg3 harg3 arg6 harg6 arg7 harg7 arg8 harg8 arg12 harg12 arg13 harg13 x1 x4 x5 x6 xs1 xs2 := by apply Eq.refl

end Cert.M

end
-- ==== Proof.MRunBCm.lean ====
module

public import proofs.«01_k».proof.Proof.MRun

/-! # The stores into the memories, the other points -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- The stores of the first chunk. -/
theorem firstB_cm : kernelRun0_B.sl.HS0_4 c arg3 harg3 arg4 harg4 arg6 harg6 arg7 harg7 arg8 harg8 arg11 harg11 arg13 harg13 x1 x2 x4 x5 x6 xs0 xs2 = four (cmPiece (loads arg2 harg2 arg3 harg3 arg4 harg4 arg5 harg5 arg6 harg6 arg7 harg7 arg8 harg8 arg9 harg9 x0 x1 x2 x3 x4 x5 x6 x7) (heldB0 c arg11 harg11 arg12 harg12 arg13 harg13 xs0 xs1 xs2) 0) := by apply Eq.refl

variable (hc0 : ¬cond0_0 i)

/-- The stores of both chunks. -/
theorem runB_cm : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2).2.1 = four (cmPiece (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1) ++ kernelRun0_B.sl.HS0_4 c arg3 harg3 arg4 harg4 arg6 harg6 arg7 harg7 arg8 harg8 arg11 harg11 arg13 harg13 x1 x2 x4 x5 x6 xs0 xs2 := by apply Eq.refl

end Cert.M

end
-- ==== Proof.MReadB.lean ====
module

public import proofs.«01_k».proof.Proof.MHeads
public import proofs.«01_k».proof.Proof.MRunBM
public import proofs.«01_k».proof.Proof.MRunBN
public import proofs.«01_k».proof.Proof.MRunBCm

/-! # What a point reads of the scratch, the other points

Before the second chunk a head reads what the first chunk stored; before the first, what the point before left. -/

@[expose] public section

set_option maxRecDepth 16384
set_option maxHeartbeats 1000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- The first chunk reads what the point before left. -/
theorem startB_m (h : Fin 4) : ((heldB0 c arg11 harg11 arg12 harg12 arg13 harg13 xs0 xs1 xs2)).m h (ix2 0 0) = xs2 (ix2 (row8 h) 0) := by
  match h with
  | 0 => exact read_held harg13 xs2 ![0, 0] S1x1.size (by decide) (ix2 (row8 0) 0) (ix2 0 0) (at_m 0)
  | 1 => exact read_held harg13 xs2 ![1, 0] S1x1.size (by decide) (ix2 (row8 1) 0) (ix2 0 0) (at_m 1)
  | 2 => exact read_held harg13 xs2 ![2, 0] S1x1.size (by decide) (ix2 (row8 2) 0) (ix2 0 0) (at_m 2)
  | 3 => exact read_held harg13 xs2 ![3, 0] S1x1.size (by decide) (ix2 (row8 3) 0) (ix2 0 0) (at_m 3)

/-- The first chunk reads what the point before left. -/
theorem startB_n (h : Fin 4) (j : Fin 64) : ((heldB0 c arg11 harg11 arg12 harg12 arg13 harg13 xs0 xs1 xs2)).n h (ix2 0 j) = xs1 (ix2 (row8 h) j) := by
  match h with
  | 0 => exact read_held harg12 xs1 ![0, 0] S1x64.size (by decide) (ix2 (row8 0) j) (ix2 0 j) (at_n 0 j)
  | 1 => exact read_held harg12 xs1 ![1, 0] S1x64.size (by decide) (ix2 (row8 1) j) (ix2 0 j) (at_n 1 j)
  | 2 => exact read_held harg12 xs1 ![2, 0] S1x64.size (by decide) (ix2 (row8 2) j) (ix2 0 j) (at_n 2 j)
  | 3 => exact read_held harg12 xs1 ![3, 0] S1x64.size (by decide) (ix2 (row8 3) j) (ix2 0 j) (at_n 3 j)

/-- The first chunk reads what the point before left. -/
theorem startB_cm (h : Fin 4) (a d : Fin 64) : ((heldB0 c arg11 harg11 arg12 harg12 arg13 harg13 xs0 xs1 xs2)).cm h (ix3 0 a d) = xs0 (ix3 h a d) := by
  match h with
  | 0 => exact read_held harg11 xs0 ![0, 0, 0] S1x64x64.size (by decide) (ix3 0 a d) (ix3 0 a d) (at_cm 0 a d)
  | 1 => exact read_held harg11 xs0 ![1, 0, 0] S1x64x64.size (by decide) (ix3 1 a d) (ix3 0 a d) (at_cm 1 a d)
  | 2 => exact read_held harg11 xs0 ![2, 0, 0] S1x64x64.size (by decide) (ix3 2 a d) (ix3 0 a d) (at_cm 2 a d)
  | 3 => exact read_held harg11 xs0 ![3, 0, 0] S1x64x64.size (by decide) (ix3 3 a d) (ix3 0 a d) (at_cm 3 a d)

/-- The second chunk reads what the first left. -/
theorem readB_m (h : Fin 4) :
    ((heldB1 c arg3 harg3 arg4 harg4 arg6 harg6 arg7 harg7 arg8 harg8 arg11 harg11 arg12 harg12 arg13 harg13 x1 x2 x4 x5 x6 xs0 xs1 xs2)).m h (ix2 0 0) = ((loads arg2 harg2 arg3 harg3 arg4 harg4 arg5 harg5 arg6 harg6 arg7 harg7 arg8 harg8 arg9 harg9 x0 x1 x2 x3 x4 x5 x6 x7)).chM 0 h (heldB0 c arg11 harg11 arg12 harg12 arg13 harg13 xs0 xs1 xs2) (ix2 0 0) := by
  have key : ∀ h : Fin 4, View.canon (kernelRun0_B.sl.HS2_4 c arg6 harg6 arg7 harg7 arg8 harg8 arg13 harg13 x4 x5 x6 xs2) (ix2 (row8 h) 0) = ((loads arg2 harg2 arg3 harg3 arg4 harg4 arg5 harg5 arg6 harg6 arg7 harg7 arg8 harg8 arg9 harg9 x0 x1 x2 x3 x4 x5 x6 x7)).chM 0 h (heldB0 c arg11 harg11 arg12 harg12 arg13 harg13 xs0 xs1 xs2) (ix2 0 0) := fun h => by
    rw [firstB_m c arg2 harg2 arg3 harg3 arg4 harg4 arg5 harg5 arg6 harg6 arg7 harg7 arg8 harg8 arg9 harg9 arg11 harg11 arg12 harg12 arg13 harg13 x0 x1 x2 x3 x4 x5 x6 x7 xs0 xs1 xs2]
    exact canon_m _ _ 0 [] h 0
  exact (heads_m arg13.view _ _ _ _ (by decide) h).trans (key h)

/-- The second chunk reads what the first left. -/
theorem readB_n (h : Fin 4) (j : Fin 64) :
    ((heldB1 c arg3 harg3 arg4 harg4 arg6 harg6 arg7 harg7 arg8 harg8 arg11 harg11 arg12 harg12 arg13 harg13 x1 x2 x4 x5 x6 xs0 xs1 xs2)).n h (ix2 0 j) = ((loads arg2 harg2 arg3 harg3 arg4 harg4 arg5 harg5 arg6 harg6 arg7 harg7 arg8 harg8 arg9 harg9 x0 x1 x2 x3 x4 x5 x6 x7)).chN 0 h (heldB0 c arg11 harg11 arg12 harg12 arg13 harg13 xs0 xs1 xs2) (ix2 0 j) := by
  have key : ∀ h : Fin 4, View.canon (kernelRun0_B.sl.HS1_4 c arg3 harg3 arg6 harg6 arg7 harg7 arg8 harg8 arg12 harg12 arg13 harg13 x1 x4 x5 x6 xs1 xs2) (ix2 (row8 h) j) = ((loads arg2 harg2 arg3 harg3 arg4 harg4 arg5 harg5 arg6 harg6 arg7 harg7 arg8 harg8 arg9 harg9 x0 x1 x2 x3 x4 x5 x6 x7)).chN 0 h (heldB0 c arg11 harg11 arg12 harg12 arg13 harg13 xs0 xs1 xs2) (ix2 0 j) := fun h => by
    rw [firstB_n c arg2 harg2 arg3 harg3 arg4 harg4 arg5 harg5 arg6 harg6 arg7 harg7 arg8 harg8 arg9 harg9 arg11 harg11 arg12 harg12 arg13 harg13 x0 x1 x2 x3 x4 x5 x6 x7 xs0 xs1 xs2]
    exact canon_n _ _ 0 [] h j
  exact (heads_n arg12.view _ _ _ _ h j).trans (key h)

/-- The second chunk reads what the first left. -/
theorem readB_cm (h : Fin 4) (a d : Fin 64) :
    ((heldB1 c arg3 harg3 arg4 harg4 arg6 harg6 arg7 harg7 arg8 harg8 arg11 harg11 arg12 harg12 arg13 harg13 x1 x2 x4 x5 x6 xs0 xs1 xs2)).cm h (ix3 0 a d) = ((loads arg2 harg2 arg3 harg3 arg4 harg4 arg5 harg5 arg6 harg6 arg7 harg7 arg8 harg8 arg9 harg9 x0 x1 x2 x3 x4 x5 x6 x7)).chC 0 h (heldB0 c arg11 harg11 arg12 harg12 arg13 harg13 xs0 xs1 xs2) (ix3 0 a d) := by
  have key : ∀ h : Fin 4, View.canon (kernelRun0_B.sl.HS0_4 c arg3 harg3 arg4 harg4 arg6 harg6 arg7 harg7 arg8 harg8 arg11 harg11 arg13 harg13 x1 x2 x4 x5 x6 xs0 xs2) (ix3 h a d) = ((loads arg2 harg2 arg3 harg3 arg4 harg4 arg5 harg5 arg6 harg6 arg7 harg7 arg8 harg8 arg9 harg9 x0 x1 x2 x3 x4 x5 x6 x7)).chC 0 h (heldB0 c arg11 harg11 arg12 harg12 arg13 harg13 xs0 xs1 xs2) (ix3 0 a d) := fun h => by
    rw [firstB_cm c arg2 harg2 arg3 harg3 arg4 harg4 arg5 harg5 arg6 harg6 arg7 harg7 arg8 harg8 arg9 harg9 arg11 harg11 arg12 harg12 arg13 harg13 x0 x1 x2 x3 x4 x5 x6 x7 xs0 xs1 xs2]
    exact canon_cm _ _ 0 [] h a d
  exact (heads_cm arg11.view _ _ _ _ h a d).trans (key h)

end Cert.M

end
-- ==== Proof.MRunBH0.lean ====
module

public import proofs.«01_k».proof.Proof.MRun

/-! # What the heads give, first chunk, the other points -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- What chunk 0 of head 0 gives. -/
theorem givesB_00 : kernelRun0_B.sl.r_25 c arg2 harg2 arg3 harg3 arg4 harg4 arg6 harg6 arg7 harg7 arg8 harg8 arg11 harg11 arg12 harg12 arg13 harg13 x0 x1 x2 x4 x5 x6 xs0 xs1 xs2
    = hhV (cut (loads arg2 harg2 arg3 harg3 arg4 harg4 arg5 harg5 arg6 harg6 arg7 harg7 arg8 harg8 arg9 harg9 x0 x1 x2 x3 x4 x5 x6 x7).q 0 0) (cut (loads arg2 harg2 arg3 harg3 arg4 harg4 arg5 harg5 arg6 harg6 arg7 harg7 arg8 harg8 arg9 harg9 x0 x1 x2 x3 x4 x5 x6 x7).k 0 0) (cut (loads arg2 harg2 arg3 harg3 arg4 harg4 arg5 harg5 arg6 harg6 arg7 harg7 arg8 harg8 arg9 harg9 x0 x1 x2 x3 x4 x5 x6 x7).v 0 0) (Ins.sq (heldB0 c arg11 harg11 arg12 harg12 arg13 harg13 xs0 xs1 xs2) 0) ((loads arg2 harg2 arg3 harg3 arg4 harg4 arg5 harg5 arg6 harg6 arg7 harg7 arg8 harg8 arg9 harg9 x0 x1 x2 x3 x4 x5 x6 x7).br 0 0) ((loads arg2 harg2 arg3 harg3 arg4 harg4 arg5 harg5 arg6 harg6 arg7 harg7 arg8 harg8 arg9 harg9 x0 x1 x2 x3 x4 x5 x6 x7).ir 0 0) ((heldB0 c arg11 harg11 arg12 harg12 arg13 harg13 xs0 xs1 xs2).n 0) ((loads arg2 harg2 arg3 harg3 arg4 harg4 arg5 harg5 arg6 harg6 arg7 harg7 arg8 harg8 arg9 harg9 x0 x1 x2 x3 x4 x5 x6 x7).bc 0 0) ((heldB0 c arg11 harg11 arg12 harg12 arg13 harg13 xs0 xs1 xs2).m 0) := by apply Eq.refl

/-- What chunk 0 of head 1 gives. -/
theorem givesB_01 : kernelRun0_B.sl.r_38 c arg2 harg2 arg3 harg3 arg4 harg4 arg6 harg6 arg7 harg7 arg8 harg8 arg11 harg11 arg12 harg12 arg13 harg13 x0 x1 x2 x4 x5 x6 xs0 xs1 xs2
    = hhV (cut (loads arg2 harg2 arg3 harg3 arg4 harg4 arg5 harg5 arg6 harg6 arg7 harg7 arg8 harg8 arg9 harg9 x0 x1 x2 x3 x4 x5 x6 x7).q 0 1) (cut (loads arg2 harg2 arg3 harg3 arg4 harg4 arg5 harg5 arg6 harg6 arg7 harg7 arg8 harg8 arg9 harg9 x0 x1 x2 x3 x4 x5 x6 x7).k 0 1) (cut (loads arg2 harg2 arg3 harg3 arg4 harg4 arg5 harg5 arg6 harg6 arg7 harg7 arg8 harg8 arg9 harg9 x0 x1 x2 x3 x4 x5 x6 x7).v 0 1) (Ins.sq (heldB0 c arg11 harg11 arg12 harg12 arg13 harg13 xs0 xs1 xs2) 1) ((loads arg2 harg2 arg3 harg3 arg4 harg4 arg5 harg5 arg6 harg6 arg7 harg7 arg8 harg8 arg9 harg9 x0 x1 x2 x3 x4 x5 x6 x7).br 0 1) ((loads arg2 harg2 arg3 harg3 arg4 harg4 arg5 harg5 arg6 harg6 arg7 harg7 arg8 harg8 arg9 harg9 x0 x1 x2 x3 x4 x5 x6 x7).ir 0 1) ((heldB0 c arg11 harg11 arg12 harg12 arg13 harg13 xs0 xs1 xs2).n 1) ((loads arg2 harg2 arg3 harg3 arg4 harg4 arg5 harg5 arg6 harg6 arg7 harg7 arg8 harg8 arg9 harg9 x0 x1 x2 x3 x4 x5 x6 x7).bc 0 1) ((heldB0 c arg11 harg11 arg12 harg12 arg13 harg13 xs0 xs1 xs2).m 1) := by apply Eq.refl

/-- What chunk 0 of head 2 gives. -/
theorem givesB_02 : kernelRun0_B.sl.r_56 c arg2 harg2 arg3 harg3 arg4 harg4 arg6 harg6 arg7 harg7 arg8 harg8 arg11 harg11 arg12 harg12 arg13 harg13 x0 x1 x2 x4 x5 x6 xs0 xs1 xs2
    = hhV (cut (loads arg2 harg2 arg3 harg3 arg4 harg4 arg5 harg5 arg6 harg6 arg7 harg7 arg8 harg8 arg9 harg9 x0 x1 x2 x3 x4 x5 x6 x7).q 0 2) (cut (loads arg2 harg2 arg3 harg3 arg4 harg4 arg5 harg5 arg6 harg6 arg7 harg7 arg8 harg8 arg9 harg9 x0 x1 x2 x3 x4 x5 x6 x7).k 0 2) (cut (loads arg2 harg2 arg3 harg3 arg4 harg4 arg5 harg5 arg6 harg6 arg7 harg7 arg8 harg8 arg9 harg9 x0 x1 x2 x3 x4 x5 x6 x7).v 0 2) (Ins.sq (heldB0 c arg11 harg11 arg12 harg12 arg13 harg13 xs0 xs1 xs2) 2) ((loads arg2 harg2 arg3 harg3 arg4 harg4 arg5 harg5 arg6 harg6 arg7 harg7 arg8 harg8 arg9 harg9 x0 x1 x2 x3 x4 x5 x6 x7).br 0 2) ((loads arg2 harg2 arg3 harg3 arg4 harg4 arg5 harg5 arg6 harg6 arg7 harg7 arg8 harg8 arg9 harg9 x0 x1 x2 x3 x4 x5 x6 x7).ir 0 2) ((heldB0 c arg11 harg11 arg12 harg12 arg13 harg13 xs0 xs1 xs2).n 2) ((loads arg2 harg2 arg3 harg3 arg4 harg4 arg5 harg5 arg6 harg6 arg7 harg7 arg8 harg8 arg9 harg9 x0 x1 x2 x3 x4 x5 x6 x7).bc 0 2) ((heldB0 c arg11 harg11 arg12 harg12 arg13 harg13 xs0 xs1 xs2).m 2) := by apply Eq.refl

/-- What chunk 0 of head 3 gives. -/
theorem givesB_03 : kernelRun0_B.sl.r_73 c arg2 harg2 arg3 harg3 arg4 harg4 arg6 harg6 arg7 harg7 arg8 harg8 arg11 harg11 arg12 harg12 arg13 harg13 x0 x1 x2 x4 x5 x6 xs0 xs1 xs2
    = hhV (cut (loads arg2 harg2 arg3 harg3 arg4 harg4 arg5 harg5 arg6 harg6 arg7 harg7 arg8 harg8 arg9 harg9 x0 x1 x2 x3 x4 x5 x6 x7).q 0 3) (cut (loads arg2 harg2 arg3 harg3 arg4 harg4 arg5 harg5 arg6 harg6 arg7 harg7 arg8 harg8 arg9 harg9 x0 x1 x2 x3 x4 x5 x6 x7).k 0 3) (cut (loads arg2 harg2 arg3 harg3 arg4 harg4 arg5 harg5 arg6 harg6 arg7 harg7 arg8 harg8 arg9 harg9 x0 x1 x2 x3 x4 x5 x6 x7).v 0 3) (Ins.sq (heldB0 c arg11 harg11 arg12 harg12 arg13 harg13 xs0 xs1 xs2) 3) ((loads arg2 harg2 arg3 harg3 arg4 harg4 arg5 harg5 arg6 harg6 arg7 harg7 arg8 harg8 arg9 harg9 x0 x1 x2 x3 x4 x5 x6 x7).br 0 3) ((loads arg2 harg2 arg3 harg3 arg4 harg4 arg5 harg5 arg6 harg6 arg7 harg7 arg8 harg8 arg9 harg9 x0 x1 x2 x3 x4 x5 x6 x7).ir 0 3) ((heldB0 c arg11 harg11 arg12 harg12 arg13 harg13 xs0 xs1 xs2).n 3) ((loads arg2 harg2 arg3 harg3 arg4 harg4 arg5 harg5 arg6 harg6 arg7 harg7 arg8 harg8 arg9 harg9 x0 x1 x2 x3 x4 x5 x6 x7).bc 0 3) ((heldB0 c arg11 harg11 arg12 harg12 arg13 harg13 xs0 xs1 xs2).m 3) := by apply Eq.refl

end Cert.M

end
-- ==== Proof.MRunBH1.lean ====
module

public import proofs.«01_k».proof.Proof.MRun

/-! # What the heads give, second chunk, the other points -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- What chunk 1 of head 0 gives. -/
theorem givesB_10 : kernelRun0_B.sl.r_86 c arg2 harg2 arg3 harg3 arg4 harg4 arg6 harg6 arg7 harg7 arg8 harg8 arg11 harg11 arg12 harg12 arg13 harg13 x0 x1 x2 x4 x5 x6 xs0 xs1 xs2
    = hhV (cut (loads arg2 harg2 arg3 harg3 arg4 harg4 arg5 harg5 arg6 harg6 arg7 harg7 arg8 harg8 arg9 harg9 x0 x1 x2 x3 x4 x5 x6 x7).q 1 0) (cut (loads arg2 harg2 arg3 harg3 arg4 harg4 arg5 harg5 arg6 harg6 arg7 harg7 arg8 harg8 arg9 harg9 x0 x1 x2 x3 x4 x5 x6 x7).k 1 0) (cut (loads arg2 harg2 arg3 harg3 arg4 harg4 arg5 harg5 arg6 harg6 arg7 harg7 arg8 harg8 arg9 harg9 x0 x1 x2 x3 x4 x5 x6 x7).v 1 0) (Ins.sq (heldB1 c arg3 harg3 arg4 harg4 arg6 harg6 arg7 harg7 arg8 harg8 arg11 harg11 arg12 harg12 arg13 harg13 x1 x2 x4 x5 x6 xs0 xs1 xs2) 0) ((loads arg2 harg2 arg3 harg3 arg4 harg4 arg5 harg5 arg6 harg6 arg7 harg7 arg8 harg8 arg9 harg9 x0 x1 x2 x3 x4 x5 x6 x7).br 1 0) ((loads arg2 harg2 arg3 harg3 arg4 harg4 arg5 harg5 arg6 harg6 arg7 harg7 arg8 harg8 arg9 harg9 x0 x1 x2 x3 x4 x5 x6 x7).ir 1 0) ((heldB1 c arg3 harg3 arg4 harg4 arg6 harg6 arg7 harg7 arg8 harg8 arg11 harg11 arg12 harg12 arg13 harg13 x1 x2 x4 x5 x6 xs0 xs1 xs2).n 0) ((loads arg2 harg2 arg3 harg3 arg4 harg4 arg5 harg5 arg6 harg6 arg7 harg7 arg8 harg8 arg9 harg9 x0 x1 x2 x3 x4 x5 x6 x7).bc 1 0) ((heldB1 c arg3 harg3 arg4 harg4 arg6 harg6 arg7 harg7 arg8 harg8 arg11 harg11 arg12 harg12 arg13 harg13 x1 x2 x4 x5 x6 xs0 xs1 xs2).m 0) := by apply Eq.refl

/-- What chunk 1 of head 1 gives. -/
theorem givesB_11 : kernelRun0_B.sl.r_104 c arg2 harg2 arg3 harg3 arg4 harg4 arg6 harg6 arg7 harg7 arg8 harg8 arg11 harg11 arg12 harg12 arg13 harg13 x0 x1 x2 x4 x5 x6 xs0 xs1 xs2
    = hhV (cut (loads arg2 harg2 arg3 harg3 arg4 harg4 arg5 harg5 arg6 harg6 arg7 harg7 arg8 harg8 arg9 harg9 x0 x1 x2 x3 x4 x5 x6 x7).q 1 1) (cut (loads arg2 harg2 arg3 harg3 arg4 harg4 arg5 harg5 arg6 harg6 arg7 harg7 arg8 harg8 arg9 harg9 x0 x1 x2 x3 x4 x5 x6 x7).k 1 1) (cut (loads arg2 harg2 arg3 harg3 arg4 harg4 arg5 harg5 arg6 harg6 arg7 harg7 arg8 harg8 arg9 harg9 x0 x1 x2 x3 x4 x5 x6 x7).v 1 1) (Ins.sq (heldB1 c arg3 harg3 arg4 harg4 arg6 harg6 arg7 harg7 arg8 harg8 arg11 harg11 arg12 harg12 arg13 harg13 x1 x2 x4 x5 x6 xs0 xs1 xs2) 1) ((loads arg2 harg2 arg3 harg3 arg4 harg4 arg5 harg5 arg6 harg6 arg7 harg7 arg8 harg8 arg9 harg9 x0 x1 x2 x3 x4 x5 x6 x7).br 1 1) ((loads arg2 harg2 arg3 harg3 arg4 harg4 arg5 harg5 arg6 harg6 arg7 harg7 arg8 harg8 arg9 harg9 x0 x1 x2 x3 x4 x5 x6 x7).ir 1 1) ((heldB1 c arg3 harg3 arg4 harg4 arg6 harg6 arg7 harg7 arg8 harg8 arg11 harg11 arg12 harg12 arg13 harg13 x1 x2 x4 x5 x6 xs0 xs1 xs2).n 1) ((loads arg2 harg2 arg3 harg3 arg4 harg4 arg5 harg5 arg6 harg6 arg7 harg7 arg8 harg8 arg9 harg9 x0 x1 x2 x3 x4 x5 x6 x7).bc 1 1) ((heldB1 c arg3 harg3 arg4 harg4 arg6 harg6 arg7 harg7 arg8 harg8 arg11 harg11 arg12 harg12 arg13 harg13 x1 x2 x4 x5 x6 xs0 xs1 xs2).m 1) := by apply Eq.refl

/-- What chunk 1 of head 2 gives. -/
theorem givesB_12 : kernelRun0_B.sl.r_117 c arg2 harg2 arg3 harg3 arg4 harg4 arg6 harg6 arg7 harg7 arg8 harg8 arg11 harg11 arg12 harg12 arg13 harg13 x0 x1 x2 x4 x5 x6 xs0 xs1 xs2
    = hhV (cut (loads arg2 harg2 arg3 harg3 arg4 harg4 arg5 harg5 arg6 harg6 arg7 harg7 arg8 harg8 arg9 harg9 x0 x1 x2 x3 x4 x5 x6 x7).q 1 2) (cut (loads arg2 harg2 arg3 harg3 arg4 harg4 arg5 harg5 arg6 harg6 arg7 harg7 arg8 harg8 arg9 harg9 x0 x1 x2 x3 x4 x5 x6 x7).k 1 2) (cut (loads arg2 harg2 arg3 harg3 arg4 harg4 arg5 harg5 arg6 harg6 arg7 harg7 arg8 harg8 arg9 harg9 x0 x1 x2 x3 x4 x5 x6 x7).v 1 2) (Ins.sq (heldB1 c arg3 harg3 arg4 harg4 arg6 harg6 arg7 harg7 arg8 harg8 arg11 harg11 arg12 harg12 arg13 harg13 x1 x2 x4 x5 x6 xs0 xs1 xs2) 2) ((loads arg2 harg2 arg3 harg3 arg4 harg4 arg5 harg5 arg6 harg6 arg7 harg7 arg8 harg8 arg9 harg9 x0 x1 x2 x3 x4 x5 x6 x7).br 1 2) ((loads arg2 harg2 arg3 harg3 arg4 harg4 arg5 harg5 arg6 harg6 arg7 harg7 arg8 harg8 arg9 harg9 x0 x1 x2 x3 x4 x5 x6 x7).ir 1 2) ((heldB1 c arg3 harg3 arg4 harg4 arg6 harg6 arg7 harg7 arg8 harg8 arg11 harg11 arg12 harg12 arg13 harg13 x1 x2 x4 x5 x6 xs0 xs1 xs2).n 2) ((loads arg2 harg2 arg3 harg3 arg4 harg4 arg5 harg5 arg6 harg6 arg7 harg7 arg8 harg8 arg9 harg9 x0 x1 x2 x3 x4 x5 x6 x7).bc 1 2) ((heldB1 c arg3 harg3 arg4 harg4 arg6 harg6 arg7 harg7 arg8 harg8 arg11 harg11 arg12 harg12 arg13 harg13 x1 x2 x4 x5 x6 xs0 xs1 xs2).m 2) := by apply Eq.refl

/-- What chunk 1 of head 3 gives. -/
theorem givesB_13 : kernelRun0_B.sl.r_137 c arg2 harg2 arg3 harg3 arg4 harg4 arg6 harg6 arg7 harg7 arg8 harg8 arg11 harg11 arg12 harg12 arg13 harg13 x0 x1 x2 x4 x5 x6 xs0 xs1 xs2
    = hhV (cut (loads arg2 harg2 arg3 harg3 arg4 harg4 arg5 harg5 arg6 harg6 arg7 harg7 arg8 harg8 arg9 harg9 x0 x1 x2 x3 x4 x5 x6 x7).q 1 3) (cut (loads arg2 harg2 arg3 harg3 arg4 harg4 arg5 harg5 arg6 harg6 arg7 harg7 arg8 harg8 arg9 harg9 x0 x1 x2 x3 x4 x5 x6 x7).k 1 3) (cut (loads arg2 harg2 arg3 harg3 arg4 harg4 arg5 harg5 arg6 harg6 arg7 harg7 arg8 harg8 arg9 harg9 x0 x1 x2 x3 x4 x5 x6 x7).v 1 3) (Ins.sq (heldB1 c arg3 harg3 arg4 harg4 arg6 harg6 arg7 harg7 arg8 harg8 arg11 harg11 arg12 harg12 arg13 harg13 x1 x2 x4 x5 x6 xs0 xs1 xs2) 3) ((loads arg2 harg2 arg3 harg3 arg4 harg4 arg5 harg5 arg6 harg6 arg7 harg7 arg8 harg8 arg9 harg9 x0 x1 x2 x3 x4 x5 x6 x7).br 1 3) ((loads arg2 harg2 arg3 harg3 arg4 harg4 arg5 harg5 arg6 harg6 arg7 harg7 arg8 harg8 arg9 harg9 x0 x1 x2 x3 x4 x5 x6 x7).ir 1 3) ((heldB1 c arg3 harg3 arg4 harg4 arg6 harg6 arg7 harg7 arg8 harg8 arg11 harg11 arg12 harg12 arg13 harg13 x1 x2 x4 x5 x6 xs0 xs1 xs2).n 3) ((loads arg2 harg2 arg3 harg3 arg4 harg4 arg5 harg5 arg6 harg6 arg7 harg7 arg8 harg8 arg9 harg9 x0 x1 x2 x3 x4 x5 x6 x7).bc 1 3) ((heldB1 c arg3 harg3 arg4 harg4 arg6 harg6 arg7 harg7 arg8 harg8 arg11 harg11 arg12 harg12 arg13 harg13 x1 x2 x4 x5 x6 xs0 xs1 xs2).m 3) := by apply Eq.refl

end Cert.M

end
-- ==== Proof.MRunBOut.lean ====
module

public import proofs.«01_k».proof.Proof.MOut
public import proofs.«01_k».proof.Proof.MRunBH0
public import proofs.«01_k».proof.Proof.MRunBH1

/-! # The stores into the output, the other points -/

@[expose] public section

set_option maxRecDepth 16384
set_option maxHeartbeats 4000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

variable (hc0 : ¬cond0_0 i)

/-- The stores, from what the heads give. -/
theorem putsB : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2).1
    = puts (loads arg2 harg2 arg3 harg3 arg4 harg4 arg5 harg5 arg6 harg6 arg7 harg7 arg8 harg8 arg9 harg9 x0 x1 x2 x3 x4 x5 x6 x7).o (loads arg2 harg2 arg3 harg3 arg4 harg4 arg5 harg5 arg6 harg6 arg7 harg7 arg8 harg8 arg9 harg9 x0 x1 x2 x3 x4 x5 x6 x7).g (kernelRun0_B.sl.r_25 c arg2 harg2 arg3 harg3 arg4 harg4 arg6 harg6 arg7 harg7 arg8 harg8 arg11 harg11 arg12 harg12 arg13 harg13 x0 x1 x2 x4 x5 x6 xs0 xs1 xs2)
      (kernelRun0_B.sl.r_38 c arg2 harg2 arg3 harg3 arg4 harg4 arg6 harg6 arg7 harg7 arg8 harg8 arg11 harg11 arg12 harg12 arg13 harg13 x0 x1 x2 x4 x5 x6 xs0 xs1 xs2)
      (kernelRun0_B.sl.r_56 c arg2 harg2 arg3 harg3 arg4 harg4 arg6 harg6 arg7 harg7 arg8 harg8 arg11 harg11 arg12 harg12 arg13 harg13 x0 x1 x2 x4 x5 x6 xs0 xs1 xs2)
      (kernelRun0_B.sl.r_73 c arg2 harg2 arg3 harg3 arg4 harg4 arg6 harg6 arg7 harg7 arg8 harg8 arg11 harg11 arg12 harg12 arg13 harg13 x0 x1 x2 x4 x5 x6 xs0 xs1 xs2)
      (kernelRun0_B.sl.r_86 c arg2 harg2 arg3 harg3 arg4 harg4 arg6 harg6 arg7 harg7 arg8 harg8 arg11 harg11 arg12 harg12 arg13 harg13 x0 x1 x2 x4 x5 x6 xs0 xs1 xs2)
      (kernelRun0_B.sl.r_104 c arg2 harg2 arg3 harg3 arg4 harg4 arg6 harg6 arg7 harg7 arg8 harg8 arg11 harg11 arg12 harg12 arg13 harg13 x0 x1 x2 x4 x5 x6 xs0 xs1 xs2)
      (kernelRun0_B.sl.r_117 c arg2 harg2 arg3 harg3 arg4 harg4 arg6 harg6 arg7 harg7 arg8 harg8 arg11 harg11 arg12 harg12 arg13 harg13 x0 x1 x2 x4 x5 x6 xs0 xs1 xs2)
      (kernelRun0_B.sl.r_137 c arg2 harg2 arg3 harg3 arg4 harg4 arg6 harg6 arg7 harg7 arg8 harg8 arg11 harg11 arg12 harg12 arg13 harg13 x0 x1 x2 x4 x5 x6 xs0 xs1 xs2) := by apply Eq.refl

/-- The stores of both chunks. -/
theorem runB_out : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2).1
    = four (outPiece (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1) ++ four (outPiece (loads arg2 harg2 arg3 harg3 arg4 harg4 arg5 harg5 arg6 harg6 arg7 harg7 arg8 harg8 arg9 harg9 x0 x1 x2 x3 x4 x5 x6 x7) (heldB0 c arg11 harg11 arg12 harg12 arg13 harg13 xs0 xs1 xs2) 0) :=
  (putsB c i arg2 harg2 arg3 harg3 arg4 harg4 arg5 harg5 arg6 harg6 arg7 harg7 arg8 harg8 arg9 harg9 arg10 harg10 arg11 harg11 arg12 harg12 arg13 harg13 x0 x1 x2 x3 x4 x5 x6 x7 xs0 xs1 xs2 hc0).trans (puts_eq _ _ _ _ _ _ _ _ _ _ _
    (givesB_00 c arg2 harg2 arg3 harg3 arg4 harg4 arg5 harg5 arg6 harg6 arg7 harg7 arg8 harg8 arg9 harg9 arg11 harg11 arg12 harg12 arg13 harg13 x0 x1 x2 x3 x4 x5 x6 x7 xs0 xs1 xs2)
    (givesB_01 c arg2 harg2 arg3 harg3 arg4 harg4 arg5 harg5 arg6 harg6 arg7 harg7 arg8 harg8 arg9 harg9 arg11 harg11 arg12 harg12 arg13 harg13 x0 x1 x2 x3 x4 x5 x6 x7 xs0 xs1 xs2)
    (givesB_02 c arg2 harg2 arg3 harg3 arg4 harg4 arg5 harg5 arg6 harg6 arg7 harg7 arg8 harg8 arg9 harg9 arg11 harg11 arg12 harg12 arg13 harg13 x0 x1 x2 x3 x4 x5 x6 x7 xs0 xs1 xs2)
    (givesB_03 c arg2 harg2 arg3 harg3 arg4 harg4 arg5 harg5 arg6 harg6 arg7 harg7 arg8 harg8 arg9 harg9 arg11 harg11 arg12 harg12 arg13 harg13 x0 x1 x2 x3 x4 x5 x6 x7 xs0 xs1 xs2)
    (givesB_10 c arg2 harg2 arg3 harg3 arg4 harg4 arg5 harg5 arg6 harg6 arg7 harg7 arg8 harg8 arg9 harg9 arg11 harg11 arg12 harg12 arg13 harg13 x0 x1 x2 x3 x4 x5 x6 x7 xs0 xs1 xs2)
    (givesB_11 c arg2 harg2 arg3 harg3 arg4 harg4 arg5 harg5 arg6 harg6 arg7 harg7 arg8 harg8 arg9 harg9 arg11 harg11 arg12 harg12 arg13 harg13 x0 x1 x2 x3 x4 x5 x6 x7 xs0 xs1 xs2)
    (givesB_12 c arg2 harg2 arg3 harg3 arg4 harg4 arg5 harg5 arg6 harg6 arg7 harg7 arg8 harg8 arg9 harg9 arg11 harg11 arg12 harg12 arg13 harg13 x0 x1 x2 x3 x4 x5 x6 x7 xs0 xs1 xs2)
    (givesB_13 c arg2 harg2 arg3 harg3 arg4 harg4 arg5 harg5 arg6 harg6 arg7 harg7 arg8 harg8 arg9 harg9 arg11 harg11 arg12 harg12 arg13 harg13 x0 x1 x2 x3 x4 x5 x6 x7 xs0 xs1 xs2))

end Cert.M

end
-- ==== Proof.MPointB.lean ====
module

public import proofs.«01_k».proof.Proof.MReadB
public import proofs.«01_k».proof.Proof.MRunBOut
public import proofs.«01_k».proof.Proof.MLoads

/-! # What a point leaves, the other points

Two steps of the model: the scratch after them, and the rows of the output block. -/

@[expose] public section

set_option maxRecDepth 16384
set_option maxHeartbeats 1000000

noncomputable section

namespace Cert.M

open Idealize.ShloMosaic Idealize.ShloMosaic.TcCoe Idealize.SL.Sem Cert.KernelIdeal Cert.KernelIdeal.Gen

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S1x256 .f32) (harg9 : arg9.IsWhole) (arg10 : Memref sig .tc .vmem S128x256 .f32) (harg10 : arg10.IsWhole) (arg11 : Memref sig .tc .vmem S4x64x64 .f32) (harg11 : arg11.IsWhole) (arg12 : Memref sig .tc .vmem S8x64 .f32) (harg12 : arg12.IsWhole) (arg13 : Memref sig .tc .vmem S8x128 .f32) (harg13 : arg13.IsWhole)
  (x0 x1 x2 x3 : Vec Ideal S128x256 .f32) (x4 : Vec Ideal S128x128 .f32) (x5 x6 : Vec Ideal S8x1 .f32) (x7 : Vec Ideal S1x256 .f32) (xs0 : Vec Ideal S4x64x64 .f32) (xs1 : Vec Ideal S8x64 .f32) (xs2 : Vec Ideal S8x128 .f32)

/-- The state before the first chunk. -/
theorem startB (h : Fin 4) : stH (heldB0 c arg11 harg11 arg12 harg12 arg13 harg13 xs0 xs1 xs2) h = scr xs0 xs1 xs2 h := by
  ext1
  · funext a d
    show Ins.sq (heldB0 c arg11 harg11 arg12 harg12 arg13 harg13 xs0 xs1 xs2) h (ix2 a d) = _
    refine Eq.trans ?_ (startB_cm c arg11 harg11 arg12 harg12 arg13 harg13 xs0 xs1 xs2 h a d)
    pointwise [Ins.sq]
  · funext a
    exact startB_n c arg11 harg11 arg12 harg12 arg13 harg13 xs0 xs1 xs2 h a
  · exact startB_m c arg11 harg11 arg12 harg12 arg13 harg13 xs0 xs1 xs2 h

/-- The state between the chunks. -/
theorem midB (h : Fin 4) : stH (heldB1 c arg3 harg3 arg4 harg4 arg6 harg6 arg7 harg7 arg8 harg8 arg11 harg11 arg12 harg12 arg13 harg13 x1 x2 x4 x5 x6 xs0 xs1 xs2) h = next ((loads arg2 harg2 arg3 harg3 arg4 harg4 arg5 harg5 arg6 harg6 arg7 harg7 arg8 harg8 arg9 harg9 x0 x1 x2 x3 x4 x5 x6 x7).inp 0 h) (scr xs0 xs1 xs2 h) := by
  rw [← startB c arg11 harg11 arg12 harg12 arg13 harg13 xs0 xs1 xs2 h]
  refine st_next (loads arg2 harg2 arg3 harg3 arg4 harg4 arg5 harg5 arg6 harg6 arg7 harg7 arg8 harg8 arg9 harg9 x0 x1 x2 x3 x4 x5 x6 x7) (heldB0 c arg11 harg11 arg12 harg12 arg13 harg13 xs0 xs1 xs2) 0 (heldB1 c arg3 harg3 arg4 harg4 arg6 harg6 arg7 harg7 arg8 harg8 arg11 harg11 arg12 harg12 arg13 harg13 x1 x2 x4 x5 x6 xs0 xs1 xs2) h ?_ ?_ ?_
  · apply readB_m
  · intro a; apply readB_n
  · intro a d; apply readB_cm

variable (hc0 : ¬cond0_0 i)

/-- The scratch after the point. -/
theorem scrB (h : Fin 4) : scr (sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2) (sout0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2) (sout0_B_2 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2) h
    = next ((loads arg2 harg2 arg3 harg3 arg4 harg4 arg5 harg5 arg6 harg6 arg7 harg7 arg8 harg8 arg9 harg9 x0 x1 x2 x3 x4 x5 x6 x7).inp 1 h) (next ((loads arg2 harg2 arg3 harg3 arg4 harg4 arg5 harg5 arg6 harg6 arg7 harg7 arg8 harg8 arg9 harg9 x0 x1 x2 x3 x4 x5 x6 x7).inp 0 h) (scr xs0 xs1 xs2 h)) := by
  rw [← midB c arg2 harg2 arg3 harg3 arg4 harg4 arg5 harg5 arg6 harg6 arg7 harg7 arg8 harg8 arg9 harg9 arg11 harg11 arg12 harg12 arg13 harg13 x0 x1 x2 x3 x4 x5 x6 x7 xs0 xs1 xs2 h]
  refine scr_next (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1 _ _ _ h ?_ ?_ ?_
  · refine (View.read_writes_apply_eq_canon _ _ _ _ (by rw [runB_m]; exact cover_m (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1 _ h 0)).trans ?_
    rw [runB_m]
    exact canon_m (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1 _ h 0
  · intro a
    refine (View.read_writes_apply_eq_canon _ _ _ _ (by rw [runB_n]; exact cover_n (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1 _ h a)).trans ?_
    rw [runB_n]
    exact canon_n (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1 _ h a
  · intro a d
    refine (View.read_writes_junk_apply_eq_canon _ _ _).trans ?_
    rw [runB_cm]
    exact canon_cm (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1 _ h a d

/-- The rows of the first chunk. -/
theorem fstB (h : Fin 4) (t d : Fin 64) : out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2 (ix2 (orow 0 t) (ocol h d))
    = out (fun d => hh ((loads arg2 harg2 arg3 harg3 arg4 harg4 arg5 harg5 arg6 harg6 arg7 harg7 arg8 harg8 arg9 harg9 x0 x1 x2 x3 x4 x5 x6 x7).inp 0 h) (scr xs0 xs1 xs2 h) t d) (fun d => (loads arg2 harg2 arg3 harg3 arg4 harg4 arg5 harg5 arg6 harg6 arg7 harg7 arg8 harg8 arg9 harg9 x0 x1 x2 x3 x4 x5 x6 x7).gs h (ix2 0 d)) (fun d => cut (loads arg2 harg2 arg3 harg3 arg4 harg4 arg5 harg5 arg6 harg6 arg7 harg7 arg8 harg8 arg9 harg9 x0 x1 x2 x3 x4 x5 x6 x7).o 0 h (ix2 t d)) d := by
  refine (View.read_writes_junk_apply_eq_canon _ _ _).trans ?_
  rw [runB_out, skip_out4]
  refine (congrArg (fun L => View.canon L (ix2 (orow 0 t) (ocol h d))) (List.append_nil _).symm).trans ?_
  refine (canon_out4 (loads arg2 harg2 arg3 harg3 arg4 harg4 arg5 harg5 arg6 harg6 arg7 harg7 arg8 harg8 arg9 harg9 x0 x1 x2 x3 x4 x5 x6 x7) (heldB0 c arg11 harg11 arg12 harg12 arg13 harg13 xs0 xs1 xs2) 0 [] h t d).trans ?_
  rw [chO_apply, startB]

/-- The rows of the second chunk. -/
theorem sndB (h : Fin 4) (t d : Fin 64) : out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1 xs2 (ix2 (orow 1 t) (ocol h d))
    = out (fun d => hh ((loads arg2 harg2 arg3 harg3 arg4 harg4 arg5 harg5 arg6 harg6 arg7 harg7 arg8 harg8 arg9 harg9 x0 x1 x2 x3 x4 x5 x6 x7).inp 1 h) (next ((loads arg2 harg2 arg3 harg3 arg4 harg4 arg5 harg5 arg6 harg6 arg7 harg7 arg8 harg8 arg9 harg9 x0 x1 x2 x3 x4 x5 x6 x7).inp 0 h) (scr xs0 xs1 xs2 h)) t d) (fun d => (loads arg2 harg2 arg3 harg3 arg4 harg4 arg5 harg5 arg6 harg6 arg7 harg7 arg8 harg8 arg9 harg9 x0 x1 x2 x3 x4 x5 x6 x7).gs h (ix2 0 d)) (fun d => cut (loads arg2 harg2 arg3 harg3 arg4 harg4 arg5 harg5 arg6 harg6 arg7 harg7 arg8 harg8 arg9 harg9 x0 x1 x2 x3 x4 x5 x6 x7).o 1 h (ix2 t d)) d := by
  refine (View.read_writes_junk_apply_eq_canon _ _ _).trans ?_
  rw [runB_out]
  refine (canon_out4 (loads arg2 harg2 arg3 harg3 arg4 harg4 arg5 harg5 arg6 harg6 arg7 harg7 arg8 harg8 arg9 harg9 x0 x1 x2 x3 x4 x5 x6 x7) (heldB1 c arg3 harg3 arg4 harg4 arg6 harg6 arg7 harg7 arg8 harg8 arg11 harg11 arg12 harg12 arg13 harg13 x1 x2 x4 x5 x6 xs0 xs1 xs2) 1 _ h t d).trans ?_
  rw [chO_apply, midB]

end Cert.M

end
-- ==== Proof.MArr.lean ====
/-
  The mLSTM over the layer's arrays: which chunk takes which rows (`chunkIn`), what a head carries before its `n`-th chunk
  (`chain`) and the result at a position (`row`).
-/
module

public import proofs.«01_k».proof.Proof.MModel

@[expose] public section

noncomputable section

namespace Cert.M

open Idealize.ShloMosaic

/-- The arrays of the layer: the projected row `h`, queries and keys, the two gate biases, the norm's scale. -/
structure Arr where
  h : Fin 2 → Fin 8192 → Fin 2252 → EReal
  q : Fin 2 → Fin 8192 → Fin 4 → Fin 64 → EReal
  k : Fin 2 → Fin 8192 → Fin 4 → Fin 64 → EReal
  bi : Fin 4 → EReal
  bf : Fin 4 → EReal
  g : Fin 256 → EReal

/-- Position `t` of chunk `n`. -/
def pos (n : ℕ) (t : Fin 64) : Fin 8192 := ⟨(n * 64 + t.val) % 8192, Nat.mod_lt _ (by decide)⟩

/-- The log of the logistic of a forget gate. -/
def lf (z : EReal) : EReal := 0 - (max (0 - z) 0 + Ideal.log1p (Ideal.exp (0 - mag (0 - z))))

variable (A : Arr) (b : Fin 2) (h : Fin 4)

/-- What chunk `n` of a head takes. -/
def chunkIn (n : ℕ) : In where
  q t d := A.q b (pos n t) h d * Ideal.ofBits .f32 0x3E000000#32
  k t d := A.k b (pos n t) h d
  v t d := A.h b (pos n t) ⟨1732 + (h.val * 64 + d.val), by omega⟩
  b := cum fun t => lf (A.h b (pos n t) ⟨2248 + h.val, by omega⟩ + A.bf h)
  i t := A.h b (pos n t) ⟨2244 + h.val, by omega⟩ + A.bi h

/-- What a head carries before chunk `n`. -/
def chain : ℕ → St
  | 0 => ⟨fun _ _ => 0, fun _ => 0, 0⟩
  | n + 1 => next (chunkIn A b h n) (chain n)

/-- A head's row at a position before the norm. -/
def mixed (l : Fin 8192) (d : Fin 64) : EReal :=
  hh (chunkIn A b h (l.val / 64)) (chain A b h (l.val / 64)) ⟨l.val % 64, Nat.mod_lt _ (by decide)⟩ d

/-- The result at a position, lane `d` of the head. -/
def row (l : Fin 8192) (d : Fin 64) : EReal :=
  out (mixed A b h l) (fun d => A.g ⟨h.val * 64 + d.val, by omega⟩) (fun d => A.h b l ⟨1988 + (h.val * 64 + d.val), by omega⟩) d

end Cert.M

end
-- ==== Proof.MWin.lean ====
module

public import proofs.«01_k».proof.Proof.Gen.KernelIdeal.Value
public import proofs.«01_k».proof.Proof.MArr
public import Idealize.ShloMosaic.Lib.Pipeline.ValueKit

/-! # What the mLSTM kernel's windows hold

Grid point `t` takes rows `128 t` to `128 t + 127` of the prepared arrays, whose rows are the positions of both batches in order. -/

@[expose] public section

set_option maxRecDepth 16384

noncomputable section

namespace Cert.M.Win

open Idealize.ShloMosaic Idealize.ShloMosaic.TcCoe Idealize.SL.Sem Cert.KernelIdeal Cert.KernelIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 5]
    ∧ win0_3.index t = ![t.val, 6] ∧ win0_4.index t = ![t.val, 2] ∧ win0_5.index t = ![0, 0] ∧ win0_6.index t = ![0, 0]
    ∧ win0_7.index t = ![0, 0] ∧ win0_8.index t = ![t.val, 0] ∧ t.val < 128 :=
  (by decide +kernel : ∀ t : Fin grid0.N, _)

/-- The argument `h` with one row per position. -/
abbrev flat (x : FVec Ideal S2x8192x2252 .f32) : FVec Ideal S16384x2252 .f32 := shapeCast S16384x2252 x shapeCasts_S2x8192x2252_S16384x2252

/-- The columns of the blocks other than the index and the gates, in the order the kernel takes them. -/
def wide (x : FVec Ideal S2x8192x2252 .f32) : FVec Ideal S16384x1920 .f32 :=
  concatenate S16384x1920 1 [
    ⟨S16384x512, (extractStridedSlice S16384x512 ![0, 0] (flat x) slices_S16384x2252_S16384x512_0_0 : FVec Ideal S16384x512 .f32)⟩,
    ⟨S16384x512, (extractStridedSlice S16384x512 ![0, 512] (flat x) slices_S16384x2252_S16384x512_0_512 : FVec Ideal S16384x512 .f32)⟩,
    ⟨S16384x256, (extractStridedSlice S16384x256 ![0, 1476] (flat x) slices_S16384x2252_S16384x256_0_1476 : FVec Ideal S16384x256 .f32)⟩,
    ⟨S16384x256, (extractStridedSlice S16384x256 ![0, 1732] (flat x) slices_S16384x2252_S16384x256_0_1732 : FVec Ideal S16384x256 .f32)⟩,
    ⟨S16384x256, (extractStridedSlice S16384x256 ![0, 1988] (flat x) slices_S16384x2252_S16384x256_0_1988 : FVec Ideal S16384x256 .f32)⟩,
    ⟨S16384x128, (extractStridedSlice S16384x128 ![0, 1024] (flat x) slices_S16384x2252_S16384x128_0_1024 : FVec Ideal S16384x128 .f32)⟩]
    concatenates_S16384x512_S16384x512_S16384x256_S16384x256_S16384x256_S16384x128_S16384x1920_d1

/-- Zeros, four columns. -/
abbrev zeros4 : FVec Ideal S16384x4 .f32 := broadcastInDim S16384x4 ![] bcast_S_S16384x4 (constant S_ .f32 0x00000000#32 : FVec Ideal S_ .f32)

/-- The columns of the index and of the gates. -/
def gates (x : FVec Ideal S2x8192x2252 .f32) : FVec Ideal S16384x384 .f32 :=
  concatenate S16384x384 1 [
    ⟨S16384x256, (extractStridedSlice S16384x256 ![0, 1152] (flat x) slices_S16384x2252_S16384x256_0_1152 : FVec Ideal S16384x256 .f32)⟩,
    ⟨S16384x64, (extractStridedSlice S16384x64 ![0, 1408] (flat x) slices_S16384x2252_S16384x64_0_1408 : FVec Ideal S16384x64 .f32)⟩,
    ⟨S16384x4, (extractStridedSlice S16384x4 ![0, 1472] (flat x) slices_S16384x2252_S16384x4_0_1472 : FVec Ideal S16384x4 .f32)⟩,
    ⟨S16384x4, zeros4⟩,
    ⟨S16384x4, (extractStridedSlice S16384x4 ![0, 2244] (flat x) slices_S16384x2252_S16384x4_0_2244 : FVec Ideal S16384x4 .f32)⟩,
    ⟨S16384x4, zeros4⟩,
    ⟨S16384x4, (extractStridedSlice S16384x4 ![0, 2248] (flat x) slices_S16384x2252_S16384x4_0_2248 : FVec Ideal S16384x4 .f32)⟩,
    ⟨S16384x44, (broadcastInDim S16384x44 ![] bcast_S_S16384x44 (constant S_ .f32 0x00000000#32 : FVec Ideal S_ .f32) : FVec Ideal S16384x44 .f32)⟩]
    concatenates_S16384x256_S16384x64_S16384x4_S16384x4_S16384x4_S16384x4_S16384x4_S16384x44_S16384x384_d1

/-- A bias, padded by zeros, as a column. -/
def col (x : FVec Ideal S4 .f32) : FVec Ideal S8x1 .f32 :=
  shapeCast S8x1 (pad S8 ![0] ![4] ![0] x (sitofp .f32 (constantI S_ 32 0#32) : FVec Ideal S_ .f32) pads_S4_S8_040 h_S_ : FVec Ideal S8 .f32) shapeCasts_S8_S8x1

/-- The queries with their scale. -/
def qs (x : FVec Ideal S2x8192x4x64 .f32) : FVec Ideal S16384x256 .f32 :=
  mulf (shapeCast S16384x256 x shapeCasts_S2x8192x4x64_S16384x256)
    (broadcastInDim S16384x256 ![] bcast_S_S16384x256 (constant S_ .f32 0x3E000000#32 : FVec Ideal S_ .f32))

theorem col_apply (x : FVec Ideal S4 .f32) (h : Fin 4) : col x (ix2 ⟨h.val, by omega⟩ 0) = x (ix1 h) := by
  pointwise [col]

theorem at3 (x : FVec Ideal S2x8192x2252 .f32) {b b' : Fin 2} {l l' : Fin 8192} {j j' : Fin 2252} (hb : b.val = b'.val) (hl : l.val = l'.val)
    (hj : j.val = j'.val) : x (ix3 b l j) = x (ix3 b' l' j') := by
  rw [Fin.ext hb, Fin.ext hl, Fin.ext hj]

variable (b : Fin 2) (l : Fin 8192) (r : Fin 16384) (hr : r.val = b.val * 8192 + l.val)

include hr

theorem wide_v (x : FVec Ideal S2x8192x2252 .f32) (j : Fin 256) : wide x (ix2 r ⟨1280 + j.val, by omega⟩) = x (ix3 b l ⟨1732 + j.val, by omega⟩) := by
  pointwise [wide, flat]
  rw [dif_neg (by omega), dif_neg (by omega), dif_neg (by omega), dif_pos (by omega)]
  exact at3 x (by show r.val / 8192 = _; omega) (by show r.val % 8192 = _; omega) (by show _ + _ = _ + _; omega)

theorem wide_o (x : FVec Ideal S2x8192x2252 .f32) (j : Fin 256) : wide x (ix2 r ⟨1536 + j.val, by omega⟩) = x (ix3 b l ⟨1988 + j.val, by omega⟩) := by
  pointwise [wide, flat]
  rw [dif_neg (by omega), dif_neg (by omega), dif_neg (by omega), dif_neg (by omega), dif_pos (by omega)]
  exact at3 x (by show r.val / 8192 = _; omega) (by show r.val % 8192 = _; omega) (by show _ + _ = _ + _; omega)

theorem gates_i (x : FVec Ideal S2x8192x2252 .f32) (j : Fin 4) : gates x (ix2 r ⟨328 + j.val, by omega⟩) = x (ix3 b l ⟨2244 + j.val, by omega⟩) := by
  pointwise [gates, flat]
  rw [dif_neg (by omega), dif_neg (by omega), dif_neg (by omega), dif_neg (by omega), dif_pos (by omega)]
  exact at3 x (by show r.val / 8192 = _; omega) (by show r.val % 8192 = _; omega) (by show _ + _ = _ + _; omega)

theorem gates_f (x : FVec Ideal S2x8192x2252 .f32) (j : Fin 4) : gates x (ix2 r ⟨336 + j.val, by omega⟩) = x (ix3 b l ⟨2248 + j.val, by omega⟩) := by
  pointwise [gates, flat]
  rw [dif_neg (by omega), dif_neg (by omega), dif_neg (by omega), dif_neg (by omega), dif_neg (by omega), dif_neg (by omega), dif_pos (by omega)]
  exact at3 x (by show r.val / 8192 = _; omega) (by show r.val % 8192 = _; omega) (by show _ + _ = _ + _; omega)

theorem qs_apply (x : FVec Ideal S2x8192x4x64 .f32) (h : Fin 4) (d : Fin 64) :
    qs x (ix2 r ⟨64 * h.val + d.val, by omega⟩) = x (ix4 b l h d) * Ideal.ofBits .f32 0x3E000000#32 := by
  pointwise [qs]
  have hb : (⟨r.val / 8192, by omega⟩ : Fin 2) = b := Fin.ext (by show r.val / 8192 = _; omega)
  have hl : (⟨r.val % 8192, by omega⟩ : Fin 8192) = l := Fin.ext (by show r.val % 8192 = _; omega)
  rw [hb, hl]

theorem ks_apply (x : FVec Ideal S2x8192x4x64 .f32) (h : Fin 4) (d : Fin 64) :
    shapeCast S16384x256 x shapeCasts_S2x8192x4x64_S16384x256 (ix2 r ⟨64 * h.val + d.val, by omega⟩) = x (ix4 b l h d) := by
  pointwise []
  have hb : (⟨r.val / 8192, by omega⟩ : Fin 2) = b := Fin.ext (by show r.val / 8192 = _; omega)
  have hl : (⟨r.val % 8192, by omega⟩ : Fin 8192) = l := Fin.ext (by show r.val % 8192 = _; omega)
  rw [hb, hl]

end Cert.M.Win

end
-- ==== Proof.MHost.lean ====
module

public import proofs.«01_k».proof.Proof.MWin

/-! # The prepared arrays of the mLSTM kernel, in the arguments -/

@[expose] public section

set_option maxRecDepth 16384

noncomputable section

namespace Cert.M.Win

open Idealize.ShloMosaic Idealize.ShloMosaic.TcCoe Idealize.SL.Sem Cert.KernelIdeal Cert.KernelIdeal.Gen

variable (m : (ℓ : Loc nD τ sig) → Buf (Elt Ideal) ℓ) (c : Dev nD)

theorem host_q : (V m c main_v19 : Vec Ideal S16384x256 .f32) = qs (m ((c : Thread nD τ).loc main_arg1)) := by
  unfold V hostOps0 hostOps0_1 hostOps0_2 hostOps0_3 hostOps0_4
  simp only [List.flatten_cons, List.flatten_nil, List.append_nil, List.cons_append, List.nil_append]
  after_results <;> rfl

theorem host_k : (V m c main_v20 : Vec Ideal S16384x256 .f32) = shapeCast S16384x256 (m ((c : Thread nD τ).loc main_arg2)) shapeCasts_S2x8192x4x64_S16384x256 := by
  unfold V hostOps0 hostOps0_1 hostOps0_2 hostOps0_3 hostOps0_4
  simp only [List.flatten_cons, List.flatten_nil, List.append_nil, List.cons_append, List.nil_append]
  after_results <;> rfl

theorem host_wide : (V m c main_v12 : Vec Ideal S16384x1920 .f32) = wide (m ((c : Thread nD τ).loc main_arg0)) := by
  unfold V hostOps0 hostOps0_1 hostOps0_2 hostOps0_3 hostOps0_4
  simp only [List.flatten_cons, List.flatten_nil, List.append_nil, List.cons_append, List.nil_append]
  after_results <;> rfl

theorem host_gates : (V m c main_v16 : Vec Ideal S16384x384 .f32) = gates (m ((c : Thread nD τ).loc main_arg0)) := by
  unfold V hostOps0 hostOps0_1 hostOps0_2 hostOps0_3 hostOps0_4
  simp only [List.flatten_cons, List.flatten_nil, List.append_nil, List.cons_append, List.nil_append]
  after_results <;> rfl

theorem host_bi : (V m c main_v22 : Vec Ideal S8x1 .f32) = col (m ((c : Thread nD τ).loc main_arg3)) := by
  unfold V hostOps0 hostOps0_1 hostOps0_2 hostOps0_3 hostOps0_4
  simp only [List.flatten_cons, List.flatten_nil, List.append_nil, List.cons_append, List.nil_append]
  after_results <;> rfl

theorem host_bf : (V m c main_v24 : Vec Ideal S8x1 .f32) = col (m ((c : Thread nD τ).loc main_arg4)) := by
  unfold V hostOps0 hostOps0_1 hostOps0_2 hostOps0_3 hostOps0_4
  simp only [List.flatten_cons, List.flatten_nil, List.append_nil, List.cons_append, List.nil_append]
  after_results <;> rfl

theorem host_g : (V m c main_v25 : Vec Ideal S1x256 .f32) = shapeCast S1x256 (m ((c : Thread nD τ).loc main_arg5)) shapeCasts_S256_S1x256 := by
  unfold V hostOps0 hostOps0_1 hostOps0_2 hostOps0_3 hostOps0_4
  simp only [List.flatten_cons, List.flatten_nil, List.append_nil, List.cons_append, List.nil_append]
  after_results <;> rfl

end Cert.M.Win

end
-- ==== Proof.MWinAt.lean ====
module

public import proofs.«01_k».proof.Proof.MWin

/-! # Where a point's blocks lie in the prepared arrays -/

@[expose] public section

set_option maxRecDepth 16384

noncomputable section

namespace Cert.M.Win

open Idealize.ShloMosaic Idealize.ShloMosaic.TcCoe Idealize.SL.Sem Cert.KernelIdeal Cert.KernelIdeal.Gen

variable (m : (ℓ : Loc nD τ sig) → Buf (Elt Ideal) ℓ) (c : Dev nD)

theorem b0 (t : Fin cfg0.N) (r : Fin 128) (j : Fin 256) (R : Fin 16384) (hR : R.val = t.val * 128 + r.val) :
    (iblk m c 0 t : Vec Ideal S128x256 .f32) (ix2 r j) = (V m c main_v19 : Vec Ideal S16384x256 .f32) (ix2 R j) := by
  blk_ext [iblk, idx t]

theorem b1 (t : Fin cfg0.N) (r : Fin 128) (j : Fin 256) (R : Fin 16384) (hR : R.val = t.val * 128 + r.val) :
    (iblk m c 1 t : Vec Ideal S128x256 .f32) (ix2 r j) = (V m c main_v20 : Vec Ideal S16384x256 .f32) (ix2 R j) := by
  blk_ext [iblk, idx t]

theorem b2 (t : Fin cfg0.N) (r : Fin 128) (j : Fin 256) (R : Fin 16384) (hR : R.val = t.val * 128 + r.val) :
    (X0_2 m c t : Vec Ideal S128x256 .f32) (ix2 r j) = (V m c main_v12 : Vec Ideal S16384x1920 .f32) (ix2 R ⟨1280 + j.val, by omega⟩) := by
  unfold X0_2 Pipeline.Window.fill
  rw [dif_pos (moved0_2 t _)]
  blk_ext [iblk, idx t]

theorem b3 (t : Fin cfg0.N) (r : Fin 128) (j : Fin 256) (R : Fin 16384) (hR : R.val = t.val * 128 + r.val) :
    (X0_3 m c t : Vec Ideal S128x256 .f32) (ix2 r j) = (V m c main_v12 : Vec Ideal S16384x1920 .f32) (ix2 R ⟨1536 + j.val, by omega⟩) := by
  unfold X0_3 Pipeline.Window.fill
  rw [dif_pos (moved0_3 t _)]
  blk_ext [iblk, idx t]

theorem b4 (t : Fin cfg0.N) (r : Fin 128) (j : Fin 128) (R : Fin 16384) (hR : R.val = t.val * 128 + r.val) :
    (iblk m c 4 t : Vec Ideal S128x128 .f32) (ix2 r j) = (V m c main_v16 : Vec Ideal S16384x384 .f32) (ix2 R ⟨256 + j.val, by omega⟩) := by
  blk_ext [iblk, idx t]

theorem b5 (t : Fin cfg0.N) (r : Fin 8) :
    (iblk m c 5 t : Vec Ideal S8x1 .f32) (ix2 r 0) = (V m c main_v22 : Vec Ideal S8x1 .f32) (ix2 r 0) := by
  blk_ext [iblk, idx t]

theorem b6 (t : Fin cfg0.N) (r : Fin 8) :
    (iblk m c 6 t : Vec Ideal S8x1 .f32) (ix2 r 0) = (V m c main_v24 : Vec Ideal S8x1 .f32) (ix2 r 0) := by
  blk_ext [iblk, idx t]

theorem b7 (t : Fin cfg0.N) (j : Fin 256) :
    (iblk m c 7 t : Vec Ideal S1x256 .f32) (ix2 0 j) = (V m c main_v25 : Vec Ideal S1x256 .f32) (ix2 0 j) := by
  blk_ext [iblk, idx t]

end Cert.M.Win

end
-- ==== Proof.MStep.lean ====
/-
  One trip of the plain loop is one chunk of every head: what it writes out is `hh`, what it carries on is `next`, of the
  chunk's slices of the queries, keys, values and gates. The running sum of the log forget gates is a sum over a window.
-/
module

public import proofs.«01_k».proof.Proof.Gen.ReferenceIdeal.Step
public import proofs.«01_k».proof.Proof.MModel

@[expose] public section

set_option maxRecDepth 16384

noncomputable section

namespace Cert.M.Ref

open Idealize.ShloMosaic Idealize.ShloMosaic.TcCoe Idealize.SL.Sem Cert.ReferenceIdeal Cert.ReferenceIdeal.Gen Cert.ReferenceIdeal.Step

variable (j : ℕ) (s : State Ideal) (b : Fin 2) (h : Fin 4)

/-- What the trip takes for a head. -/
def inR : In where
  q t d := b5 j s (ix4 b h t d)
  k t d := b11 j s (ix4 b h t d)
  v t d := b17 j s (ix4 b h t d)
  b t := b30 j s (ix3 b h t)
  i t := b22 j s (ix3 b h t)

/-- What a head carries. The loop keeps the memory with the value lane first. -/
def stR : St where
  cm a d := s.main_v44_7 (ix4 b h d a)
  n a := s.main_v44_8 (ix3 b h a)
  m := s.main_v44_9 (ix2 b h)

theorem ge_bit : ∀ t u : Fin 64, IntOp.cmpi .sge (IntOp.addi (BitVec.ofNat 32 t.val) 0#32) (BitVec.ofNat 32 u.val) = if u.val ≤ t.val then 1#1 else 0#1 := by
  decide +kernel

/-- The masked log weights. -/
theorem weights (t u : Fin 64) : b43 j s (ix4 b h t u) = dm (inR j s b h) t u := by
  have e : K_main_v39 (F := Ideal) (ix2 t u) = if u.val ≤ t.val then 1#1 else 0#1 := by
    have e1 : K_main_call1_v4 (F := Ideal) (ix2 t u) = if u.val ≤ t.val then 1#1 else 0#1 := by
      rw [← ge_bit]
      pointwise [K_main_call1_v4, K_main_call1_v2, K_main_call1_v3, K_main_call1_v0, K_main_call1_v1, K_main_call1_c]
    unfold K_main_v39
    by_cases hu : u.val ≤ t.val
    · pointwise [e1, if_pos hu, K_main_v38, K_main_c]
    · pointwise [e1, if_neg hu, K_main_call1_v5, K_main_call1_c_0]
  unfold dm
  by_cases hu : u.val ≤ t.val
  · rw [if_pos hu] at e ⊢
    pointwise [b43, b41, b42, e, b38, b37, b36, b35, b34, b33, b32, b31, inR]
  · rw [if_neg hu] at e ⊢
    pointwise [b43, b41, b42, e, b40, b39]

theorem rowMax (y : FVec Ideal S2x4x64x64 .f32) (t : Fin 64) :
    Host.reduce (FloatOps.maximumf (F := Ideal) (φ := .f32)) y (constant (F := Ideal) S_ .f32 0xFF800000#32) reducesTo_S2x4x64x64_S2x4x64_d3 h_S_ (ix3 b h t)
    = Finset.univ.fold max low fun u => y (ix4 b h t u) := by
  pointwise []

theorem lineMax (y : FVec Ideal S2x4x64 .f32) :
    Host.reduce (FloatOps.maximumf (F := Ideal) (φ := .f32)) y (constant (F := Ideal) S_ .f32 0xFF800000#32) reducesTo_S2x4x64_S2x4_d2 h_S_ (ix2 b h)
    = Finset.univ.fold max low fun u => y (ix3 b h u) := by
  pointwise []

theorem carried (t : Fin 64) : b46 j s (ix3 b h t) = inter (inR j s b h) (stR s b h) t := by
  pointwise [b46, b45, b44, inter, inR, stR]

theorem stabs (t : Fin 64) : b49 j s (ix3 b h t) = mrow (inR j s b h) (stR s b h) t := by
  have e : b48 j s (ix3 b h t) = Finset.univ.fold max low (dm (inR j s b h) t) := by
    unfold b48 b47
    rw [rowMax]
    exact congrArg (Finset.univ.fold max low) (funext (weights j s b h t))
  pointwise [b49, carried, e, mrow]

theorem kept (t : Fin 64) : b51 j s (ix3 b h t) = win (inR j s b h) (stR s b h) t := by
  pointwise [b51, b50, carried, stabs, win]

theorem scores (t u : Fin 64) : b57 j s (ix4 b h t u) = sw (inR j s b h) (stR s b h) t u := by
  pointwise [b57, b56, b55, b54, b53, b52, weights, stabs, sw]
  rfl

theorem nums (t d : Fin 64) : b63 j s (ix4 b h t d) = num (inR j s b h) (stR s b h) t d := by
  pointwise [b63, b62, b61, b60, b59, b58, scores, kept, num]
  rfl

theorem dens (t : Fin 64) : b68 j s (ix3 b h t) = den (inR j s b h) (stR s b h) t := by
  have e : b66 j s (ix3 b h t) = ∑ a, (inR j s b h).q t a * (stR s b h).n a := by
    pointwise [b66]
    exact Finset.sum_congr rfl fun a _ => mul_comm _ _
  pointwise [b68, b67, b65, b64, scores, kept, den, e]

theorem chunkOut (t d : Fin 64) : b75 j s (ix4 b h t d) = hh (inR j s b h) (stR s b h) t d := by
  pointwise [b75, b74, b73, b72, b71, b70, b69, nums, dens, stabs, hh, mag]
  rw [zero_sub]

theorem gates (u : Fin 64) : b81 j s (ix3 b h u) = gate (inR j s b h) u := by
  pointwise [b81, b80, b79, b78, b77, b76, gate, inR]

theorem lastSum : b77 j s (ix2 b h) = (inR j s b h).b 63 := by
  pointwise [b77, b76, inR]

theorem stab' : b85 j s (ix2 b h) = mnew (inR j s b h) (stR s b h) := by
  have e : b84 j s (ix2 b h) = Finset.univ.fold max low (gate (inR j s b h)) := by
    unfold b84 b83
    rw [lineMax]
    exact congrArg (Finset.univ.fold max low) (funext (gates j s b h))
  pointwise [b85, b82, e, lastSum, mnew]
  rfl

theorem fade : b88 j s (ix2 b h) = decay (inR j s b h) (stR s b h) := by
  pointwise [b88, b87, b86, stab', lastSum, decay]
  rfl

theorem keyWeight (u : Fin 64) : b92 j s (ix3 b h u) = Ideal.exp (gate (inR j s b h) u - mnew (inR j s b h) (stR s b h)) := by
  pointwise [b92, b91, b90, b89, gates, stab']

/-- The trip carries on `next`. -/
theorem step_st : stR (step j s) b h = next (inR j s b h) (stR s b h) := by
  refine St.ext (funext fun a => funext fun d => ?_) (funext fun a => ?_) ?_
  · show (step j s).main_v44_7 (ix4 b h d a) = _
    rw [step_main_v44_7]
    pointwise [b100, b99, b98, b97, b96, b95, b94, b93, fade, keyWeight, next, kw]
    refine congrArg₂ (· + ·) rfl (Finset.sum_congr rfl fun u _ => ?_)
    show _ * b17 j s (ix4 b h u d) * b11 j s (ix4 b h u a) = b11 j s (ix4 b h u a) * _ * b17 j s (ix4 b h u d)
    rw [mul_comm, mul_assoc]
  · show (step j s).main_v44_8 (ix3 b h a) = _
    rw [step_main_v44_8]
    pointwise [b105, b104, b103, b102, b101, fade, keyWeight, next, kw]
    exact congrArg₂ (· + ·) rfl (Finset.sum_congr rfl fun u _ => mul_comm _ _)
  · show (step j s).main_v44_9 (ix2 b h) = _
    rw [step_main_v44_9, stab']
    rfl

end Cert.M.Ref

end
-- ==== Proof.MCum.lean ====
/-
  The running sums of the log forget gates. The kernel makes them in six doubling steps, each adding the row rolled by a power
  of two where the lane's place in its chunk allows it; the plain loop makes them as the sum over a window of 64. Both are the
  sum of the chunk's entries up to the place.
-/
module

public import proofs.«01_k».proof.Proof.MBlock
public import proofs.«01_k».proof.Proof.MStep

@[expose] public section

set_option maxRecDepth 16384

noncomputable section

namespace Cert.M

open Idealize.ShloMosaic

/-- The sum of the `w` entries that end at place `t`; places before 0 count nothing. -/
def back (w : ℕ) (f : ℕ → EReal) (t : ℕ) : EReal := ∑ i ∈ Finset.range w, if i ≤ t then f (t - i) else 0

theorem back_one (f : ℕ → EReal) (t : ℕ) : back 1 f t = f t := by
  unfold back
  rw [Finset.sum_range_one, if_pos (Nat.zero_le t), Nat.sub_zero]

/-- One doubling step. -/
theorem back_double (w : ℕ) (f : ℕ → EReal) (t : ℕ) : back w f t + (if w ≤ t then back w f (t - w) else 0) = back (w + w) f t := by
  unfold back
  rw [Finset.sum_range_add]
  congr 1
  split
  · next hw =>
    refine Finset.sum_congr rfl fun i _ => ?_
    by_cases hi : i ≤ t - w
    · rw [if_pos hi, if_pos (by omega), Nat.sub_sub]
    · rw [if_neg hi, if_neg (by omega)]
  · next hw =>
    exact (Finset.sum_eq_zero fun i _ => if_neg (by omega)).symm

/-- The whole window is the sum up to the place. -/
theorem back_all (f : ℕ → EReal) (t : Fin 64) : back 64 f t.val = cum (fun u => f u.val) t := by
  unfold back cum
  rw [Fin.sum_univ_eq_sum_range (fun u => if u ≤ t.val then f u else 0) 64, ← Finset.sum_filter, ← Finset.sum_filter]
  have ht := t.isLt
  refine Finset.sum_nbij' (fun i => t.val - i) (fun u => t.val - u) ?_ ?_ ?_ ?_ ?_
  · intro i hi; rw [Finset.mem_filter, Finset.mem_range] at hi ⊢; omega
  · intro i hi; rw [Finset.mem_filter, Finset.mem_range] at hi ⊢; omega
  · intro i hi; rw [Finset.mem_filter, Finset.mem_range] at hi; omega
  · intro i hi; rw [Finset.mem_filter, Finset.mem_range] at hi; omega
  · intro i hi; rfl

namespace Ker

open Cert.KernelIdeal Cert.KernelIdeal.Gen

/-- One step of the kernel: the row plus itself rolled by `w`, where the place in the chunk is at least `w`. -/
def roll (w : ℕ) (y : FVec Ideal S8x128 .f32) : FVec Ideal S8x128 .f32 :=
  addf y (select (cmpi .sge k0_pay8 (broadcast S8x128 (BitVec.ofNat 32 w)))
    (dynamicRotate 1 (BitVec.ofNat 32 w) none y rotates_S8x128_d1) (broadcast S8x128 (Scalar.ofBits .f32 0x00000000#32)))

theorem place_bit : ∀ w ∈ [1, 2, 4, 8, 16, 32], ∀ l : Fin 128,
    IntOp.cmpi .sge (IntOp.andi (BitVec.ofNat 32 l.val) 63#32) (BitVec.ofNat 32 w) = if w ≤ l.val % 64 then 1#1 else 0#1 := by
  decide +kernel

/-- A place of a chunk among the 128 lanes. -/
def lane (c : Fin 2) (t : ℕ) : Fin 128 := ⟨(64 * c.val + t) % 128, Nat.mod_lt _ (by decide)⟩

theorem roll_apply (w : ℕ) (hw : w ∈ [1, 2, 4, 8, 16, 32]) (y : FVec Ideal S8x128 .f32) (h : Fin 8) (c : Fin 2) (t : ℕ) (ht : t < 64) :
    roll w y (ix2 h (lane c t)) = y (ix2 h (lane c t)) + if w ≤ t then y (ix2 h (lane c (t - w))) else 0 := by
  have hc := c.isLt
  have hw' : w ≤ 32 := by
    simp only [List.mem_cons, List.not_mem_nil, or_false] at hw
    omega
  have e : cmpi .sge k0_pay8 (broadcast S8x128 (BitVec.ofNat 32 w)) (ix2 h (lane c t)) = if w ≤ t then 1#1 else 0#1 := by
    have e0 := place_bit w hw (lane c t)
    rw [show (lane c t).val % 64 = t by simp only [lane]; omega] at e0
    rw [← e0]
    pointwise [k0_pay8]
  by_cases hwt : w ≤ t
  · rw [if_pos hwt] at e ⊢
    have er : dynamicRotate 1 (BitVec.ofNat 32 w) none y rotates_S8x128_d1 (ix2 h (lane c t)) = y (ix2 h (lane c (t - w))) := by
      rw [Pointwise.dynamicRotate_apply]
      refine congrArg y (funext fun b => ?_)
      match b with
      | ⟨0, _⟩ => rfl
      | ⟨1, _⟩ =>
        refine Fin.ext ?_
        show ((64 * c.val + t) % 128 + 128 - ((BitVec.ofNat 32 w).toNat + 0) % 128) % 128 = (64 * c.val + (t - w)) % 128
        rw [BitVec.toNat_ofNat]
        omega
    unfold roll
    show y _ + Scalar.select _ _ _ = _
    rw [e, er]
    rfl
  · rw [if_neg hwt] at e ⊢
    unfold roll
    show y _ + Scalar.select _ _ _ = _
    rw [e]
    refine congrArg (y (ix2 h (lane c t)) + ·) ?_
    show Ideal.ofBits .f32 0x00000000#32 = 0
    pointwise []

/-- A step doubles the window. -/
theorem roll_back (w : ℕ) (hw : w ∈ [1, 2, 4, 8, 16, 32]) (y : FVec Ideal S8x128 .f32) (f : ℕ → EReal) (h : Fin 8) (c : Fin 2)
    (hy : ∀ t < 64, y (ix2 h (lane c t)) = back w f t) : ∀ t < 64, roll w y (ix2 h (lane c t)) = back (w + w) f t := by
  intro t ht
  rw [roll_apply w hw y h c t ht, hy t ht, ← back_double, hy (t - w) (by omega)]

/-- The six steps. -/
theorem sums (y : FVec Ideal S8x128 .f32) (h : Fin 8) (c : Fin 2) (t : Fin 64) :
    roll 32 (roll 16 (roll 8 (roll 4 (roll 2 (roll 1 y))))) (ix2 h (lane c t.val)) = cum (fun u => y (ix2 h (lane c u.val))) t := by
  refine (roll_back 32 (by decide) _ _ h c (roll_back 16 (by decide) _ _ h c (roll_back 8 (by decide) _ _ h c (roll_back 4 (by decide) _ _ h c
    (roll_back 2 (by decide) _ _ h c (roll_back 1 (by decide) _ (fun u => y (ix2 h (lane c u))) h c fun t _ => (back_one (fun u => y (ix2 h (lane c u))) t).symm))))) t.val t.isLt).trans ?_
  exact back_all _ t

theorem six (sm : Vec Ideal S128x128 .f32) (bf : Vec Ideal S8x1 .f32) :
    k0_pay12 (k0_pay7 sm bf) k0_pay8 k0_pay9 (k0_pay10 sm bf) k0_pay11 = roll 32 (roll 16 (roll 8 (roll 4 (roll 2 (roll 1 (k0_pay7 sm bf)))))) := rfl

end Ker

namespace Ref

open Cert.ReferenceIdeal Cert.ReferenceIdeal.Gen Cert.ReferenceIdeal.Step

/-- A left fold that adds is a sum. -/
theorem fold_sum {α : Type} (f : α → EReal) (L : List α) (z : EReal) : L.foldl (fun r n => r + f n) z = z + (L.map f).sum := by
  induction L generalizing z with
  | nil => simp
  | cons a L ih => rw [List.foldl_cons, ih, List.map_cons, List.sum_cons, add_assoc]

/-- The positions of a window of 64 along the last axis. -/
theorem win_pos : ∀ n : Fin (⟨3, ![1, 1, 64]⟩ : Shape).numel, ((⟨3, ![1, 1, 64]⟩ : Shape).rowMajor.symm n 0).val = 0
    ∧ ((⟨3, ![1, 1, 64]⟩ : Shape).rowMajor.symm n 1).val = 0 ∧ ((⟨3, ![1, 1, 64]⟩ : Shape).rowMajor.symm n 2).val = n.val := by
  decide +kernel

/-- The window sum of the loop. -/
theorem cumsum (x : FVec Ideal S2x4x64 .f32) (init : FVec Ideal S_ .f32) (hi : ∀ i, init i = 0) (b : Fin 2) (h : Fin 4) (t : Fin 64) :
    Host.reduceWindowAdd (F := Ideal) (φ := .f32) ![1, 1, 64] ![1, 1, 1] ![0, 0, 63] ![0, 0, 0] x init
      reduceWindows_S2x4x64_S2x4x64_w1s1p0_0_w1s1p0_0_w64s1p63_0 h_S_ (ix3 b h t) = cum (fun u => x (ix3 b h u)) t := by
  have hb := b.isLt
  have hh := h.isLt
  have ht := t.isLt
  let g : ℕ → EReal := fun n => if hn : 63 ≤ t.val + n ∧ t.val + n - 63 < 64 then x (ix3 b h ⟨t.val + n - 63, hn.2⟩) else 0
  show Host.reduceWindow (· + ·) ![1, 1, 64] ![1, 1, 1] ![0, 0, 63] ![0, 0, 0] x (fun _ : (⟨0, ![]⟩ : Shape).Idx => init (Shape.Idx.first h_S_))
    reduceWindows_S2x4x64_S2x4x64_w1s1p0_0_w1s1p0_0_w64s1p63_0 (by decide : 0 < (⟨0, ![]⟩ : Shape).numel) (ix3 b h t) = _
  unfold Host.reduceWindow
  simp only [hi]
  refine (fold_sum _ _ _).trans ?_
  rw [zero_add]
  have e : ∀ n : Fin (⟨3, ![1, 1, 64]⟩ : Shape).numel, (if hin : ∀ a : Fin 3, (![0, 0, 63] : Fin 3 → ℕ) a ≤ ((ix3 b h t : S2x4x64.Idx) a).val * (![1, 1, 1] : Fin 3 → ℕ) a + ((⟨3, ![1, 1, 64]⟩ : Shape).rowMajor.symm n a).val
        ∧ ((ix3 b h t : S2x4x64.Idx) a).val * (![1, 1, 1] : Fin 3 → ℕ) a + ((⟨3, ![1, 1, 64]⟩ : Shape).rowMajor.symm n a).val - (![0, 0, 63] : Fin 3 → ℕ) a < S2x4x64.size a
      then x (fun a => ⟨((ix3 b h t : S2x4x64.Idx) a).val * (![1, 1, 1] : Fin 3 → ℕ) a + ((⟨3, ![1, 1, 64]⟩ : Shape).rowMajor.symm n a).val - (![0, 0, 63] : Fin 3 → ℕ) a, (hin a).2⟩) else 0) = g n.val := by
    intro n
    obtain ⟨h0, h1, h2⟩ := win_pos n
    split
    · next hin =>
      have hn := hin 2
      change 63 ≤ t.val * 1 + ((⟨3, ![1, 1, 64]⟩ : Shape).rowMajor.symm n 2).val ∧ t.val * 1 + ((⟨3, ![1, 1, 64]⟩ : Shape).rowMajor.symm n 2).val - 63 < 64 at hn
      rw [h2] at hn
      refine Eq.trans ?_ (dif_pos (by omega : 63 ≤ t.val + n.val ∧ t.val + n.val - 63 < 64)).symm
      refine congrArg x (funext fun a => Fin.ext ?_)
      match a with
      | ⟨0, _⟩ =>
        show b.val * 1 + ((⟨3, ![1, 1, 64]⟩ : Shape).rowMajor.symm n 0).val - 0 = b.val
        rw [h0]; omega
      | ⟨1, _⟩ =>
        show h.val * 1 + ((⟨3, ![1, 1, 64]⟩ : Shape).rowMajor.symm n 1).val - 0 = h.val
        rw [h1]; omega
      | ⟨2, _⟩ =>
        show t.val * 1 + ((⟨3, ![1, 1, 64]⟩ : Shape).rowMajor.symm n 2).val - 63 = t.val + n.val - 63
        rw [h2]; omega
    · next hin =>
      show (0 : EReal) = if hn : 63 ≤ t.val + n.val ∧ t.val + n.val - 63 < 64 then x (ix3 b h ⟨t.val + n.val - 63, hn.2⟩) else 0
      refine Eq.symm (dif_neg fun hn => hin fun a => ?_)
      match a with
      | ⟨0, _⟩ =>
        show 0 ≤ b.val * 1 + ((⟨3, ![1, 1, 64]⟩ : Shape).rowMajor.symm n 0).val ∧ b.val * 1 + ((⟨3, ![1, 1, 64]⟩ : Shape).rowMajor.symm n 0).val - 0 < 2
        rw [h0]; omega
      | ⟨1, _⟩ =>
        show 0 ≤ h.val * 1 + ((⟨3, ![1, 1, 64]⟩ : Shape).rowMajor.symm n 1).val ∧ h.val * 1 + ((⟨3, ![1, 1, 64]⟩ : Shape).rowMajor.symm n 1).val - 0 < 4
        rw [h1]; omega
      | ⟨2, _⟩ =>
        show 63 ≤ t.val * 1 + ((⟨3, ![1, 1, 64]⟩ : Shape).rowMajor.symm n 2).val ∧ t.val * 1 + ((⟨3, ![1, 1, 64]⟩ : Shape).rowMajor.symm n 2).val - 63 < 64
        rw [h2]; omega
  refine (congrArg List.sum (List.map_congr_left fun n _ => e n)).trans ?_
  rw [← Fin.sum_univ_def (fun n : Fin (⟨3, ![1, 1, 64]⟩ : Shape).numel => g n.val)]
  refine (Fin.sum_univ_eq_sum_range g 64).trans ?_
  unfold cum
  let f : ℕ → EReal := fun u => if hu : u < 64 then x (ix3 b h ⟨u, hu⟩) else 0
  rw [Finset.sum_congr rfl fun u _ => (show (if u.val ≤ t.val then x (ix3 b h u) else 0) = (fun u : ℕ => if u ≤ t.val then f u else 0) u.val by
    show _ = if u.val ≤ t.val then (if hu : u.val < 64 then x (ix3 b h ⟨u.val, hu⟩) else 0) else 0
    rw [dif_pos u.isLt]), Fin.sum_univ_eq_sum_range (fun u : ℕ => if u ≤ t.val then f u else 0) 64]
  rw [Finset.sum_congr rfl fun n hn => (show g n = if 63 ≤ t.val + n then f (t.val + n - 63) else 0 by
    rw [Finset.mem_range] at hn
    by_cases h63 : 63 ≤ t.val + n
    · rw [if_pos h63]
      show (if hn : 63 ≤ t.val + n ∧ t.val + n - 63 < 64 then x (ix3 b h ⟨t.val + n - 63, hn.2⟩) else 0)
        = if hu : t.val + n - 63 < 64 then x (ix3 b h ⟨t.val + n - 63, hu⟩) else 0
      rw [dif_pos ⟨h63, by omega⟩, dif_pos (by omega)]
    · rw [if_neg h63]
      exact dif_neg fun hc => h63 hc.1), ← Finset.sum_filter, ← Finset.sum_filter]
  refine Finset.sum_nbij' (fun n => t.val + n - 63) (fun u => u + 63 - t.val) ?_ ?_ ?_ ?_ ?_
  · intro i hi; rw [Finset.mem_filter, Finset.mem_range] at hi ⊢; omega
  · intro i hi; rw [Finset.mem_filter, Finset.mem_range] at hi ⊢; omega
  · intro i hi; rw [Finset.mem_filter, Finset.mem_range] at hi; omega
  · intro i hi; rw [Finset.mem_filter, Finset.mem_range] at hi; omega
  · intro i hi; rfl

/-- The loop's running sums. -/
theorem run_sum (j : ℕ) (s : State Ideal) (b : Fin 2) (h : Fin 4) (t : Fin 64) :
    b30 j s (ix3 b h t) = cum (fun u => b27 j s (ix3 b h u)) t := by
  unfold b30
  refine cumsum _ _ (fun i => ?_) b h t
  pointwise [b29, b28]

end Ref

end Cert.M

end
-- ==== Proof.MIn.lean ====
module

public import proofs.«01_k».proof.Proof.MChain
public import proofs.«01_k».proof.Proof.MCum
public import proofs.«01_k».proof.Proof.MArr

/-! # What a chunk takes, entry by entry, from the blocks a point loads -/

@[expose] public section

set_option maxRecDepth 16384

noncomputable section

namespace Cert.M

open Idealize.ShloMosaic Cert.KernelIdeal Cert.KernelIdeal.Gen

theorem cut_apply (x : Vec Ideal S128x256 .f32) (c : Fin 2) (h : Fin 4) (t d : Fin 64) : cut x c h (ix2 t d) = x (ix2 (orow c t) (ocol h d)) := by
  pointwise [cut, orow, ocol]

theorem gs_apply (I : Ins) (h : Fin 4) (d : Fin 64) : I.gs h (ix2 0 d) = I.g (ix2 0 (ocol h d)) := by
  pointwise [Ins.gs, ocol]

theorem ir_apply (I : Ins) (c : Fin 2) (h : Fin 4) (t : Fin 64) :
    I.ir c h (ix2 0 t) = I.sm (ix2 (orow c t) ⟨72 + h.val, by omega⟩) + I.bi (ix2 (row8 h) 0) := by
  pointwise [Ins.ir, Ins.ig, k0_pay6, k0_pay5, orow, row8]

theorem lf_apply (sm : Vec Ideal S128x128 .f32) (bf : Vec Ideal S8x1 .f32) (h : Fin 4) (l : Fin 128) :
    k0_pay7 sm bf (ix2 (row8 h) l) = lf (sm (ix2 l ⟨80 + h.val, by omega⟩) + bf (ix2 (row8 h) 0)) := by
  pointwise [k0_pay7, k0_pay5, row8]
  simp only [ne_eq, not_true_eq_false, if_false, lf, mag]

theorem br_apply (I : Ins) (c : Fin 2) (h : Fin 4) (t : Fin 64) :
    I.br c h (ix2 0 t) = cum (fun u => lf (I.sm (ix2 (orow c u) ⟨80 + h.val, by omega⟩) + I.bf (ix2 (row8 h) 0))) t := by
  have e : I.br c h (ix2 0 t) = I.bcum (ix2 (row8 h) (Ker.lane c t.val)) := by
    have hl : Ker.lane c t.val = orow c t := Fin.ext (by show (64 * c.val + t.val) % 128 = 64 * c.val + t.val; omega)
    rw [hl]
    pointwise [Ins.br, orow, row8]
  rw [e, Ins.bcum, Ker.six, Ker.sums]
  congr 1
  funext u
  have hl : Ker.lane c u.val = orow c u := Fin.ext (by show (64 * c.val + u.val) % 128 = 64 * c.val + u.val; omega)
  rw [hl, lf_apply]

end Cert.M

end
-- ==== Proof.MInAt.lean ====
module

public import proofs.«01_k».proof.Proof.MHost
public import proofs.«01_k».proof.Proof.MWinAt
public import proofs.«01_k».proof.Proof.MIn

/-! # What a point's chunks take are the model's chunks of its batch -/

@[expose] public section

set_option maxRecDepth 16384

noncomputable section

namespace Cert.M

open Idealize.ShloMosaic Idealize.ShloMosaic.TcCoe Idealize.SL.Sem Cert.KernelIdeal Cert.KernelIdeal.Gen

variable (m : (ℓ : Loc nD τ sig) → Buf (Elt Ideal) ℓ) (c : Dev nD)

/-- The blocks point `t` loads. -/
def insAt (t : Fin cfg0.N) : Ins := ⟨iblk m c 0 t, iblk m c 1 t, X0_2 m c t, X0_3 m c t, iblk m c 4 t, iblk m c 5 t, iblk m c 6 t, iblk m c 7 t⟩

/-- The arguments as the model takes them. -/
def arrOf : Arr where
  h b l j := (m ((c : Thread nD τ).loc main_arg0) : FVec Ideal S2x8192x2252 .f32) (ix3 b l j)
  q b l h d := (m ((c : Thread nD τ).loc main_arg1) : FVec Ideal S2x8192x4x64 .f32) (ix4 b l h d)
  k b l h d := (m ((c : Thread nD τ).loc main_arg2) : FVec Ideal S2x8192x4x64 .f32) (ix4 b l h d)
  bi h := (m ((c : Thread nD τ).loc main_arg3) : FVec Ideal S4 .f32) (ix1 h)
  bf h := (m ((c : Thread nD τ).loc main_arg4) : FVec Ideal S4 .f32) (ix1 h)
  g j := (m ((c : Thread nD τ).loc main_arg5) : FVec Ideal S256 .f32) (ix1 j)

theorem at_g (t : Fin cfg0.N) (h : Fin 4) (d : Fin 64) : (insAt m c t).gs h (ix2 0 d) = (arrOf m c).g ⟨h.val * 64 + d.val, by omega⟩ := by
  rw [gs_apply]
  refine (Win.b7 m c t _).trans ?_
  rw [Win.host_g]
  have e : ocol h d = ⟨h.val * 64 + d.val, by omega⟩ := Fin.ext (by show 64 * h.val + d.val = h.val * 64 + d.val; omega)
  rw [e]
  show shapeCast S1x256 _ _ _ = (m ((c : Thread nD τ).loc main_arg5) : FVec Ideal S256 .f32) _
  pointwise []

theorem in_ext (x y : In) (hq : x.q = y.q) (hk : x.k = y.k) (hv : x.v = y.v) (hb : x.b = y.b) (hi : x.i = y.i) : x = y := by
  cases x
  cases y
  cases hq
  cases hk
  cases hv
  cases hb
  cases hi
  rfl

variable (t : Fin cfg0.N) (s : Fin 2) (u : Fin 64) (h : Fin 4) (d : Fin 64) (b : Fin 2) (l : Fin 8192) (hl : t.val * 128 + (64 * s.val + u.val) = b.val * 8192 + l.val)

include hl

theorem lt_all : t.val * 128 + (64 * s.val + u.val) < 16384 := by omega

theorem at_q : (insAt m c t).q (ix2 (orow s u) (ocol h d)) = (arrOf m c).q b l h d * Ideal.ofBits .f32 0x3E000000#32 := by
  refine (Win.b0 m c t _ _ ⟨_, lt_all t s u b l hl⟩ rfl).trans ?_
  rw [Win.host_q]
  exact Win.qs_apply b l _ hl _ h d

theorem at_k : (insAt m c t).k (ix2 (orow s u) (ocol h d)) = (arrOf m c).k b l h d := by
  refine (Win.b1 m c t _ _ ⟨_, lt_all t s u b l hl⟩ rfl).trans ?_
  rw [Win.host_k]
  exact Win.ks_apply b l _ hl _ h d

theorem at_v : (insAt m c t).v (ix2 (orow s u) (ocol h d)) = (arrOf m c).h b l ⟨1732 + (h.val * 64 + d.val), by omega⟩ := by
  refine (Win.b2 m c t _ _ ⟨_, lt_all t s u b l hl⟩ rfl).trans ?_
  rw [Win.host_wide, Win.wide_v b l _ hl]
  exact Win.at3 _ rfl rfl (by show 1732 + (64 * h.val + d.val) = 1732 + (h.val * 64 + d.val); omega)

theorem at_o : (insAt m c t).o (ix2 (orow s u) (ocol h d)) = (arrOf m c).h b l ⟨1988 + (h.val * 64 + d.val), by omega⟩ := by
  refine (Win.b3 m c t _ _ ⟨_, lt_all t s u b l hl⟩ rfl).trans ?_
  rw [Win.host_wide, Win.wide_o b l _ hl]
  exact Win.at3 _ rfl rfl (by show 1988 + (64 * h.val + d.val) = 1988 + (h.val * 64 + d.val); omega)

theorem at_i : (insAt m c t).sm (ix2 (orow s u) ⟨72 + h.val, by omega⟩) + (insAt m c t).bi (ix2 (row8 h) 0)
    = (arrOf m c).h b l ⟨2244 + h.val, by omega⟩ + (arrOf m c).bi h := by
  have e1 : (insAt m c t).sm (ix2 (orow s u) ⟨72 + h.val, by omega⟩) = (arrOf m c).h b l ⟨2244 + h.val, by omega⟩ := by
    refine (Win.b4 m c t _ _ ⟨_, lt_all t s u b l hl⟩ rfl).trans ?_
    rw [Win.host_gates]
    refine Eq.trans (congrArg (fun j => Win.gates _ (ix2 _ j)) (Fin.ext ?_)) (Win.gates_i b l _ hl _ h)
    show 256 + (72 + h.val) = 328 + h.val
    omega
  have e2 : (insAt m c t).bi (ix2 (row8 h) 0) = (arrOf m c).bi h := by
    refine (Win.b5 m c t _).trans ?_
    rw [Win.host_bi]
    exact Win.col_apply _ h
  rw [e1, e2]

theorem at_f : (insAt m c t).sm (ix2 (orow s u) ⟨80 + h.val, by omega⟩) + (insAt m c t).bf (ix2 (row8 h) 0)
    = (arrOf m c).h b l ⟨2248 + h.val, by omega⟩ + (arrOf m c).bf h := by
  have e1 : (insAt m c t).sm (ix2 (orow s u) ⟨80 + h.val, by omega⟩) = (arrOf m c).h b l ⟨2248 + h.val, by omega⟩ := by
    refine (Win.b4 m c t _ _ ⟨_, lt_all t s u b l hl⟩ rfl).trans ?_
    rw [Win.host_gates]
    refine Eq.trans (congrArg (fun j => Win.gates _ (ix2 _ j)) (Fin.ext ?_)) (Win.gates_f b l _ hl _ h)
    show 256 + (80 + h.val) = 336 + h.val
    omega
  have e2 : (insAt m c t).bf (ix2 (row8 h) 0) = (arrOf m c).bf h := by
    refine (Win.b6 m c t _).trans ?_
    rw [Win.host_bf]
    exact Win.col_apply _ h
  rw [e1, e2]

omit hl in
theorem pos_at (hb : b.val = t.val / 64) :
    t.val * 128 + (64 * s.val + u.val) = b.val * 8192 + (pos (2 * (t.val % 64) + s.val) u).val := by
  have ht : t.val < 128 := (Win.idx t).2.2.2.2.2.2.2.2.2
  show _ = _ + ((2 * (t.val % 64) + s.val) * 64 + u.val) % 8192
  have hs := s.isLt
  have hu := u.isLt
  omega

omit hl in
/-- The chunk `s` of point `t`. -/
theorem in_at (hb : b.val = t.val / 64) : (insAt m c t).inp s h = chunkIn (arrOf m c) b h (2 * (t.val % 64) + s.val) := by
  refine in_ext _ _ ?_ ?_ ?_ ?_ ?_
  · funext u d
    refine Eq.trans (cut_apply (insAt m c t).q s h u d) ?_
    exact at_q m c t s u h d b _ (pos_at t s u b hb)
  · funext u d
    refine Eq.trans (cut_apply (insAt m c t).k s h u d) ?_
    exact at_k m c t s u h d b _ (pos_at t s u b hb)
  · funext u d
    refine Eq.trans (cut_apply (insAt m c t).v s h u d) ?_
    exact at_v m c t s u h d b _ (pos_at t s u b hb)
  · funext u
    refine Eq.trans (br_apply (insAt m c t) s h u) ?_
    exact congrArg (fun f => cum f u) (funext fun u => congrArg lf (at_f m c t s u h b _ (pos_at t s u b hb)))
  · funext u
    refine Eq.trans (ir_apply (insAt m c t) s h u) ?_
    exact at_i m c t s u h b _ (pos_at t s u b hb)

end Cert.M

end
-- ==== Proof.MSpan.lean ====
module

public import proofs.«01_k».proof.Proof.MPointA
public import proofs.«01_k».proof.Proof.MPointB
public import proofs.«01_k».proof.Proof.MInAt

/-! # The mLSTM kernel over the grid

A point is two steps of the model (`at_scr`, `at_fst`, `at_snd`). What its chunks take are the model's chunks of its batch
(`in_at`). So after point `n` the scratch holds what the model carries after chunk `2 (n % 64) + 1` of batch `n / 64`
(`carried`), and the output block holds the rows of both chunks (`block`). -/

@[expose] public section

set_option maxRecDepth 16384
set_option maxHeartbeats 1000000

noncomputable section

namespace Cert.M

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

/-- A head's state before point `t`, when the point before left `acc`. -/
def before (t : ℕ) (acc : Vec Ideal S128x256 .f32 × Vec Ideal S4x64x64 .f32 × Vec Ideal S8x64 .f32 × Vec Ideal S8x128 .f32) (h : Fin 4) : St :=
  if t % 64 = 0 then ⟨fun _ _ => 0, fun _ => 0, 0⟩ else scr acc.2.1 acc.2.2.1 acc.2.2.2 h

variable (t : Fin cfg0.N) (acc : Vec Ideal S128x256 .f32 × Vec Ideal S4x64x64 .f32 × Vec Ideal S8x64 .f32 × Vec Ideal S8x128 .f32) (h : Fin 4)

theorem at_scr : scr (stAt0 m c t.val t.isLt acc).2.1 (stAt0 m c t.val t.isLt acc).2.2.1 (stAt0 m c t.val t.isLt acc).2.2.2 h
    = next ((insAt m c t).inp 1 h) (next ((insAt m c t).inp 0 h) (before t.val acc h)) := by
  by_cases h0 : t.val % 64 = 0
  · rw [before, if_pos h0, stAt0_A m c t acc h0]
    dsimp only
    refine (scrA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (X0_2 m c t) (X0_3 m c t) (iblk m c 4 t) (iblk m c 5 t) (iblk m c 6 t) (iblk m c 7 t) ((hcond0_0 t).mpr h0) h).trans ?_
    rw [loads_eq]
    rfl
  · rw [before, if_neg h0, stAt0_B m c t acc h0]
    dsimp only
    refine (scrB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (X0_2 m c t) (X0_3 m c t) (iblk m c 4 t) (iblk m c 5 t) (iblk m c 6 t) (iblk m c 7 t) acc.2.1 acc.2.2.1 acc.2.2.2 (fun h => h0 ((hcond0_0 t).mp h)) h).trans ?_
    rw [loads_eq]
    rfl

theorem at_fst (u d : Fin 64) : (stAt0 m c t.val t.isLt acc).1 (ix2 (orow 0 u) (ocol h d))
    = out (fun d => hh ((insAt m c t).inp 0 h) (before t.val acc h) u d) (fun d => (insAt m c t).gs h (ix2 0 d))
      (fun d => cut (insAt m c t).o 0 h (ix2 u d)) d := by
  by_cases h0 : t.val % 64 = 0
  · rw [before, if_pos h0, stAt0_A m c t acc h0]
    refine (fstA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (X0_2 m c t) (X0_3 m c t) (iblk m c 4 t) (iblk m c 5 t) (iblk m c 6 t) (iblk m c 7 t) ((hcond0_0 t).mpr h0) h u d).trans ?_
    rw [loads_eq]
    rfl
  · rw [before, if_neg h0, stAt0_B m c t acc h0]
    refine (fstB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (X0_2 m c t) (X0_3 m c t) (iblk m c 4 t) (iblk m c 5 t) (iblk m c 6 t) (iblk m c 7 t) acc.2.1 acc.2.2.1 acc.2.2.2 (fun h => h0 ((hcond0_0 t).mp h)) h u d).trans ?_
    rw [loads_eq]
    rfl

theorem at_snd (u d : Fin 64) : (stAt0 m c t.val t.isLt acc).1 (ix2 (orow 1 u) (ocol h d))
    = out (fun d => hh ((insAt m c t).inp 1 h) (next ((insAt m c t).inp 0 h) (before t.val acc h)) u d) (fun d => (insAt m c t).gs h (ix2 0 d))
      (fun d => cut (insAt m c t).o 1 h (ix2 u d)) d := by
  by_cases h0 : t.val % 64 = 0
  · rw [before, if_pos h0, stAt0_A m c t acc h0]
    refine (sndA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (X0_2 m c t) (X0_3 m c t) (iblk m c 4 t) (iblk m c 5 t) (iblk m c 6 t) (iblk m c 7 t) ((hcond0_0 t).mpr h0) h u d).trans ?_
    rw [loads_eq]
    rfl
  · rw [before, if_neg h0, stAt0_B m c t acc h0]
    refine (sndB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (X0_2 m c t) (X0_3 m c t) (iblk m c 4 t) (iblk m c 5 t) (iblk m c 6 t) (iblk m c 7 t) acc.2.1 acc.2.2.1 acc.2.2.2 (fun h => h0 ((hcond0_0 t).mp h)) h u d).trans ?_
    rw [loads_eq]
    rfl

end Cert.M

end
-- ==== Proof.MFinal.lean ====
module

public import proofs.«01_k».proof.Proof.MSpan

/-! # The mLSTM kernel's result array

After point `n` the scratch holds what the model carries after chunk `2 (n % 64) + 1` of batch `n / 64` (`carried`), and the
output block holds the rows of both chunks (`block`); the 128 blocks are the array (`final`). -/

@[expose] public section

set_option maxRecDepth 16384

noncomputable section

namespace Cert.M

open Idealize.ShloMosaic Idealize.ShloMosaic.TcCoe Idealize.SL.Sem Cert.KernelIdeal Cert.KernelIdeal.Gen Cert.KernelIdeal.Value
open Idealize.ShloMosaic.Pipeline (Dat)

variable (m : (ℓ : Loc nD τ sig) → Buf (Elt Ideal) ℓ) (c : Dev nD)

/-- Two steps of the model are a point's two chunks. -/
theorem two (t : Fin cfg0.N) (h : Fin 4) (b : Fin 2) (hb : b.val = t.val / 64) (S : St) (hS : S = chain (arrOf m c) b h (2 * (t.val % 64))) :
    next ((insAt m c t).inp 0 h) S = chain (arrOf m c) b h (2 * (t.val % 64) + 1)
      ∧ next ((insAt m c t).inp 1 h) (next ((insAt m c t).inp 0 h) S) = chain (arrOf m c) b h (2 * (t.val % 64) + 2) := by
  have e0 := in_at m c t 0 h b hb
  have e1 := in_at m c t 1 h b hb
  rw [e0, e1, hS]
  exact ⟨rfl, rfl⟩

/-- What a point leaves from a scratch the model explains. -/
theorem carried_from (t : Fin cfg0.N) (acc : Vec Ideal S128x256 .f32 × Vec Ideal S4x64x64 .f32 × Vec Ideal S8x64 .f32 × Vec Ideal S8x128 .f32) (h : Fin 4)
    (b : Fin 2) (hb : b.val = t.val / 64) (hS : before t.val acc h = chain (arrOf m c) b h (2 * (t.val % 64))) :
    scr (stAt0 m c t.val t.isLt acc).2.1 (stAt0 m c t.val t.isLt acc).2.2.1 (stAt0 m c t.val t.isLt acc).2.2.2 h
      = chain (arrOf m c) b h (2 * (t.val % 64) + 2) :=
  (at_scr m c t acc h).trans (two m c t h b hb _ hS).2

theorem carried (n : ℕ) : ∀ (hn : n < cfg0.N) (h : Fin 4) (b : Fin 2), b.val = n / 64 →
    scr (outsAt0 m c n hn).2.1 (outsAt0 m c n hn).2.2.1 (outsAt0 m c n hn).2.2.2 h = chain (arrOf m c) b h (2 * (n % 64) + 2) := by
  induction n with
  | zero =>
    intro hn h b hb
    rw [outsAt0_zero]
    exact carried_from m c ⟨0, hn⟩ junk0 h b hb (if_pos rfl)
  | succ n ih =>
    intro hn h b hb
    rw [outsAt0_succ]
    refine carried_from m c ⟨n + 1, hn⟩ _ h b hb ?_
    show before (n + 1) _ h = chain _ b h (2 * ((n + 1) % 64))
    by_cases h0 : (n + 1) % 64 = 0
    · rw [before, if_pos h0, h0]
      rfl
    · rw [before, if_neg h0, ih _ h b (by omega)]
      congr 1
      omega

/-- A head's state before a point of the grid. -/
theorem outs_at (t : Fin cfg0.N) : ∃ acc, outsAt0 m c t.val t.isLt = stAt0 m c t.val t.isLt acc
    ∧ ∀ (h : Fin 4) (b : Fin 2), b.val = t.val / 64 → before t.val acc h = chain (arrOf m c) b h (2 * (t.val % 64)) := by
  obtain ⟨n, hn⟩ := t
  cases n with
  | zero => exact ⟨junk0, outsAt0_zero m c hn, fun h b _ => if_pos rfl⟩
  | succ n =>
    refine ⟨_, outsAt0_succ m c n hn, fun h b hb => ?_⟩
    show before (n + 1) _ h = chain _ b h (2 * ((n + 1) % 64))
    have hb' : b.val = (n + 1) / 64 := hb
    by_cases h0 : (n + 1) % 64 = 0
    · rw [before, if_pos h0, h0]
      rfl
    · rw [before, if_neg h0, carried m c n _ h b (by omega)]
      congr 1
      omega

/-- The row of the model at a position of chunk `n`. -/
theorem row_at (A : Arr) (b : Fin 2) (h : Fin 4) (n : ℕ) (u d : Fin 64) (l : Fin 8192) (hl : l.val = n * 64 + u.val) :
    row A b h l d = out (fun d => hh (chunkIn A b h n) (chain A b h n) u d) (fun d => A.g ⟨h.val * 64 + d.val, by omega⟩)
      (fun d => A.h b l ⟨1988 + (h.val * 64 + d.val), by omega⟩) d := by
  have e1 : l.val / 64 = n := by omega
  have e2 : (⟨l.val % 64, Nat.mod_lt _ (by decide)⟩ : Fin 64) = u := Fin.ext (by show l.val % 64 = u.val; omega)
  unfold row mixed
  rw [e1, e2]

/-- The output block of a point. -/
theorem block (t : Fin cfg0.N) (s : Fin 2) (u : Fin 64) (h : Fin 4) (d : Fin 64) (b : Fin 2) (hb : b.val = t.val / 64) (l : Fin 8192)
    (hl : l.val = (2 * (t.val % 64) + s.val) * 64 + u.val) :
    (outsAt0 m c t.val t.isLt).1 (ix2 (orow s u) (ocol h d)) = row (arrOf m c) b h l d := by
  obtain ⟨acc, e, hS⟩ := outs_at m c t
  have hp : t.val * 128 + (64 * s.val + u.val) = b.val * 8192 + l.val := by omega
  have eo : ∀ d : Fin 64, cut (insAt m c t).o s h (ix2 u d) = (arrOf m c).h b l ⟨1988 + (h.val * 64 + d.val), by omega⟩ := fun d =>
    (cut_apply (insAt m c t).o s h u d).trans (at_o m c t s u h d b l hp)
  have eg : ∀ d : Fin 64, (insAt m c t).gs h (ix2 0 d) = (arrOf m c).g ⟨h.val * 64 + d.val, by omega⟩ := fun d => at_g m c t h d
  rw [e, row_at (arrOf m c) b h (2 * (t.val % 64) + s.val) u d l hl]
  have hs : s = 0 ∨ s = 1 := by
    match s with
    | 0 => exact .inl rfl
    | 1 => exact .inr rfl
  rcases hs with rfl | rfl
  · rw [at_fst m c t acc h u d, in_at m c t 0 h b hb, hS h b hb]
    simp only [eo, eg]
    rfl
  · rw [at_snd m c t acc h u d, (two m c t h b hb _ (hS h b hb)).1, in_at m c t 1 h b hb]
    simp only [eo, eg]
    rfl

/-- The result of the model at a row and a column of the result array. -/
def whole (A : Arr) (r : Fin 16384) (j : Fin 256) : EReal := row A ⟨r.val / 8192, by omega⟩ ⟨j.val / 64, by omega⟩ ⟨r.val % 8192, by omega⟩ ⟨j.val % 64, by omega⟩

/-- The result array. -/
theorem final : (dats m 0 c).arrAt 8 (cfgs 0).N = fun i => whole (arrOf m c) (i 0) (i 1) := by
  refine (dats m 0 c).arrAt_eq_of_covers 8 _ (by decide +kernel) fun t _ y => ?_
  blk_simp
  rw [after0_8]
  idx_vars y
  have ht : t.val < 128 := (Win.idx t).2.2.2.2.2.2.2.2.2
  have e : ((View.whole main_v26).slice (win0_8.rect t)).emb (ix2 y0 y1) = ix2 ⟨t.val * 128 + y0.val, by omega⟩ y1 := by
    blk_ext [Win.idx t]
  rw [e]
  have hy : (ix2 y0 y1 : S128x256.Idx) = ix2 (orow ⟨y0.val / 64, by omega⟩ ⟨y0.val % 64, by omega⟩) (ocol ⟨y1.val / 64, by omega⟩ ⟨y1.val % 64, by omega⟩) := by
    congr 1
    · exact Fin.ext (by show y0.val = 64 * (y0.val / 64) + y0.val % 64; omega)
    · exact Fin.ext (by show y1.val = 64 * (y1.val / 64) + y1.val % 64; omega)
  rw [hy]
  exact block m c t ⟨y0.val / 64, by omega⟩ ⟨y0.val % 64, by omega⟩ ⟨y1.val / 64, by omega⟩ ⟨y1.val % 64, by omega⟩
    ⟨(t.val * 128 + y0.val) / 8192, by omega⟩ (by show (t.val * 128 + y0.val) / 8192 = _; omega)
    ⟨(t.val * 128 + y0.val) % 8192, by omega⟩ (by show (t.val * 128 + y0.val) % 8192 = (2 * (t.val % 64) + y0.val / 64) * 64 + y0.val % 64; omega)

end Cert.M

end
-- ==== Proof.MLoop.lean ====
/-
  The plain loop's run, step by step. What a trip's operations leave in the buffers the loop carries is `step` of what they
  held (`holds_step`), what the operations before the loop leave is `init` (`entry_holds`), and so the result is read off state
  number 128 of the steps (`run_iter`).
-/
module

public import proofs.«01_k».proof.Proof.Gen.ReferenceIdeal.Run
public import proofs.«01_k».proof.Proof.Gen.ReferenceIdeal.Step

@[expose] public section

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v44_7) = s.main_v44_7
  f_8 : V0 (Proc.devRef .tc main_v44_8) = s.main_v44_8
  f_9 : V0 (Proc.devRef .tc main_v44_9) = s.main_v44_9
  f_10 : V0 (Proc.devRef .tc main_v44_10) = s.main_v44_10
  f_0 : V0 (Proc.devRef .tc main_v44_0) = s.main_v44_0
  f_1 : V0 (Proc.devRef .tc main_v44_1) = s.main_v44_1
  f_2 : V0 (Proc.devRef .tc main_v44_2) = s.main_v44_2
  f_3 : V0 (Proc.devRef .tc main_v44_3) = s.main_v44_3
  f_4 : V0 (Proc.devRef .tc main_v44_4) = s.main_v44_4
  n_6 : V0 (Proc.devRef .tc main_v44_6) = constantI S_ 32 (BitVec.ofNat 32 j)
  k_5 : V0 (Proc.devRef .tc main_v44_5) = Cert.ReferenceIdeal.Step.K_main_v39 (F := F)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call2_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call2_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x4x64x64 (V0 (Proc.devRef .tc main_v44_0)) (fun k => (((![V0 (Proc.devRef .tc main_v44_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x64_S1x2x4x64x64 : (Proc.devRef .tc main_while0b_call2_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (res_main_while0b_v89 V0 : (Proc.devRef .tc main_while0b_v89 : DevRef τ sig).ty.Contents (Elt F)) = Cert.ReferenceIdeal.Step.b5 j s := by
  unfold res_main_while0b_v89 Cert.ReferenceIdeal.Step.b5
  rw [← al_4 h]
  try rfl
set_option maxRecDepth 8192 in
theorem al_6 (h : Holds V0 s j) : (constantI S_ 32 0#32 : (Proc.devRef .tc main_while0b_call3_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call3_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call3_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call3_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x4x64x64 (V0 (Proc.devRef .tc main_v44_1)) (fun k => (((![V0 (Proc.devRef .tc main_v44_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x64_S1x2x4x64x64 : (Proc.devRef .tc main_while0b_call3_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (res_main_while0b_v90 V0 : (Proc.devRef .tc main_while0b_v90 : DevRef τ sig).ty.Contents (Elt F)) = Cert.ReferenceIdeal.Step.b11 j s := by
  unfold res_main_while0b_v90 Cert.ReferenceIdeal.Step.b11
  rw [← al_10 h]
  try rfl
set_option maxRecDepth 8192 in
theorem al_12 (h : Holds V0 s j) : (constantI S_ 32 0#32 : (Proc.devRef .tc main_while0b_call4_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call4_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call4_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call4_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x4x64x64 (V0 (Proc.devRef .tc main_v44_2)) (fun k => (((![V0 (Proc.devRef .tc main_v44_6), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x64_S1x2x4x64x64 : (Proc.devRef .tc main_while0b_call4_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (res_main_while0b_v91 V0 : (Proc.devRef .tc main_while0b_v91 : DevRef τ sig).ty.Contents (Elt F)) = Cert.ReferenceIdeal.Step.b17 j s := by
  unfold res_main_while0b_v91 Cert.ReferenceIdeal.Step.b17
  rw [← al_16 h]
  try rfl
set_option maxRecDepth 8192 in
theorem al_18 (h : Holds V0 s j) : (constantI S_ 32 0#32 : (Proc.devRef .tc main_while0b_call5_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call5_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x2x4x64 (V0 (Proc.devRef .tc main_v44_3)) (fun k => (((![V0 (Proc.devRef .tc main_v44_6), constantI S_ 32 0#32, constantI S_ 32 0#32, constantI S_ 32 0#32] : Fin 4 → (⟨S_, .i32⟩ : BufTy).Contents (Elt F))) k (Shape.Idx.first h_S_)).toInt) sliceFits_S128x2x4x64_S1x2x4x64 : (Proc.devRef .tc main_while0b_call5_v0 : DevRef τ sig).ty.Contents (Elt F)) = Cert.ReferenceIdeal.Step.b21 j s := by
  unfold Cert.ReferenceIdeal.Step.b21
  rw [← al_18 h, ← al_19 h, ← al_20 h, h.f_3, h.n_6]
  try rfl
set_option maxRecDepth 8192 in
theorem al_22 (h : Holds V0 s j) : (res_main_while0b_v92 V0 : (Proc.devRef .tc main_while0b_v92 : DevRef τ sig).ty.Contents (Elt F)) = Cert.ReferenceIdeal.Step.b22 j s := by
  unfold res_main_while0b_v92 Cert.ReferenceIdeal.Step.b22
  rw [← al_21 h]
  try rfl
set_option maxRecDepth 8192 in
theorem al_23 (h : Holds V0 s j) : (constantI S_ 32 0#32 : (Proc.devRef .tc main_while0b_call6_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call6_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call6_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x2x4x64 (V0 (Proc.devRef .tc main_v44_4)) (fun k => (((![V0 (Proc.devRef .tc main_v44_6), constantI S_ 32 0#32, constantI S_ 32 0#32, constantI S_ 32 0#32] : Fin 4 → (⟨S_, .i32⟩ : BufTy).Contents (Elt F))) k (Shape.Idx.first h_S_)).toInt) sliceFits_S128x2x4x64_S1x2x4x64 : (Proc.devRef .tc main_while0b_call6_v0 : DevRef τ sig).ty.Contents (Elt F)) = Cert.ReferenceIdeal.Step.b26 j s := by
  unfold Cert.ReferenceIdeal.Step.b26
  rw [← al_23 h, ← al_24 h, ← al_25 h, h.f_4, h.n_6]
  try rfl
set_option maxRecDepth 8192 in
theorem al_27 (h : Holds V0 s j) : (shapeCast S2x4x64 (Host.dynamicSlice S1x2x4x64 (V0 (Proc.devRef .tc main_v44_4)) (fun k => (((![V0 (Proc.devRef .tc main_v44_6), constantI S_ 32 0#32, constantI S_ 32 0#32, constantI S_ 32 0#32] : Fin 4 → (⟨S_, .i32⟩ : BufTy).Contents (Elt F))) k (Shape.Idx.first h_S_)).toInt) sliceFits_S128x2x4x64_S1x2x4x64) shapeCasts_S1x2x4x64_S2x4x64 : (Proc.devRef .tc main_while0b_v93 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constant S_ .f32 0x00000000#32 : (Proc.devRef .tc main_while0b_call7_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call7_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v94 V0 : (Proc.devRef .tc main_while0b_v94 : DevRef τ sig).ty.Contents (Elt F)) = Cert.ReferenceIdeal.Step.b30 j s := by
  unfold res_main_while0b_v94 Cert.ReferenceIdeal.Step.b30
  rw [← al_27 h, ← al_29 h]
  try rfl
set_option maxRecDepth 8192 in
theorem al_31 (h : Holds V0 s j) : (broadcastInDim S2x4x64x1 ![0, 1, 2] bcast_S2x4x64_S2x4x64x1_0_1_2 (res_main_while0b_v94 V0) : (Proc.devRef .tc main_while0b_v95 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (broadcastInDim S2x4x1x64 ![0, 1, 3] bcast_S2x4x64_S2x4x1x64_0_1_3 (res_main_while0b_v94 V0) : (Proc.devRef .tc main_while0b_v96 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (res_main_while0b_v94 V0)) : (Proc.devRef .tc main_while0b_v97 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (broadcastInDim S2x4x64x64 ![0, 1, 2, 3] bcast_S2x4x1x64_S2x4x64x64_0_1_2_3 (broadcastInDim S2x4x1x64 ![0, 1, 3] bcast_S2x4x64_S2x4x1x64_0_1_3 (res_main_while0b_v94 V0)) : (Proc.devRef .tc main_while0b_v98 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (subf (broadcastInDim S2x4x64x64 ![0, 1, 2, 3] bcast_S2x4x64x1_S2x4x64x64_0_1_2_3 (broadcastInDim S2x4x64x1 ![0, 1, 2] bcast_S2x4x64_S2x4x64x1_0_1_2 (res_main_while0b_v94 V0))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v94 V0))) : (Proc.devRef .tc main_while0b_v99 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (broadcastInDim S2x4x1x64 ![0, 1, 3] bcast_S2x4x64_S2x4x1x64_0_1_3 (res_main_while0b_v92 V0) : (Proc.devRef .tc main_while0b_v100 : DevRef τ sig).ty.Contents (Elt F)) = Cert.ReferenceIdeal.Step.b36 j s := by
  unfold Cert.ReferenceIdeal.Step.b36
  rw [← al_22 h]
  try rfl
set_option maxRecDepth 8192 in
theorem al_37 (h : Holds V0 s j) : (broadcastInDim S2x4x64x64 ![0, 1, 2, 3] bcast_S2x4x1x64_S2x4x64x64_0_1_2_3 (broadcastInDim S2x4x1x64 ![0, 1, 3] bcast_S2x4x64_S2x4x1x64_0_1_3 (res_main_while0b_v92 V0)) : (Proc.devRef .tc main_while0b_v101 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (addf (subf (broadcastInDim S2x4x64x64 ![0, 1, 2, 3] bcast_S2x4x64x1_S2x4x64x64_0_1_2_3 (broadcastInDim S2x4x64x1 ![0, 1, 2] bcast_S2x4x64_S2x4x64x1_0_1_2 (res_main_while0b_v94 V0))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v94 V0)))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v92 V0))) : (Proc.devRef .tc main_while0b_v102 : DevRef τ sig).ty.Contents (Elt F)) = Cert.ReferenceIdeal.Step.b38 j s := by
  unfold Cert.ReferenceIdeal.Step.b38
  rw [← al_35 h, ← al_37 h]
  try rfl
set_option maxRecDepth 8192 in
theorem al_39 (h : Holds V0 s j) : (constant S_ .f32 0xFF800000#32 : (Proc.devRef .tc main_while0b_cst_22 : DevRef τ sig).ty.Contents (Elt F)) = Cert.ReferenceIdeal.Step.b39 j s := by
  unfold Cert.ReferenceIdeal.Step.b39
  rfl
set_option maxRecDepth 8192 in
theorem al_40 (h : Holds V0 s j) : (id (constant S_ .f32 0xFF800000#32) : (Proc.devRef .tc main_while0b_call8_v0 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (broadcastInDim S2x4x64x64 ![2, 3] bcast_S64x64_S2x4x64x64_2_3 (V0 (Proc.devRef .tc main_v44_5)) : (Proc.devRef .tc main_while0b_call8_v1 : DevRef τ sig).ty.Contents (Elt F)) = Cert.ReferenceIdeal.Step.b41 j s := by
  unfold Cert.ReferenceIdeal.Step.b41
  rw [h.k_5]
  try rfl
set_option maxRecDepth 8192 in
theorem al_42 (h : Holds V0 s j) : (broadcastInDim S2x4x64x64 ![] bcast_S_S2x4x64x64 (id (constant S_ .f32 0xFF800000#32)) : (Proc.devRef .tc main_while0b_call8_v2 : DevRef τ sig).ty.Contents (Elt F)) = Cert.ReferenceIdeal.Step.b42 j s := by
  unfold Cert.ReferenceIdeal.Step.b42
  rw [← al_40 h]
  try rfl
set_option maxRecDepth 8192 in
theorem al_43 (h : Holds V0 s j) : (res_main_while0b_v103 V0 : (Proc.devRef .tc main_while0b_v103 : DevRef τ sig).ty.Contents (Elt F)) = Cert.ReferenceIdeal.Step.b43 j s := by
  unfold res_main_while0b_v103 Cert.ReferenceIdeal.Step.b43
  rw [← al_41 h, ← al_38 h, ← al_42 h]
  try rfl
set_option maxRecDepth 8192 in
theorem al_44 (h : Holds V0 s j) : (broadcastInDim S2x4x1 ![0, 1] bcast_S2x4_S2x4x1_0_1 (V0 (Proc.devRef .tc main_v44_9)) : (Proc.devRef .tc main_while0b_v104 : DevRef τ sig).ty.Contents (Elt F)) = Cert.ReferenceIdeal.Step.b44 j s := by
  unfold Cert.ReferenceIdeal.Step.b44
  rw [h.f_9]
  try rfl
set_option maxRecDepth 8192 in
theorem al_45 (h : Holds V0 s j) : (broadcastInDim S2x4x64 ![0, 1, 2] bcast_S2x4x1_S2x4x64_0_1_2 (broadcastInDim S2x4x1 ![0, 1] bcast_S2x4_S2x4x1_0_1 (V0 (Proc.devRef .tc main_v44_9))) : (Proc.devRef .tc main_while0b_v105 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (res_main_while0b_v106 V0 : (Proc.devRef .tc main_while0b_v106 : DevRef τ sig).ty.Contents (Elt F)) = Cert.ReferenceIdeal.Step.b46 j s := by
  unfold res_main_while0b_v106 Cert.ReferenceIdeal.Step.b46
  rw [← al_30 h, ← al_45 h]
  try rfl
set_option maxRecDepth 8192 in
theorem al_47 (h : Holds V0 s j) : (constant S_ .f32 0xFF800000#32 : (Proc.devRef .tc main_while0b_cst_23 : DevRef τ sig).ty.Contents (Elt F)) = Cert.ReferenceIdeal.Step.b47 j s := by
  unfold Cert.ReferenceIdeal.Step.b47
  rfl
set_option maxRecDepth 8192 in
theorem al_48 (h : Holds V0 s j) : (Host.reduce FloatOps.maximumf (res_main_while0b_v103 V0) (constant S_ .f32 0xFF800000#32) reducesTo_S2x4x64x64_S2x4x64_d3 h_S_ : (Proc.devRef .tc main_while0b_v107 : DevRef τ sig).ty.Contents (Elt F)) = Cert.ReferenceIdeal.Step.b48 j s := by
  unfold Cert.ReferenceIdeal.Step.b48
  rw [← al_43 h, ← al_47 h]
  try rfl
set_option maxRecDepth 8192 in
theorem al_49 (h : Holds V0 s j) : (res_main_while0b_v108 V0 : (Proc.devRef .tc main_while0b_v108 : DevRef τ sig).ty.Contents (Elt F)) = Cert.ReferenceIdeal.Step.b49 j s := by
  unfold res_main_while0b_v108 Cert.ReferenceIdeal.Step.b49
  rw [← al_46 h, ← al_48 h]
  try rfl
set_option maxRecDepth 8192 in
theorem al_50 (h : Holds V0 s j) : (subf (res_main_while0b_v106 V0) (res_main_while0b_v108 V0) : (Proc.devRef .tc main_while0b_v109 : DevRef τ sig).ty.Contents (Elt F)) = Cert.ReferenceIdeal.Step.b50 j s := by
  unfold Cert.ReferenceIdeal.Step.b50
  rw [← al_46 h, ← al_49 h]
  try rfl
set_option maxRecDepth 8192 in
theorem al_51 (h : Holds V0 s j) : (res_main_while0b_v110 V0 : (Proc.devRef .tc main_while0b_v110 : DevRef τ sig).ty.Contents (Elt F)) = Cert.ReferenceIdeal.Step.b51 j s := by
  unfold res_main_while0b_v110 Cert.ReferenceIdeal.Step.b51
  rw [← al_50 h]
  try rfl
set_option maxRecDepth 8192 in
theorem al_52 (h : Holds V0 s j) : (Host.dotGeneral dot_S2x4x64x64_S2x4x64x64_S2x4x64x64_3_3_2_2_01_01 none (res_main_while0b_v89 V0) (res_main_while0b_v90 V0) : (Proc.devRef .tc main_while0b_v111 : DevRef τ sig).ty.Contents (Elt F)) = Cert.ReferenceIdeal.Step.b52 j s := by
  unfold Cert.ReferenceIdeal.Step.b52
  rw [← al_5 h, ← al_11 h]
  try rfl
set_option maxRecDepth 8192 in
theorem al_53 (h : Holds V0 s j) : (broadcastInDim S2x4x64x1 ![0, 1, 2] bcast_S2x4x64_S2x4x64x1_0_1_2 (res_main_while0b_v108 V0) : (Proc.devRef .tc main_while0b_v112 : DevRef τ sig).ty.Contents (Elt F)) = Cert.ReferenceIdeal.Step.b53 j s := by
  unfold Cert.ReferenceIdeal.Step.b53
  rw [← al_49 h]
  try rfl
set_option maxRecDepth 8192 in
theorem al_54 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (res_main_while0b_v108 V0)) : (Proc.devRef .tc main_while0b_v113 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (subf (res_main_while0b_v103 V0) (broadcastInDim S2x4x64x64 ![0, 1, 2, 3] bcast_S2x4x64x1_S2x4x64x64_0_1_2_3 (broadcastInDim S2x4x64x1 ![0, 1, 2] bcast_S2x4x64_S2x4x64x1_0_1_2 (res_main_while0b_v108 V0))) : (Proc.devRef .tc main_while0b_v114 : DevRef τ sig).ty.Contents (Elt F)) = Cert.ReferenceIdeal.Step.b55 j s := by
  unfold Cert.ReferenceIdeal.Step.b55
  rw [← al_43 h, ← al_54 h]
  try rfl
set_option maxRecDepth 8192 in
theorem al_56 (h : Holds V0 s j) : (Host.exp (subf (res_main_while0b_v103 V0) (broadcastInDim S2x4x64x64 ![0, 1, 2, 3] bcast_S2x4x64x1_S2x4x64x64_0_1_2_3 (broadcastInDim S2x4x64x1 ![0, 1, 2] bcast_S2x4x64_S2x4x64x1_0_1_2 (res_main_while0b_v108 V0)))) : (Proc.devRef .tc main_while0b_v115 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (res_main_while0b_v116 V0 : (Proc.devRef .tc main_while0b_v116 : DevRef τ sig).ty.Contents (Elt F)) = Cert.ReferenceIdeal.Step.b57 j s := by
  unfold res_main_while0b_v116 Cert.ReferenceIdeal.Step.b57
  rw [← al_52 h, ← al_56 h]
  try rfl
set_option maxRecDepth 8192 in
theorem al_58 (h : Holds V0 s j) : (Host.dotGeneral dot_S2x4x64x64_S2x4x64x64_S2x4x64x64_3_2_2_3_01_01 none (res_main_while0b_v116 V0) (res_main_while0b_v91 V0) : (Proc.devRef .tc main_while0b_v117 : DevRef τ sig).ty.Contents (Elt F)) = Cert.ReferenceIdeal.Step.b58 j s := by
  unfold Cert.ReferenceIdeal.Step.b58
  rw [← al_57 h, ← al_17 h]
  try rfl
set_option maxRecDepth 8192 in
theorem al_59 (h : Holds V0 s j) : (broadcastInDim S2x4x64x1 ![0, 1, 2] bcast_S2x4x64_S2x4x64x1_0_1_2 (res_main_while0b_v110 V0) : (Proc.devRef .tc main_while0b_v118 : DevRef τ sig).ty.Contents (Elt F)) = Cert.ReferenceIdeal.Step.b59 j s := by
  unfold Cert.ReferenceIdeal.Step.b59
  rw [← al_51 h]
  try rfl
set_option maxRecDepth 8192 in
theorem al_60 (h : Holds V0 s j) : (Host.dotGeneral dot_S2x4x64x64_S2x4x64x64_S2x4x64x64_3_3_2_2_01_01 none (res_main_while0b_v89 V0) (V0 (Proc.devRef .tc main_v44_7)) : (Proc.devRef .tc main_while0b_v119 : DevRef τ sig).ty.Contents (Elt F)) = Cert.ReferenceIdeal.Step.b60 j s := by
  unfold Cert.ReferenceIdeal.Step.b60
  rw [← al_5 h, h.f_7]
  try rfl
set_option maxRecDepth 8192 in
theorem al_61 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (res_main_while0b_v110 V0)) : (Proc.devRef .tc main_while0b_v120 : DevRef τ sig).ty.Contents (Elt F)) = Cert.ReferenceIdeal.Step.b61 j s := by
  unfold Cert.ReferenceIdeal.Step.b61
  rw [← al_59 h]
  try rfl
set_option maxRecDepth 8192 in
theorem al_62 (h : Holds V0 s j) : (mulf (broadcastInDim S2x4x64x64 ![0, 1, 2, 3] bcast_S2x4x64x1_S2x4x64x64_0_1_2_3 (broadcastInDim S2x4x64x1 ![0, 1, 2] bcast_S2x4x64_S2x4x64x1_0_1_2 (res_main_while0b_v110 V0))) (Host.dotGeneral dot_S2x4x64x64_S2x4x64x64_S2x4x64x64_3_3_2_2_01_01 none (res_main_while0b_v89 V0) (V0 (Proc.devRef .tc main_v44_7))) : (Proc.devRef .tc main_while0b_v121 : DevRef τ sig).ty.Contents (Elt F)) = Cert.ReferenceIdeal.Step.b62 j s := by
  unfold Cert.ReferenceIdeal.Step.b62
  rw [← al_61 h, ← al_60 h]
  try rfl
set_option maxRecDepth 8192 in
theorem al_63 (h : Holds V0 s j) : (addf (Host.dotGeneral dot_S2x4x64x64_S2x4x64x64_S2x4x64x64_3_2_2_3_01_01 none (res_main_while0b_v116 V0) (res_main_while0b_v91 V0)) (mulf (broadcastInDim S2x4x64x64 ![0, 1, 2, 3] bcast_S2x4x64x1_S2x4x64x64_0_1_2_3 (broadcastInDim S2x4x64x1 ![0, 1, 2] bcast_S2x4x64_S2x4x64x1_0_1_2 (res_main_while0b_v110 V0))) (Host.dotGeneral dot_S2x4x64x64_S2x4x64x64_S2x4x64x64_3_3_2_2_01_01 none (res_main_while0b_v89 V0) (V0 (Proc.devRef .tc main_v44_7)))) : (Proc.devRef .tc main_while0b_v122 : DevRef τ sig).ty.Contents (Elt F)) = Cert.ReferenceIdeal.Step.b63 j s := by
  unfold Cert.ReferenceIdeal.Step.b63
  rw [← al_58 h, ← al_62 h]
  try rfl
set_option maxRecDepth 8192 in
theorem al_64 (h : Holds V0 s j) : (constant S_ .f32 0x00000000#32 : (Proc.devRef .tc main_while0b_cst_24 : DevRef τ sig).ty.Contents (Elt F)) = Cert.ReferenceIdeal.Step.b64 j s := by
  unfold Cert.ReferenceIdeal.Step.b64
  rfl
set_option maxRecDepth 8192 in
theorem al_65 (h : Holds V0 s j) : (Host.reduceAdd (res_main_while0b_v116 V0) (constant S_ .f32 0x00000000#32) reducesTo_S2x4x64x64_S2x4x64_d3 h_S_ : (Proc.devRef .tc main_while0b_v123 : DevRef τ sig).ty.Contents (Elt F)) = Cert.ReferenceIdeal.Step.b65 j s := by
  unfold Cert.ReferenceIdeal.Step.b65
  rw [← al_57 h, ← al_64 h]
  try rfl
set_option maxRecDepth 8192 in
theorem al_66 (h : Holds V0 s j) : (Host.dotGeneral dot_S2x4x64_S2x4x64x64_S2x4x64_2_3_n_2_01_01 none (V0 (Proc.devRef .tc main_v44_8)) (res_main_while0b_v89 V0) : (Proc.devRef .tc main_while0b_v124 : DevRef τ sig).ty.Contents (Elt F)) = Cert.ReferenceIdeal.Step.b66 j s := by
  unfold Cert.ReferenceIdeal.Step.b66
  rw [← al_5 h, h.f_8]
  try rfl
set_option maxRecDepth 8192 in
theorem al_67 (h : Holds V0 s j) : (mulf (res_main_while0b_v110 V0) (Host.dotGeneral dot_S2x4x64_S2x4x64x64_S2x4x64_2_3_n_2_01_01 none (V0 (Proc.devRef .tc main_v44_8)) (res_main_while0b_v89 V0)) : (Proc.devRef .tc main_while0b_v125 : DevRef τ sig).ty.Contents (Elt F)) = Cert.ReferenceIdeal.Step.b67 j s := by
  unfold Cert.ReferenceIdeal.Step.b67
  rw [← al_51 h, ← al_66 h]
  try rfl
set_option maxRecDepth 8192 in
theorem al_68 (h : Holds V0 s j) : (addf (Host.reduceAdd (res_main_while0b_v116 V0) (constant S_ .f32 0x00000000#32) reducesTo_S2x4x64x64_S2x4x64_d3 h_S_) (mulf (res_main_while0b_v110 V0) (Host.dotGeneral dot_S2x4x64_S2x4x64x64_S2x4x64_2_3_n_2_01_01 none (V0 (Proc.devRef .tc main_v44_8)) (res_main_while0b_v89 V0))) : (Proc.devRef .tc main_while0b_v126 : DevRef τ sig).ty.Contents (Elt F)) = Cert.ReferenceIdeal.Step.b68 j s := by
  unfold Cert.ReferenceIdeal.Step.b68
  rw [← al_65 h, ← al_67 h]
  try rfl
set_option maxRecDepth 8192 in
theorem al_69 (h : Holds V0 s j) : (Host.absf (addf (Host.reduceAdd (res_main_while0b_v116 V0) (constant S_ .f32 0x00000000#32) reducesTo_S2x4x64x64_S2x4x64_d3 h_S_) (mulf (res_main_while0b_v110 V0) (Host.dotGeneral dot_S2x4x64_S2x4x64x64_S2x4x64_2_3_n_2_01_01 none (V0 (Proc.devRef .tc main_v44_8)) (res_main_while0b_v89 V0)))) : (Proc.devRef .tc main_while0b_v127 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (Host.negf (res_main_while0b_v108 V0) : (Proc.devRef .tc main_while0b_v128 : DevRef τ sig).ty.Contents (Elt F)) = Cert.ReferenceIdeal.Step.b70 j s := by
  unfold Cert.ReferenceIdeal.Step.b70
  rw [← al_49 h]
  try rfl
set_option maxRecDepth 8192 in
theorem al_71 (h : Holds V0 s j) : (Host.exp (Host.negf (res_main_while0b_v108 V0)) : (Proc.devRef .tc main_while0b_v129 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (maximumf (Host.absf (addf (Host.reduceAdd (res_main_while0b_v116 V0) (constant S_ .f32 0x00000000#32) reducesTo_S2x4x64x64_S2x4x64_d3 h_S_) (mulf (res_main_while0b_v110 V0) (Host.dotGeneral dot_S2x4x64_S2x4x64x64_S2x4x64_2_3_n_2_01_01 none (V0 (Proc.devRef .tc main_v44_8)) (res_main_while0b_v89 V0))))) (Host.exp (Host.negf (res_main_while0b_v108 V0))) : (Proc.devRef .tc main_while0b_v130 : DevRef τ sig).ty.Contents (Elt F)) = Cert.ReferenceIdeal.Step.b72 j s := by
  unfold Cert.ReferenceIdeal.Step.b72
  rw [← al_69 h, ← al_71 h]
  try rfl
set_option maxRecDepth 8192 in
theorem al_73 (h : Holds V0 s j) : (broadcastInDim S2x4x64x1 ![0, 1, 2] bcast_S2x4x64_S2x4x64x1_0_1_2 (maximumf (Host.absf (addf (Host.reduceAdd (res_main_while0b_v116 V0) (constant S_ .f32 0x00000000#32) reducesTo_S2x4x64x64_S2x4x64_d3 h_S_) (mulf (res_main_while0b_v110 V0) (Host.dotGeneral dot_S2x4x64_S2x4x64x64_S2x4x64_2_3_n_2_01_01 none (V0 (Proc.devRef .tc main_v44_8)) (res_main_while0b_v89 V0))))) (Host.exp (Host.negf (res_main_while0b_v108 V0)))) : (Proc.devRef .tc main_while0b_v131 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (maximumf (Host.absf (addf (Host.reduceAdd (res_main_while0b_v116 V0) (constant S_ .f32 0x00000000#32) reducesTo_S2x4x64x64_S2x4x64_d3 h_S_) (mulf (res_main_while0b_v110 V0) (Host.dotGeneral dot_S2x4x64_S2x4x64x64_S2x4x64_2_3_n_2_01_01 none (V0 (Proc.devRef .tc main_v44_8)) (res_main_while0b_v89 V0))))) (Host.exp (Host.negf (res_main_while0b_v108 V0))))) : (Proc.devRef .tc main_while0b_v132 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (Host.divf (addf (Host.dotGeneral dot_S2x4x64x64_S2x4x64x64_S2x4x64x64_3_2_2_3_01_01 none (res_main_while0b_v116 V0) (res_main_while0b_v91 V0)) (mulf (broadcastInDim S2x4x64x64 ![0, 1, 2, 3] bcast_S2x4x64x1_S2x4x64x64_0_1_2_3 (broadcastInDim S2x4x64x1 ![0, 1, 2] bcast_S2x4x64_S2x4x64x1_0_1_2 (res_main_while0b_v110 V0))) (Host.dotGeneral dot_S2x4x64x64_S2x4x64x64_S2x4x64x64_3_3_2_2_01_01 none (res_main_while0b_v89 V0) (V0 (Proc.devRef .tc main_v44_7))))) (broadcastInDim S2x4x64x64 ![0, 1, 2, 3] bcast_S2x4x64x1_S2x4x64x64_0_1_2_3 (broadcastInDim S2x4x64x1 ![0, 1, 2] bcast_S2x4x64_S2x4x64x1_0_1_2 (maximumf (Host.absf (addf (Host.reduceAdd (res_main_while0b_v116 V0) (constant S_ .f32 0x00000000#32) reducesTo_S2x4x64x64_S2x4x64_d3 h_S_) (mulf (res_main_while0b_v110 V0) (Host.dotGeneral dot_S2x4x64_S2x4x64x64_S2x4x64_2_3_n_2_01_01 none (V0 (Proc.devRef .tc main_v44_8)) (res_main_while0b_v89 V0))))) (Host.exp (Host.negf (res_main_while0b_v108 V0)))))) : (Proc.devRef .tc main_while0b_v133 : DevRef τ sig).ty.Contents (Elt F)) = Cert.ReferenceIdeal.Step.b75 j s := by
  unfold Cert.ReferenceIdeal.Step.b75
  rw [← al_63 h, ← al_74 h]
  try rfl
set_option maxRecDepth 8192 in
theorem al_76 (h : Holds V0 s j) : (extractStridedSlice S2x4x1 ![0, 0, 63] (res_main_while0b_v94 V0) slices_S2x4x64_S2x4x1_0_0_63 : (Proc.devRef .tc main_while0b_v134 : DevRef τ sig).ty.Contents (Elt F)) = Cert.ReferenceIdeal.Step.b76 j s := by
  unfold Cert.ReferenceIdeal.Step.b76
  rw [← al_30 h]
  try rfl
set_option maxRecDepth 8192 in
theorem al_77 (h : Holds V0 s j) : (res_main_while0b_v135 V0 : (Proc.devRef .tc main_while0b_v135 : DevRef τ sig).ty.Contents (Elt F)) = Cert.ReferenceIdeal.Step.b77 j s := by
  unfold res_main_while0b_v135 Cert.ReferenceIdeal.Step.b77
  rw [← al_76 h]
  try rfl
set_option maxRecDepth 8192 in
theorem al_78 (h : Holds V0 s j) : (broadcastInDim S2x4x1 ![0, 1] bcast_S2x4_S2x4x1_0_1 (res_main_while0b_v135 V0) : (Proc.devRef .tc main_while0b_v136 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (broadcastInDim S2x4x64 ![0, 1, 2] bcast_S2x4x1_S2x4x64_0_1_2 (broadcastInDim S2x4x1 ![0, 1] bcast_S2x4_S2x4x1_0_1 (res_main_while0b_v135 V0)) : (Proc.devRef .tc main_while0b_v137 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (subf (broadcastInDim S2x4x64 ![0, 1, 2] bcast_S2x4x1_S2x4x64_0_1_2 (broadcastInDim S2x4x1 ![0, 1] bcast_S2x4_S2x4x1_0_1 (res_main_while0b_v135 V0))) (res_main_while0b_v94 V0) : (Proc.devRef .tc main_while0b_v138 : DevRef τ sig).ty.Contents (Elt F)) = Cert.ReferenceIdeal.Step.b80 j s := by
  unfold Cert.ReferenceIdeal.Step.b80
  rw [← al_79 h, ← al_30 h]
  try rfl
set_option maxRecDepth 8192 in
theorem al_81 (h : Holds V0 s j) : (res_main_while0b_v139 V0 : (Proc.devRef .tc main_while0b_v139 : DevRef τ sig).ty.Contents (Elt F)) = Cert.ReferenceIdeal.Step.b81 j s := by
  unfold res_main_while0b_v139 Cert.ReferenceIdeal.Step.b81
  rw [← al_80 h, ← al_22 h]
  try rfl
set_option maxRecDepth 8192 in
theorem al_82 (h : Holds V0 s j) : (addf (res_main_while0b_v135 V0) (V0 (Proc.devRef .tc main_v44_9)) : (Proc.devRef .tc main_while0b_v140 : DevRef τ sig).ty.Contents (Elt F)) = Cert.ReferenceIdeal.Step.b82 j s := by
  unfold Cert.ReferenceIdeal.Step.b82
  rw [← al_77 h, h.f_9]
  try rfl
set_option maxRecDepth 8192 in
theorem al_83 (h : Holds V0 s j) : (constant S_ .f32 0xFF800000#32 : (Proc.devRef .tc main_while0b_cst_25 : DevRef τ sig).ty.Contents (Elt F)) = Cert.ReferenceIdeal.Step.b83 j s := by
  unfold Cert.ReferenceIdeal.Step.b83
  rfl
set_option maxRecDepth 8192 in
theorem al_84 (h : Holds V0 s j) : (Host.reduce FloatOps.maximumf (res_main_while0b_v139 V0) (constant S_ .f32 0xFF800000#32) reducesTo_S2x4x64_S2x4_d2 h_S_ : (Proc.devRef .tc main_while0b_v141 : DevRef τ sig).ty.Contents (Elt F)) = Cert.ReferenceIdeal.Step.b84 j s := by
  unfold Cert.ReferenceIdeal.Step.b84
  rw [← al_81 h, ← al_83 h]
  try rfl
set_option maxRecDepth 8192 in
theorem al_85 (h : Holds V0 s j) : (res_main_while0b_v142 V0 : (Proc.devRef .tc main_while0b_v142 : DevRef τ sig).ty.Contents (Elt F)) = Cert.ReferenceIdeal.Step.b85 j s := by
  unfold res_main_while0b_v142 Cert.ReferenceIdeal.Step.b85
  rw [← al_82 h, ← al_84 h]
  try rfl
set_option maxRecDepth 8192 in
theorem al_86 (h : Holds V0 s j) : (addf (res_main_while0b_v135 V0) (V0 (Proc.devRef .tc main_v44_9)) : (Proc.devRef .tc main_while0b_v143 : DevRef τ sig).ty.Contents (Elt F)) = Cert.ReferenceIdeal.Step.b86 j s := by
  unfold Cert.ReferenceIdeal.Step.b86
  rw [← al_77 h, h.f_9]
  try rfl
set_option maxRecDepth 8192 in
theorem al_87 (h : Holds V0 s j) : (subf (addf (res_main_while0b_v135 V0) (V0 (Proc.devRef .tc main_v44_9))) (res_main_while0b_v142 V0) : (Proc.devRef .tc main_while0b_v144 : DevRef τ sig).ty.Contents (Elt F)) = Cert.ReferenceIdeal.Step.b87 j s := by
  unfold Cert.ReferenceIdeal.Step.b87
  rw [← al_86 h, ← al_85 h]
  try rfl
set_option maxRecDepth 8192 in
theorem al_88 (h : Holds V0 s j) : (res_main_while0b_v145 V0 : (Proc.devRef .tc main_while0b_v145 : DevRef τ sig).ty.Contents (Elt F)) = Cert.ReferenceIdeal.Step.b88 j s := by
  unfold res_main_while0b_v145 Cert.ReferenceIdeal.Step.b88
  rw [← al_87 h]
  try rfl
set_option maxRecDepth 8192 in
theorem al_89 (h : Holds V0 s j) : (broadcastInDim S2x4x1 ![0, 1] bcast_S2x4_S2x4x1_0_1 (res_main_while0b_v142 V0) : (Proc.devRef .tc main_while0b_v146 : DevRef τ sig).ty.Contents (Elt F)) = Cert.ReferenceIdeal.Step.b89 j s := by
  unfold Cert.ReferenceIdeal.Step.b89
  rw [← al_85 h]
  try rfl
set_option maxRecDepth 8192 in
theorem al_90 (h : Holds V0 s j) : (broadcastInDim S2x4x64 ![0, 1, 2] bcast_S2x4x1_S2x4x64_0_1_2 (broadcastInDim S2x4x1 ![0, 1] bcast_S2x4_S2x4x1_0_1 (res_main_while0b_v142 V0)) : (Proc.devRef .tc main_while0b_v147 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (subf (res_main_while0b_v139 V0) (broadcastInDim S2x4x64 ![0, 1, 2] bcast_S2x4x1_S2x4x64_0_1_2 (broadcastInDim S2x4x1 ![0, 1] bcast_S2x4_S2x4x1_0_1 (res_main_while0b_v142 V0))) : (Proc.devRef .tc main_while0b_v148 : DevRef τ sig).ty.Contents (Elt F)) = Cert.ReferenceIdeal.Step.b91 j s := by
  unfold Cert.ReferenceIdeal.Step.b91
  rw [← al_81 h, ← al_90 h]
  try rfl
set_option maxRecDepth 8192 in
theorem al_92 (h : Holds V0 s j) : (res_main_while0b_v149 V0 : (Proc.devRef .tc main_while0b_v149 : DevRef τ sig).ty.Contents (Elt F)) = Cert.ReferenceIdeal.Step.b92 j s := by
  unfold res_main_while0b_v149 Cert.ReferenceIdeal.Step.b92
  rw [← al_91 h]
  try rfl
set_option maxRecDepth 8192 in
theorem al_93 (h : Holds V0 s j) : (broadcastInDim S2x4x1x1 ![0, 1] bcast_S2x4_S2x4x1x1_0_1 (res_main_while0b_v145 V0) : (Proc.devRef .tc main_while0b_v150 : DevRef τ sig).ty.Contents (Elt F)) = Cert.ReferenceIdeal.Step.b93 j s := by
  unfold Cert.ReferenceIdeal.Step.b93
  rw [← al_88 h]
  try rfl
set_option maxRecDepth 8192 in
theorem al_94 (h : Holds V0 s j) : (broadcastInDim S2x4x64x64 ![0, 1, 2, 3] bcast_S2x4x1x1_S2x4x64x64_0_1_2_3 (broadcastInDim S2x4x1x1 ![0, 1] bcast_S2x4_S2x4x1x1_0_1 (res_main_while0b_v145 V0)) : (Proc.devRef .tc main_while0b_v151 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (mulf (broadcastInDim S2x4x64x64 ![0, 1, 2, 3] bcast_S2x4x1x1_S2x4x64x64_0_1_2_3 (broadcastInDim S2x4x1x1 ![0, 1] bcast_S2x4_S2x4x1x1_0_1 (res_main_while0b_v145 V0))) (V0 (Proc.devRef .tc main_v44_7)) : (Proc.devRef .tc main_while0b_v152 : DevRef τ sig).ty.Contents (Elt F)) = Cert.ReferenceIdeal.Step.b95 j s := by
  unfold Cert.ReferenceIdeal.Step.b95
  rw [← al_94 h, h.f_7]
  try rfl
set_option maxRecDepth 8192 in
theorem al_96 (h : Holds V0 s j) : (broadcastInDim S2x4x64x1 ![0, 1, 2] bcast_S2x4x64_S2x4x64x1_0_1_2 (res_main_while0b_v149 V0) : (Proc.devRef .tc main_while0b_v153 : DevRef τ sig).ty.Contents (Elt F)) = Cert.ReferenceIdeal.Step.b96 j s := by
  unfold Cert.ReferenceIdeal.Step.b96
  rw [← al_92 h]
  try rfl
set_option maxRecDepth 8192 in
theorem al_97 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (res_main_while0b_v149 V0)) : (Proc.devRef .tc main_while0b_v154 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (mulf (broadcastInDim S2x4x64x64 ![0, 1, 2, 3] bcast_S2x4x64x1_S2x4x64x64_0_1_2_3 (broadcastInDim S2x4x64x1 ![0, 1, 2] bcast_S2x4x64_S2x4x64x1_0_1_2 (res_main_while0b_v149 V0))) (res_main_while0b_v91 V0) : (Proc.devRef .tc main_while0b_v155 : DevRef τ sig).ty.Contents (Elt F)) = Cert.ReferenceIdeal.Step.b98 j s := by
  unfold Cert.ReferenceIdeal.Step.b98
  rw [← al_97 h, ← al_17 h]
  try rfl
set_option maxRecDepth 8192 in
theorem al_99 (h : Holds V0 s j) : (Host.dotGeneral dot_S2x4x64x64_S2x4x64x64_S2x4x64x64_2_2_3_3_01_01 none (mulf (broadcastInDim S2x4x64x64 ![0, 1, 2, 3] bcast_S2x4x64x1_S2x4x64x64_0_1_2_3 (broadcastInDim S2x4x64x1 ![0, 1, 2] bcast_S2x4x64_S2x4x64x1_0_1_2 (res_main_while0b_v149 V0))) (res_main_while0b_v91 V0)) (res_main_while0b_v90 V0) : (Proc.devRef .tc main_while0b_v156 : DevRef τ sig).ty.Contents (Elt F)) = Cert.ReferenceIdeal.Step.b99 j s := by
  unfold Cert.ReferenceIdeal.Step.b99
  rw [← al_98 h, ← al_11 h]
  try rfl
set_option maxRecDepth 8192 in
theorem al_100 (h : Holds V0 s j) : (addf (mulf (broadcastInDim S2x4x64x64 ![0, 1, 2, 3] bcast_S2x4x1x1_S2x4x64x64_0_1_2_3 (broadcastInDim S2x4x1x1 ![0, 1] bcast_S2x4_S2x4x1x1_0_1 (res_main_while0b_v145 V0))) (V0 (Proc.devRef .tc main_v44_7))) (Host.dotGeneral dot_S2x4x64x64_S2x4x64x64_S2x4x64x64_2_2_3_3_01_01 none (mulf (broadcastInDim S2x4x64x64 ![0, 1, 2, 3] bcast_S2x4x64x1_S2x4x64x64_0_1_2_3 (broadcastInDim S2x4x64x1 ![0, 1, 2] bcast_S2x4x64_S2x4x64x1_0_1_2 (res_main_while0b_v149 V0))) (res_main_while0b_v91 V0)) (res_main_while0b_v90 V0)) : (Proc.devRef .tc main_while0b_v157 : DevRef τ sig).ty.Contents (Elt F)) = Cert.ReferenceIdeal.Step.b100 j s := by
  unfold Cert.ReferenceIdeal.Step.b100
  rw [← al_95 h, ← al_99 h]
  try rfl
set_option maxRecDepth 8192 in
theorem al_101 (h : Holds V0 s j) : (broadcastInDim S2x4x1 ![0, 1] bcast_S2x4_S2x4x1_0_1 (res_main_while0b_v145 V0) : (Proc.devRef .tc main_while0b_v158 : DevRef τ sig).ty.Contents (Elt F)) = Cert.ReferenceIdeal.Step.b101 j s := by
  unfold Cert.ReferenceIdeal.Step.b101
  rw [← al_88 h]
  try rfl
set_option maxRecDepth 8192 in
theorem al_102 (h : Holds V0 s j) : (broadcastInDim S2x4x64 ![0, 1, 2] bcast_S2x4x1_S2x4x64_0_1_2 (broadcastInDim S2x4x1 ![0, 1] bcast_S2x4_S2x4x1_0_1 (res_main_while0b_v145 V0)) : (Proc.devRef .tc main_while0b_v159 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (mulf (broadcastInDim S2x4x64 ![0, 1, 2] bcast_S2x4x1_S2x4x64_0_1_2 (broadcastInDim S2x4x1 ![0, 1] bcast_S2x4_S2x4x1_0_1 (res_main_while0b_v145 V0))) (V0 (Proc.devRef .tc main_v44_8)) : (Proc.devRef .tc main_while0b_v160 : DevRef τ sig).ty.Contents (Elt F)) = Cert.ReferenceIdeal.Step.b103 j s := by
  unfold Cert.ReferenceIdeal.Step.b103
  rw [← al_102 h, h.f_8]
  try rfl
set_option maxRecDepth 8192 in
theorem al_104 (h : Holds V0 s j) : (Host.dotGeneral dot_S2x4x64_S2x4x64x64_S2x4x64_2_2_n_3_01_01 none (res_main_while0b_v149 V0) (res_main_while0b_v90 V0) : (Proc.devRef .tc main_while0b_v161 : DevRef τ sig).ty.Contents (Elt F)) = Cert.ReferenceIdeal.Step.b104 j s := by
  unfold Cert.ReferenceIdeal.Step.b104
  rw [← al_92 h, ← al_11 h]
  try rfl
set_option maxRecDepth 8192 in
theorem al_105 (h : Holds V0 s j) : (addf (mulf (broadcastInDim S2x4x64 ![0, 1, 2] bcast_S2x4x1_S2x4x64_0_1_2 (broadcastInDim S2x4x1 ![0, 1] bcast_S2x4_S2x4x1_0_1 (res_main_while0b_v145 V0))) (V0 (Proc.devRef .tc main_v44_8))) (Host.dotGeneral dot_S2x4x64_S2x4x64x64_S2x4x64_2_2_n_3_01_01 none (res_main_while0b_v149 V0) (res_main_while0b_v90 V0)) : (Proc.devRef .tc main_while0b_v162 : DevRef τ sig).ty.Contents (Elt F)) = Cert.ReferenceIdeal.Step.b105 j s := by
  unfold Cert.ReferenceIdeal.Step.b105
  rw [← al_103 h, ← al_104 h]
  try rfl
set_option maxRecDepth 8192 in
theorem al_106 (h : Holds V0 s j) : (broadcastInDim S1x2x4x64x64 ![1, 2, 3, 4] bcast_S2x4x64x64_S1x2x4x64x64_1_2_3_4 (Host.divf (addf (Host.dotGeneral dot_S2x4x64x64_S2x4x64x64_S2x4x64x64_3_2_2_3_01_01 none (res_main_while0b_v116 V0) (res_main_while0b_v91 V0)) (mulf (broadcastInDim S2x4x64x64 ![0, 1, 2, 3] bcast_S2x4x64x1_S2x4x64x64_0_1_2_3 (broadcastInDim S2x4x64x1 ![0, 1, 2] bcast_S2x4x64_S2x4x64x1_0_1_2 (res_main_while0b_v110 V0))) (Host.dotGeneral dot_S2x4x64x64_S2x4x64x64_S2x4x64x64_3_3_2_2_01_01 none (res_main_while0b_v89 V0) (V0 (Proc.devRef .tc main_v44_7))))) (broadcastInDim S2x4x64x64 ![0, 1, 2, 3] bcast_S2x4x64x1_S2x4x64x64_0_1_2_3 (broadcastInDim S2x4x64x1 ![0, 1, 2] bcast_S2x4x64_S2x4x64x1_0_1_2 (maximumf (Host.absf (addf (Host.reduceAdd (res_main_while0b_v116 V0) (constant S_ .f32 0x00000000#32) reducesTo_S2x4x64x64_S2x4x64_d3 h_S_) (mulf (res_main_while0b_v110 V0) (Host.dotGeneral dot_S2x4x64_S2x4x64x64_S2x4x64_2_3_n_2_01_01 none (V0 (Proc.devRef .tc main_v44_8)) (res_main_while0b_v89 V0))))) (Host.exp (Host.negf (res_main_while0b_v108 V0))))))) : (Proc.devRef .tc main_while0b_call9_v0 : DevRef τ sig).ty.Contents (Elt F)) = Cert.ReferenceIdeal.Step.b106 j s := by
  unfold Cert.ReferenceIdeal.Step.b106
  rw [← al_75 h]
  try rfl
set_option maxRecDepth 8192 in
theorem al_107 (h : Holds V0 s j) : (constantI S_ 32 0#32 : (Proc.devRef .tc main_while0b_call9_c : DevRef τ sig).ty.Contents (Elt F)) = Cert.ReferenceIdeal.Step.b107 j s := by
  unfold Cert.ReferenceIdeal.Step.b107
  rfl
set_option maxRecDepth 8192 in
theorem al_108 (h : Holds V0 s j) : (constantI S_ 32 0#32 : (Proc.devRef .tc main_while0b_call9_c_0 : DevRef τ sig).ty.Contents (Elt F)) = Cert.ReferenceIdeal.Step.b108 j s := by
  unfold Cert.ReferenceIdeal.Step.b108
  rfl
set_option maxRecDepth 8192 in
theorem al_109 (h : Holds V0 s j) : (constantI S_ 32 0#32 : (Proc.devRef .tc main_while0b_call9_c_1 : DevRef τ sig).ty.Contents (Elt F)) = Cert.ReferenceIdeal.Step.b109 j s := by
  unfold Cert.ReferenceIdeal.Step.b109
  rfl
set_option maxRecDepth 8192 in
theorem al_110 (h : Holds V0 s j) : (constantI S_ 32 0#32 : (Proc.devRef .tc main_while0b_call9_c_2 : DevRef τ sig).ty.Contents (Elt F)) = Cert.ReferenceIdeal.Step.b110 j s := by
  unfold Cert.ReferenceIdeal.Step.b110
  rfl
set_option maxRecDepth 8192 in
theorem al_111 (h : Holds V0 s j) : (Host.dynamicUpdateSlice (V0 (Proc.devRef .tc main_v44_10)) (broadcastInDim S1x2x4x64x64 ![1, 2, 3, 4] bcast_S2x4x64x64_S1x2x4x64x64_1_2_3_4 (Host.divf (addf (Host.dotGeneral dot_S2x4x64x64_S2x4x64x64_S2x4x64x64_3_2_2_3_01_01 none (res_main_while0b_v116 V0) (res_main_while0b_v91 V0)) (mulf (broadcastInDim S2x4x64x64 ![0, 1, 2, 3] bcast_S2x4x64x1_S2x4x64x64_0_1_2_3 (broadcastInDim S2x4x64x1 ![0, 1, 2] bcast_S2x4x64_S2x4x64x1_0_1_2 (res_main_while0b_v110 V0))) (Host.dotGeneral dot_S2x4x64x64_S2x4x64x64_S2x4x64x64_3_3_2_2_01_01 none (res_main_while0b_v89 V0) (V0 (Proc.devRef .tc main_v44_7))))) (broadcastInDim S2x4x64x64 ![0, 1, 2, 3] bcast_S2x4x64x1_S2x4x64x64_0_1_2_3 (broadcastInDim S2x4x64x1 ![0, 1, 2] bcast_S2x4x64_S2x4x64x1_0_1_2 (maximumf (Host.absf (addf (Host.reduceAdd (res_main_while0b_v116 V0) (constant S_ .f32 0x00000000#32) reducesTo_S2x4x64x64_S2x4x64_d3 h_S_) (mulf (res_main_while0b_v110 V0) (Host.dotGeneral dot_S2x4x64_S2x4x64x64_S2x4x64_2_3_n_2_01_01 none (V0 (Proc.devRef .tc main_v44_8)) (res_main_while0b_v89 V0))))) (Host.exp (Host.negf (res_main_while0b_v108 V0)))))))) (fun k => (((![V0 (Proc.devRef .tc main_v44_6), constantI S_ 32 0#32, constantI S_ 32 0#32, constantI S_ 32 0#32, constantI S_ 32 0#32] : Fin 5 → (⟨S_, .i32⟩ : BufTy).Contents (Elt F))) k (Shape.Idx.first h_S_)).toInt) updateFits_S128x2x4x64x64_S1x2x4x64x64 : (Proc.devRef .tc main_while0b_v163 : DevRef τ sig).ty.Contents (Elt F)) = Cert.ReferenceIdeal.Step.b111 j s := by
  unfold Cert.ReferenceIdeal.Step.b111
  rw [← al_106 h, ← al_107 h, ← al_108 h, ← al_109 h, ← al_110 h, h.f_10, h.n_6]
  try rfl

/-! One trip's step of the carried values is `step`, field by field; a counter steps to the next number. -/

theorem step_7 (h : Holds V0 s j) : step_main_v44_7 V0 = (step j s).main_v44_7 := by
  unfold step_main_v44_7 Cert.ReferenceIdeal.Step.step
  show id (addf (mulf (broadcastInDim S2x4x64x64 ![0, 1, 2, 3] bcast_S2x4x1x1_S2x4x64x64_0_1_2_3 (broadcastInDim S2x4x1x1 ![0, 1] bcast_S2x4_S2x4x1x1_0_1 (res_main_while0b_v145 V0))) (V0 (Proc.devRef .tc main_v44_7))) (Host.dotGeneral dot_S2x4x64x64_S2x4x64x64_S2x4x64x64_2_2_3_3_01_01 none (mulf (broadcastInDim S2x4x64x64 ![0, 1, 2, 3] bcast_S2x4x64x1_S2x4x64x64_0_1_2_3 (broadcastInDim S2x4x64x1 ![0, 1, 2] bcast_S2x4x64_S2x4x64x1_0_1_2 (res_main_while0b_v149 V0))) (res_main_while0b_v91 V0)) (res_main_while0b_v90 V0))) = _
  rw [al_100 h]
  try rfl
theorem step_8 (h : Holds V0 s j) : step_main_v44_8 V0 = (step j s).main_v44_8 := by
  unfold step_main_v44_8 Cert.ReferenceIdeal.Step.step
  show id (addf (mulf (broadcastInDim S2x4x64 ![0, 1, 2] bcast_S2x4x1_S2x4x64_0_1_2 (broadcastInDim S2x4x1 ![0, 1] bcast_S2x4_S2x4x1_0_1 (res_main_while0b_v145 V0))) (V0 (Proc.devRef .tc main_v44_8))) (Host.dotGeneral dot_S2x4x64_S2x4x64x64_S2x4x64_2_2_n_3_01_01 none (res_main_while0b_v149 V0) (res_main_while0b_v90 V0))) = _
  rw [al_105 h]
  try rfl
theorem step_9 (h : Holds V0 s j) : step_main_v44_9 V0 = (step j s).main_v44_9 := by
  unfold step_main_v44_9 Cert.ReferenceIdeal.Step.step
  show id (res_main_while0b_v142 V0) = _
  rw [al_85 h]
  try rfl
theorem step_10 (h : Holds V0 s j) : step_main_v44_10 V0 = (step j s).main_v44_10 := by
  unfold step_main_v44_10 Cert.ReferenceIdeal.Step.step
  show id (Host.dynamicUpdateSlice (V0 (Proc.devRef .tc main_v44_10)) (broadcastInDim S1x2x4x64x64 ![1, 2, 3, 4] bcast_S2x4x64x64_S1x2x4x64x64_1_2_3_4 (Host.divf (addf (Host.dotGeneral dot_S2x4x64x64_S2x4x64x64_S2x4x64x64_3_2_2_3_01_01 none (res_main_while0b_v116 V0) (res_main_while0b_v91 V0)) (mulf (broadcastInDim S2x4x64x64 ![0, 1, 2, 3] bcast_S2x4x64x1_S2x4x64x64_0_1_2_3 (broadcastInDim S2x4x64x1 ![0, 1, 2] bcast_S2x4x64_S2x4x64x1_0_1_2 (res_main_while0b_v110 V0))) (Host.dotGeneral dot_S2x4x64x64_S2x4x64x64_S2x4x64x64_3_3_2_2_01_01 none (res_main_while0b_v89 V0) (V0 (Proc.devRef .tc main_v44_7))))) (broadcastInDim S2x4x64x64 ![0, 1, 2, 3] bcast_S2x4x64x1_S2x4x64x64_0_1_2_3 (broadcastInDim S2x4x64x1 ![0, 1, 2] bcast_S2x4x64_S2x4x64x1_0_1_2 (maximumf (Host.absf (addf (Host.reduceAdd (res_main_while0b_v116 V0) (constant S_ .f32 0x00000000#32) reducesTo_S2x4x64x64_S2x4x64_d3 h_S_) (mulf (res_main_while0b_v110 V0) (Host.dotGeneral dot_S2x4x64_S2x4x64x64_S2x4x64_2_3_n_2_01_01 none (V0 (Proc.devRef .tc main_v44_8)) (res_main_while0b_v89 V0))))) (Host.exp (Host.negf (res_main_while0b_v108 V0)))))))) (fun k => (((![V0 (Proc.devRef .tc main_v44_6), constantI S_ 32 0#32, constantI S_ 32 0#32, constantI S_ 32 0#32, constantI S_ 32 0#32] : Fin 5 → (⟨S_, .i32⟩ : BufTy).Contents (Elt F))) k (Shape.Idx.first h_S_)).toInt) updateFits_S128x2x4x64x64_S1x2x4x64x64) = _
  exact al_111 h
theorem step_6 (h : Holds V0 s j) : step_main_v44_6 V0 = constantI S_ 32 (BitVec.ofNat 32 (j + 1)) := by
  unfold step_main_v44_6
  rw [h.n_6]
  funext i
  show BitVec.ofNat 32 j + 1#32 = BitVec.ofNat 32 (j + 1)
  simp only [BitVec.ofNat_add]

set_option maxRecDepth 8192 in
theorem out_main_v88_holds (h : Holds V0 s j) {x_main_arg0 : (⟨S2x8192x2252, .f32⟩ : BufTy).Contents (Elt F)} (h_main_arg0 : V0 (Proc.devRef .tc main_arg0) = x_main_arg0) {x_main_arg5 : (⟨S256, .f32⟩ : BufTy).Contents (Elt F)} (h_main_arg5 : V0 (Proc.devRef .tc main_arg5) = x_main_arg5) : out_main_v88 V0 = Cert.ReferenceIdeal.Step.R_main_v88 s x_main_arg0 x_main_arg5 := by
  unfold out_main_v88 Cert.ReferenceIdeal.Step.R_main_v88
  rw [h.f_10, h_main_arg0, h_main_arg5]
  try rfl

/-- One trip keeps the valuation holding: `step` of the state, the same set-up values, the next number. -/
theorem holds_step (h : Holds V0 s j) : Holds (STEP V0) (step j s) (j + 1) where
  f_7 := (STEP_main_v44_7 V0).trans (step_7 h)
  f_8 := (STEP_main_v44_8 V0).trans (step_8 h)
  f_9 := (STEP_main_v44_9 V0).trans (step_9 h)
  f_10 := (STEP_main_v44_10 V0).trans (step_10 h)
  n_6 := (STEP_main_v44_6 V0).trans (step_6 h)
  k_5 := (STEP_main_v44_5 V0).trans h.k_5
  f_0 := (STEP_main_v44_0 V0).trans h.f_0
  f_1 := (STEP_main_v44_1 V0).trans h.f_1
  f_2 := (STEP_main_v44_2 V0).trans h.f_2
  f_3 := (STEP_main_v44_3 V0).trans h.f_3
  f_4 := (STEP_main_v44_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v88) = Cert.ReferenceIdeal.Step.R_main_v88 (it c 128) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 128
    ⟨(h c).1.trans (out_main_v88_holds hk (iter_main_arg0 m c 128) (iter_main_arg5 m c 128)), (h c).2.1, (h c).2.2.1, (h c).2.2.2.1, (h c).2.2.2.2.1, (h c).2.2.2.2.2.1, (h c).2.2.2.2.2.2⟩) (Value.run m ρ)

end Cert.ReferenceIdeal.Loop

end
-- ==== Proof.MRefLoop.lean ====
/-
  The plain loop's 128 trips: before trip `n` a head carries `chain n`, and the chunks already written hold the heads' rows.
  After them the norm and the gate make the rows of the model.
-/
module

public import proofs.«01_k».proof.Proof.MCum
public import proofs.«01_k».proof.Proof.MArr

@[expose] public section

set_option maxRecDepth 16384

noncomputable section

namespace Cert.M.Ref

open Idealize.ShloMosaic Cert.ReferenceIdeal Cert.ReferenceIdeal.Gen Cert.ReferenceIdeal.Step

variable (a0 : FVec Ideal S2x8192x2252 .f32) (a1 a2 : FVec Ideal S2x8192x4x64 .f32) (a3 a4 : FVec Ideal S4 .f32) (a5 : FVec Ideal S256 .f32)

/-- The arrays, read by coordinates. -/
def arr : Arr where
  h b l c := a0 (ix3 b l c)
  q b l h d := a1 (ix4 b l h d)
  k b l h d := a2 (ix4 b l h d)
  bi h := a3 (ix1 h)
  bf h := a4 (ix1 h)
  g c := a5 (ix1 c)

theorem start5 : ∀ j : Fin 128, ∀ a : Fin 5, Host.clampedStart S128x2x4x64x64 S1x2x4x64x64 (by decide)
    (fun k => ((![constantI S_ 32 (BitVec.ofNat 32 j.val), constantI S_ 32 0#32, constantI S_ 32 0#32, constantI S_ 32 0#32, constantI S_ 32 0#32]
      : Fin 5 → IVec S_ 32) k (Shape.Idx.first h_S_)).toInt) a = if a = 0 then j.val else 0 := by
  decide +kernel

theorem start4 : ∀ j : Fin 128, ∀ a : Fin 4, Host.clampedStart S128x2x4x64 S1x2x4x64 (by decide)
    (fun k => ((![constantI S_ 32 (BitVec.ofNat 32 j.val), constantI S_ 32 0#32, constantI S_ 32 0#32, constantI S_ 32 0#32]
      : Fin 4 → IVec S_ 32) k (Shape.Idx.first h_S_)).toInt) a = if a = 0 then j.val else 0 := by
  decide +kernel

variable (j : Fin 128) (s : State Ideal) (b : Fin 2) (h : Fin 4)

theorem b5_apply (t d : Fin 64) : b5 j.val s (ix4 b h t d) = s.main_v44_0 (ix5 j b h t d) := by
  pointwise [b5, b4, b0, b1, b2, b3]
  refine congrArg s.main_v44_0 ?_
  simp only [start5, Fin.isValue, ↓reduceIte, one_ne_zero, Fin.reduceEq, Nat.zero_add]

theorem b11_apply (t d : Fin 64) : b11 j.val s (ix4 b h t d) = s.main_v44_1 (ix5 j b h t d) := by
  pointwise [b11, b10, b6, b7, b8, b9]
  refine congrArg s.main_v44_1 ?_
  simp only [start5, Fin.isValue, ↓reduceIte, one_ne_zero, Fin.reduceEq, Nat.zero_add]

theorem b17_apply (t d : Fin 64) : b17 j.val s (ix4 b h t d) = s.main_v44_2 (ix5 j b h t d) := by
  pointwise [b17, b16, b12, b13, b14, b15]
  refine congrArg s.main_v44_2 ?_
  simp only [start5, Fin.isValue, ↓reduceIte, one_ne_zero, Fin.reduceEq, Nat.zero_add]

theorem b22_apply (t : Fin 64) : b22 j.val s (ix3 b h t) = s.main_v44_3 (ix4 j b h t) := by
  pointwise [b22, b21, b18, b19, b20]
  refine congrArg s.main_v44_3 ?_
  simp only [start4, Fin.isValue, ↓reduceIte, one_ne_zero, Fin.reduceEq, Nat.zero_add]

theorem b27_apply (t : Fin 64) : b27 j.val s (ix3 b h t) = s.main_v44_4 (ix4 j b h t) := by
  pointwise [b27, b26, b23, b24, b25]
  refine congrArg s.main_v44_4 ?_
  simp only [start4, Fin.isValue, ↓reduceIte, one_ne_zero, Fin.reduceEq, Nat.zero_add]

/-- The trip writes its chunk and keeps the others. -/
theorem b111_apply (n : Fin 128) (t d : Fin 64) : b111 j.val s (ix5 n b h t d)
    = if n = j then hh (inR j.val s b h) (stR s b h) t d else s.main_v44_10 (ix5 n b h t d) := by
  unfold b111
  rw [Host.dynamicUpdateSlice_apply]
  by_cases hn : n = j
  · subst hn
    rw [if_pos rfl, ← chunkOut]
    refine (dif_pos fun a => ?_).trans ?_
    · have e := start5 n a
      match a with
      | ⟨0, _⟩ => exact ⟨(show _ ≤ n.val from le_of_eq e), (show n.val < _ + 1 from lt_of_lt_of_eq (Nat.lt_succ_self _) (congrArg (· + 1) e.symm))⟩
      | ⟨1, _⟩ => exact ⟨(show _ ≤ b.val from (le_of_eq e).trans (Nat.zero_le _)), (show b.val < _ + 2 from lt_of_lt_of_le b.isLt (Nat.le_add_left _ _))⟩
      | ⟨2, _⟩ => exact ⟨(show _ ≤ h.val from (le_of_eq e).trans (Nat.zero_le _)), (show h.val < _ + 4 from lt_of_lt_of_le h.isLt (Nat.le_add_left _ _))⟩
      | ⟨3, _⟩ => exact ⟨(show _ ≤ t.val from (le_of_eq e).trans (Nat.zero_le _)), (show t.val < _ + 64 from lt_of_lt_of_le t.isLt (Nat.le_add_left _ _))⟩
      | ⟨4, _⟩ => exact ⟨(show _ ≤ d.val from (le_of_eq e).trans (Nat.zero_le _)), (show d.val < _ + 64 from lt_of_lt_of_le d.isLt (Nat.le_add_left _ _))⟩
    · have e : b106 n.val s (ix5 0 b h t d) = b75 n.val s (ix4 b h t d) := by pointwise [b106]
      refine Eq.trans (congrArg (b106 n.val s) (funext fun a => Fin.ext ?_)) e
      have e := start5 n a
      match a with
      | ⟨0, _⟩ => exact (congrArg (n.val - ·) e).trans (Nat.sub_self _)
      | ⟨1, _⟩ => exact congrArg (b.val - ·) e
      | ⟨2, _⟩ => exact congrArg (h.val - ·) e
      | ⟨3, _⟩ => exact congrArg (t.val - ·) e
      | ⟨4, _⟩ => exact congrArg (d.val - ·) e
  · rw [if_neg hn]
    refine dif_neg fun hin => hn ?_
    have e := start5 j 0
    obtain ⟨h1, h2⟩ := hin 0
    have h1' : j.val ≤ n.val := (le_of_eq e.symm).trans h1
    have h2' : n.val < j.val + 1 := lt_of_lt_of_eq h2 (congrArg (· + 1) e)
    exact Fin.ext (by omega)

/-- The loop's states. -/
def it : ℕ → State Ideal
  | 0 => init a0 a1 a2 a3 a4
  | n + 1 => step n (it n)

theorem it_succ (n : ℕ) : it a0 a1 a2 a3 a4 (n + 1) = step n (it a0 a1 a2 a3 a4 n) := rfl

theorem step_fixed (n : ℕ) (s : State Ideal) : (step n s).main_v44_0 = s.main_v44_0 ∧ (step n s).main_v44_1 = s.main_v44_1
    ∧ (step n s).main_v44_2 = s.main_v44_2 ∧ (step n s).main_v44_3 = s.main_v44_3 ∧ (step n s).main_v44_4 = s.main_v44_4 := by
  unfold step
  exact ⟨rfl, rfl, rfl, rfl, rfl⟩

/-- The loop does not change the chunks it takes. -/
theorem fixed (n : ℕ) : ((it a0 a1 a2 a3 a4) n).main_v44_0 = A_main_v26 a0 a1 a2 a3 a4 ∧ ((it a0 a1 a2 a3 a4) n).main_v44_1 = A_main_v28 a0 a1 a2 a3 a4
    ∧ ((it a0 a1 a2 a3 a4) n).main_v44_2 = A_main_v30 a0 a1 a2 a3 a4 ∧ ((it a0 a1 a2 a3 a4) n).main_v44_3 = A_main_v32 a0 a1 a2 a3 a4 ∧ ((it a0 a1 a2 a3 a4) n).main_v44_4 = A_main_v37 a0 a1 a2 a3 a4 := by
  induction n with
  | zero => exact ⟨rfl, rfl, rfl, rfl, rfl⟩
  | succ n ih => rw [it_succ, (step_fixed n _).1, (step_fixed n _).2.1, (step_fixed n _).2.2.1, (step_fixed n _).2.2.2.1, (step_fixed n _).2.2.2.2]; exact ih

theorem v26_apply (n : Fin 128) (t d : Fin 64) : A_main_v26 (F := Ideal) a0 a1 a2 a3 a4 (ix5 n b h t d) = (chunkIn (arr a0 a1 a2 a3 a4 a5) b h n.val).q t d := by
  have e : pos n.val t = ⟨n.val * 64 + t.val, by omega⟩ := Fin.ext (Nat.mod_eq_of_lt (by omega))
  pointwise [A_main_v26, A_main_v25, A_main_v24, A_main_v11, K_main_v23, K_main_cst, chunkIn, arr, e]

theorem v28_apply (n : Fin 128) (t d : Fin 64) : A_main_v28 (F := Ideal) a0 a1 a2 a3 a4 (ix5 n b h t d) = (chunkIn (arr a0 a1 a2 a3 a4 a5) b h n.val).k t d := by
  have e : pos n.val t = ⟨n.val * 64 + t.val, by omega⟩ := Fin.ext (Nat.mod_eq_of_lt (by omega))
  pointwise [A_main_v28, A_main_v27, A_main_v12, chunkIn, arr, e]

theorem v30_apply (n : Fin 128) (t d : Fin 64) : A_main_v30 (F := Ideal) a0 a1 a2 a3 a4 (ix5 n b h t d) = (chunkIn (arr a0 a1 a2 a3 a4 a5) b h n.val).v t d := by
  have e : pos n.val t = ⟨n.val * 64 + t.val, by omega⟩ := Fin.ext (Nat.mod_eq_of_lt (by omega))
  pointwise [A_main_v30, A_main_v29, A_main_v14, A_main_v13, A_main_v7, chunkIn, arr, e]

theorem v32_apply (n : Fin 128) (t : Fin 64) : A_main_v32 (F := Ideal) a0 a1 a2 a3 a4 (ix4 n b h t) = (chunkIn (arr a0 a1 a2 a3 a4 a5) b h n.val).i t := by
  have e : pos n.val t = ⟨n.val * 64 + t.val, by omega⟩ := Fin.ext (Nat.mod_eq_of_lt (by omega))
  pointwise [A_main_v32, A_main_v31, A_main_v18, A_main_v17, A_main_v16, A_main_v15, A_main_v9, chunkIn, arr, e]

theorem v37_apply (n : Fin 128) (t : Fin 64) : A_main_v37 (F := Ideal) a0 a1 a2 a3 a4 (ix4 n b h t)
    = lf (((arr a0 a1 a2 a3 a4 a5)).h b (pos n.val t) ⟨2248 + h.val, by omega⟩ + ((arr a0 a1 a2 a3 a4 a5)).bf h) := by
  have e : pos n.val t = ⟨n.val * 64 + t.val, by omega⟩ := Fin.ext (Nat.mod_eq_of_lt (by omega))
  unfold lf
  simp only [zero_sub, mag]
  pointwise [A_main_v37, A_main_v36, A_main_v35, A_main_v34, A_main_call0_v1, A_main_call0_v3, A_main_call0_v4, A_main_call0_v6, A_main_call0_v7,
    A_main_call0_v8, A_main_call0_v9, A_main_call0_v10, A_main_call0_v11, A_main_v33, A_main_v22, A_main_v21, A_main_v20, A_main_v19, A_main_v10,
    K_main_call0_v0, K_main_call0_v2, K_main_call0_v5, K_main_call0_cst, arr, e, ne_eq, not_true_eq_false, if_false]

/-- What trip `n` takes is the model's chunk. -/
theorem takes (n : Fin 128) : inR n.val ((it a0 a1 a2 a3 a4) n.val) b h = chunkIn (arr a0 a1 a2 a3 a4 a5) b h n.val := by
  obtain ⟨f0, f1, f2, f3, f4⟩ := fixed a0 a1 a2 a3 a4 n.val
  have eq : (inR n.val ((it a0 a1 a2 a3 a4) n.val) b h).q = (chunkIn (arr a0 a1 a2 a3 a4 a5) b h n.val).q := funext fun t => funext fun d => by
    show b5 _ _ _ = _
    rw [b5_apply, f0, v26_apply (a5 := a5)]
  have ek : (inR n.val ((it a0 a1 a2 a3 a4) n.val) b h).k = (chunkIn (arr a0 a1 a2 a3 a4 a5) b h n.val).k := funext fun t => funext fun d => by
    show b11 _ _ _ = _
    rw [b11_apply, f1, v28_apply (a5 := a5)]
  have ev : (inR n.val ((it a0 a1 a2 a3 a4) n.val) b h).v = (chunkIn (arr a0 a1 a2 a3 a4 a5) b h n.val).v := funext fun t => funext fun d => by
    show b17 _ _ _ = _
    rw [b17_apply, f2, v30_apply (a5 := a5)]
  have eb : (inR n.val ((it a0 a1 a2 a3 a4) n.val) b h).b = (chunkIn (arr a0 a1 a2 a3 a4 a5) b h n.val).b := funext fun t => by
    have eu : (fun u => b27 n.val ((it a0 a1 a2 a3 a4) n.val) (ix3 b h u)) = fun u => lf (((arr a0 a1 a2 a3 a4 a5)).h b (pos n.val u) ⟨2248 + h.val, by omega⟩ + ((arr a0 a1 a2 a3 a4 a5)).bf h) :=
      funext fun u => by rw [b27_apply, f4, v37_apply (a5 := a5)]
    show b30 _ _ _ = _
    rw [run_sum, eu]
    rfl
  have ei : (inR n.val ((it a0 a1 a2 a3 a4) n.val) b h).i = (chunkIn (arr a0 a1 a2 a3 a4 a5) b h n.val).i := funext fun t => by
    show b22 _ _ _ = _
    rw [b22_apply, f3, v32_apply (a5 := a5)]
  calc inR n.val ((it a0 a1 a2 a3 a4) n.val) b h = ⟨(inR n.val ((it a0 a1 a2 a3 a4) n.val) b h).q, (inR n.val ((it a0 a1 a2 a3 a4) n.val) b h).k, (inR n.val ((it a0 a1 a2 a3 a4) n.val) b h).v,
      (inR n.val ((it a0 a1 a2 a3 a4) n.val) b h).b, (inR n.val ((it a0 a1 a2 a3 a4) n.val) b h).i⟩ := rfl
    _ = _ := by rw [eq, ek, ev, eb, ei]

/-- What is carried before trip `n` is the model's chain. -/
theorem carries (n : ℕ) (hn : n ≤ 128) : stR ((it a0 a1 a2 a3 a4) n) b h = chain (arr a0 a1 a2 a3 a4 a5) b h n := by
  induction n with
  | zero =>
    refine St.ext (funext fun a => funext fun d => ?_) (funext fun a => ?_) ?_
    · show K_main_v40 (F := Ideal) (ix4 b h d a) = (0 : EReal)
      pointwise [K_main_v40, K_main_cst_0]
    · show K_main_v41 (F := Ideal) (ix3 b h a) = (0 : EReal)
      pointwise [K_main_v41, K_main_cst_1]
    · show K_main_v42 (F := Ideal) (ix2 b h) = (0 : EReal)
      pointwise [K_main_v42, K_main_cst_2]
  | succ n ih =>
    have e := takes a0 a1 a2 a3 a4 a5 b h ⟨n, by omega⟩
    rw [it_succ, step_st, ih (by omega)]
    exact congrArg (fun x => next x _) e

/-- The chunks already written. -/
theorem wrote (n : ℕ) (hn : n ≤ 128) (i : Fin 128) (hi : i.val < n) (t d : Fin 64) :
    ((it a0 a1 a2 a3 a4) n).main_v44_10 (ix5 i b h t d) = hh (chunkIn (arr a0 a1 a2 a3 a4 a5) b h i.val) (chain (arr a0 a1 a2 a3 a4 a5) b h i.val) t d := by
  induction n with
  | zero => omega
  | succ n ih =>
    rw [it_succ, step_main_v44_10]
    refine (b111_apply ⟨n, by omega⟩ _ b h i t d).trans ?_
    by_cases e : i = ⟨n, by omega⟩
    · have ei : n = i.val := by rw [e]
      subst ei
      rw [if_pos e, carries a0 a1 a2 a3 a4 a5 b h i.val (by omega)]
      exact congrArg (fun x => hh x _ t d) (takes a0 a1 a2 a3 a4 a5 b h i)
    · rw [if_neg e]
      exact ih (by omega) (by have : i.val ≠ n := fun h => e (Fin.ext h); omega)

/-- What the operations after the loop make of the written chunks. -/
theorem tail (s : State Ideal) (hs : ∀ (b : Fin 2) (h : Fin 4) (n : Fin 128) (t d : Fin 64),
      s.main_v44_10 (ix5 n b h t d) = hh (chunkIn (arr a0 a1 a2 a3 a4 a5) b h n.val) (chain (arr a0 a1 a2 a3 a4 a5) b h n.val) t d) (i : Fin 16384) (c : Fin 256) :
    R_main_v88 s a0 a5 (ix2 i c)
      = row (arr a0 a1 a2 a3 a4 a5) ⟨i.val / 8192, by omega⟩ ⟨c.val / 64, by omega⟩ ⟨i.val % 8192, by omega⟩ ⟨c.val % 64, by omega⟩ := by
  have e : ∀ d : Fin 64, s.main_v44_10 (ix5 ⟨i.val % 8192 / 64, by omega⟩ ⟨i.val / 8192, by omega⟩ ⟨c.val / 64, by omega⟩ ⟨i.val % 8192 % 64, by omega⟩ d)
      = mixed (arr a0 a1 a2 a3 a4 a5) ⟨i.val / 8192, by omega⟩ ⟨c.val / 64, by omega⟩ ⟨i.val % 8192, by omega⟩ d := fun d => hs _ _ _ _ d
  have ec : c.val / 64 * 64 + c.val % 64 = c.val := by omega
  have eo : ∀ z : Fin 64 → EReal, row (arr a0 a1 a2 a3 a4 a5) ⟨i.val / 8192, by omega⟩ ⟨c.val / 64, by omega⟩ ⟨i.val % 8192, by omega⟩ ⟨c.val % 64, by omega⟩
      = out (mixed (arr a0 a1 a2 a3 a4 a5) ⟨i.val / 8192, by omega⟩ ⟨c.val / 64, by omega⟩ ⟨i.val % 8192, by omega⟩) (fun d => a5 (ix1 ⟨c.val / 64 * 64 + d.val, by omega⟩))
        (fun d => a0 (ix3 ⟨i.val / 8192, by omega⟩ ⟨i.val % 8192, by omega⟩ ⟨1988 + (c.val / 64 * 64 + d.val), by omega⟩)) ⟨c.val % 64, by omega⟩ := fun _ => rfl
  rw [eo 0]
  generalize mixed (arr a0 a1 a2 a3 a4 a5) ⟨i.val / 8192, by omega⟩ ⟨c.val / 64, by omega⟩ ⟨i.val % 8192, by omega⟩ = z at e ⊢
  pointwise [R_main_v88, out, e, Ideal.logistic, ec]

/-- The result array. -/
theorem result (i : Fin 16384) (c : Fin 256) : R_main_v88 ((it a0 a1 a2 a3 a4) 128) a0 a5 (ix2 i c)
    = row (arr a0 a1 a2 a3 a4 a5) ⟨i.val / 8192, by omega⟩ ⟨c.val / 64, by omega⟩ ⟨i.val % 8192, by omega⟩ ⟨c.val % 64, by omega⟩ :=
  tail a0 a1 a2 a3 a4 a5 _ (fun b h n t d => wrote a0 a1 a2 a3 a4 a5 b h 128 (le_refl _) n n.isLt t d) i c

end Cert.M.Ref

end
-- ==== Proof.MClaim.lean ====
/-
  The mLSTM: the kernel's result array and the plain loop's are the same rows of the model.
-/
module

public import proofs.«01_k».proof.Defs
public import proofs.«01_k».proof.Proof.MFinal
public import proofs.«01_k».proof.Proof.MLoop
public import proofs.«01_k».proof.Proof.MRefLoop

@[expose] public section

set_option maxRecDepth 16384

noncomputable section

namespace Cert.M

open Idealize.ShloMosaic Idealize.ShloMosaic.TcCoe Idealize.SL.Sem

theorem algebraic : Cert.algebraic_KernelIdeal_ReferenceIdeal := by
  intro m ρ m' ρ' _ hagree
  refine ⟨fun c => (Cert.KernelIdeal.Gen.dats m 0 c).arrAt 8 (Cert.KernelIdeal.cfgs 0).N, Cert.KernelIdeal.Value.run_blocks m ρ, ?_⟩
  refine (θ_run _ _ _).mono (fun _ h c => ⟨(h c).1.trans ?_, (h c).2⟩) (Cert.ReferenceIdeal.Loop.run_iter m' ρ'
    (fun c : Dev Cert.ReferenceIdeal.nD => Ref.it (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)))
    (fun _ => rfl) (fun _ _ => rfl))
  obtain ⟨h0, h1, h2, h3, h4, h5⟩ := hagree c
  refine Eq.trans ?_ (final m c).symm
  rw [h0, h1, h2, h3, h4, h5]
  funext i
  have e : i = ix2 (i 0) (i 1) := by funext a; match a with | ⟨0, _⟩ => rfl | ⟨1, _⟩ => rfl
  refine (congrArg _ e).trans ?_
  exact Ref.result _ _ _ _ _ _ (i 0) (i 1)

end Cert.M

end
-- ==== Proof.XModel.lean ====
/-
  The cross attention, one row at a time, over the extended reals. Both programs are compared with these definitions.

  `rowMul` is a row times a matrix; `logit` the scaled product of a head of a query row with a memory; `softmax` the
  softmax of a row of logits over the 256 memories; `head` one head of the attention's row and `attn` the whole of it
  (column `c` belongs to head `c / 256`); `zRow` the residual sum `alpha * x + attn w_o`; `lnRow` the layer norm of a row;
  `xRow` a row of the result.
-/
module

public import Idealize.ShloMosaic.PureOps.Ideal
public import Idealize.ShloMosaic.Lib.Pointwise

@[expose] public section

noncomputable section

namespace Cert.X

open Idealize.ShloMosaic

/-- A row times a matrix. -/
def rowMul (n : ℕ) (x : Fin 1024 → EReal) (w : Fin 1024 → Fin n → EReal) (c : Fin n) : EReal :=
  ∑ k, x k * w k c

/-- The softmax of a row of 256 logits, the maximum subtracted first. -/
def softmax (l : Fin 256 → EReal) (m : Fin 256) : EReal :=
  Ideal.div (Ideal.exp (l m - Finset.univ.fold max (Ideal.ofBits .f32 0xFF800000#32) l))
    (∑ k, Ideal.exp (l k - Finset.univ.fold max (Ideal.ofBits .f32 0xFF800000#32) l))

/-- The product of 256 lanes of a query with those of memory `m`, scaled by 1/16. -/
def logit (q : Fin 256 → EReal) (k : Fin 256 → Fin 256 → EReal) (m : Fin 256) : EReal :=
  (∑ d, q d * k m d) * Ideal.ofBits .f32 0x3D800000#32

/-- One head of the attention: lane `d` of the average of the values under the softmax of the logits. -/
def head (q : Fin 256 → EReal) (k v : Fin 256 → Fin 256 → EReal) (d : Fin 256) : EReal :=
  ∑ m, softmax (logit q k) m * v m d

/-- The lane of 1024 that is lane `d` of head `h`. -/
def lane (h : Fin 4) (d : Fin 256) : Fin 1024 := ⟨h.val * 256 + d.val, by omega⟩

/-- The lane of the keys in the keys-and-values array. -/
def kLane (h : Fin 4) (d : Fin 256) : Fin 2048 := ⟨h.val * 256 + d.val, by omega⟩

/-- The lane of the values in the keys-and-values array. -/
def vLane (h : Fin 4) (d : Fin 256) : Fin 2048 := ⟨1024 + (h.val * 256 + d.val), by omega⟩

/-- The attention's output row: column `c` is lane `c % 256` of head `c / 256`. -/
def attn (q : Fin 1024 → EReal) (kv : Fin 256 → Fin 2048 → EReal) (c : Fin 1024) : EReal :=
  head (fun d => q (lane ⟨c.val / 256, by omega⟩ d)) (fun m d => kv m (kLane ⟨c.val / 256, by omega⟩ d))
    (fun m d => kv m (vLane ⟨c.val / 256, by omega⟩ d)) ⟨c.val % 256, by omega⟩

/-- Lane `d` of head `h` of the attention's output row. -/
theorem attn_lane (q : Fin 1024 → EReal) (kv : Fin 256 → Fin 2048 → EReal) (c : Fin 1024) (h : Fin 4) (d : Fin 256)
    (hc : c.val = h.val * 256 + d.val) :
    attn q kv c = head (fun d => q (lane h d)) (fun m d => kv m (kLane h d)) (fun m d => kv m (vLane h d)) d := by
  have h1 : (⟨c.val / 256, by omega⟩ : Fin 4) = h := Fin.ext (by show c.val / 256 = h.val; omega)
  have h2 : (⟨c.val % 256, by omega⟩ : Fin 256) = d := Fin.ext (by show c.val % 256 = d.val; omega)
  unfold attn
  rw [h1, h2]

/-- The layer norm of a row of 1024. -/
def lnRow (z g b : Fin 1024 → EReal) (c : Fin 1024) : EReal :=
  let mu := Ideal.div (∑ k, z k) (Ideal.ofBits .f32 0x44800000#32)
  let var := Ideal.div (∑ k, (z k - mu) * (z k - mu)) (Ideal.ofBits .f32 0x44800000#32)
  (z c - mu) * Ideal.rsqrt (var + Ideal.ofBits .f32 0x3727C5AC#32) * g c + b c

/-- The residual sum of a row: alpha x + (attention of x w_q) w_o. -/
def zRow (x : Fin 1024 → EReal) (kv : Fin 256 → Fin 2048 → EReal) (wq wo : Fin 1024 → Fin 1024 → EReal) (c : Fin 1024) : EReal :=
  Ideal.ofBits .f32 0x3FB504F3#32 * x c + rowMul 1024 (attn (rowMul 1024 x wq) kv) wo c

/-- The row the layer computes at position `i` of the flattened batch. -/
def xRow (x : (⟨3, ![2, 8192, 1024]⟩ : Shape).Idx → EReal) (kv : (⟨3, ![2, 256, 2048]⟩ : Shape).Idx → EReal)
    (wq wo : (⟨2, ![1024, 1024]⟩ : Shape).Idx → EReal) (g b : (⟨1, ![1024]⟩ : Shape).Idx → EReal) (i : Fin 16384) (c : Fin 1024) : EReal :=
  lnRow (zRow (fun k => x (ix3 ⟨i.val / 8192, by omega⟩ ⟨i.val % 8192, by omega⟩ k)) (fun m k => kv (ix3 ⟨i.val / 8192, by omega⟩ m k))
    (fun k c => wq (ix2 k c)) (fun k c => wo (ix2 k c))) (fun c => g (ix1 c)) (fun c => b (ix1 c)) c

/-- A maximum that starts from `a` is not changed by taking the maximum with `a` again. -/
theorem max_fold (a : EReal) (l : Fin 256 → EReal) : max a (Finset.univ.fold max a l) = Finset.univ.fold max a l :=
  max_eq_right (Finset.le_fold_max a |>.mpr (Or.inl le_rfl))

end Cert.X

end
-- ==== Proof.XBlock.lean ====
/-
  One block of the cross attention kernel: the printed body applied to 512 rows of x, the keys and values of one batch, the
  two weight matrices and the norm's scale and shift. The four heads are the same expression over other lanes, so one head
  is named (`headVec`) and read once; then the residual sum and the layer norm are read at an entry.
-/
module

public import proofs.«01_k».proof.Proof.Gen.Kernel2Ideal.Skeleton
public import proofs.«01_k».proof.Proof.XModel

@[expose] public section

set_option maxRecDepth 16384

noncomputable section

namespace Cert.X

open Idealize.ShloMosaic Idealize.SL.Sem Cert.Kernel2Ideal Cert.Kernel2Ideal.Gen

/-- One head as the kernel writes it, over its 256 lanes of the queries, keys and values. -/
def headVec (q : FVec Ideal S512x256 .f32) (k v : FVec Ideal S256x256 .f32) : FVec Ideal S512x256 .f32 :=
  let l := mulf (matmul dot_S512x256_S256x256_S512x256_1_1_0_0_n_n none (truncf .bf16 q bitsLt_bf16_f32) (truncf .bf16 k bitsLt_bf16_f32) (constant S512x256 .f32 0x00000000#32)) (broadcast S512x256 (Scalar.ofBits .f32 0x3D800000#32))
  let e := exp (subf l (broadcastTo S512x256 (shapeCast S512x1 (multiReduction .maximumf [1] S512 l 0xFF800000#32 reduces_S512x256_S512 (.inl rfl) rfl) shapeCasts_S512_S512x1) broadcasts_S512x1_S512x256))
  let p := divf e (broadcastTo S512x256 (shapeCast S512x1 (multiReduction .add [1] S512 e 0x00000000#32 reduces_S512x256_S512 (.inl rfl) rfl) shapeCasts_S512_S512x1) broadcasts_S512x1_S512x256)
  matmul dot_S512x256_S256x256_S512x256_1_0_0_1_n_n none (truncf .bf16 p bitsLt_bf16_f32) (truncf .bf16 v bitsLt_bf16_f32) (constant S512x256 .f32 0x00000000#32)

theorem headVec_apply (q : FVec Ideal S512x256 .f32) (k v : FVec Ideal S256x256 .f32) (r : Fin 512) (d : Fin 256) :
    headVec q k v (ix2 r d) = head (fun d => q (ix2 r d)) (fun m d => k (ix2 m d)) (fun m d => v (ix2 m d)) d := by
  pointwise [headVec, head, softmax, logit]

theorem pay3_apply (x : Vec Ideal S512x1024 .f32) (w : Vec Ideal S1024x1024 .bf16) (r : Fin 512) (c : Fin 1024) :
    k0_pay3 x w (ix2 r c) = rowMul 1024 (fun k => x (ix2 r k)) (fun k c => w (ix2 k c)) c := by
  pointwise [k0_pay3, k0_pay2, rowMul]

theorem attn_eq (x : Vec Ideal S512x1024 .f32) (w : Vec Ideal S1024x1024 .bf16) (kv : Vec Ideal S256x2048 .f32) :
    k0_pay8 (k0_pay3 x w) (k0_pay4 kv) (k0_pay5 x w kv) (k0_pay6 kv) (k0_pay7 x w kv)
     = truncf .bf16 (concatenate S512x1024 1 [
          ⟨S512x256, headVec (extractStridedSlice S512x256 ![0, 0] (k0_pay3 x w) slices_S512x1024_o0_0_S512x256) (extractStridedSlice S256x256 ![0, 0] kv slices_S256x2048_o0_0_S256x256) (extractStridedSlice S256x256 ![0, 1024] kv slices_S256x2048_o0_1024_S256x256)⟩,
          ⟨S512x256, headVec (extractStridedSlice S512x256 ![0, 256] (k0_pay3 x w) slices_S512x1024_o0_256_S512x256) (extractStridedSlice S256x256 ![0, 256] kv slices_S256x2048_o0_256_S256x256) (extractStridedSlice S256x256 ![0, 1280] kv slices_S256x2048_o0_1280_S256x256)⟩,
          ⟨S512x256, headVec (extractStridedSlice S512x256 ![0, 512] (k0_pay3 x w) slices_S512x1024_o0_512_S512x256) (extractStridedSlice S256x256 ![0, 512] kv slices_S256x2048_o0_512_S256x256) (extractStridedSlice S256x256 ![0, 1536] kv slices_S256x2048_o0_1536_S256x256)⟩,
          ⟨S512x256, headVec (extractStridedSlice S512x256 ![0, 768] (k0_pay3 x w) slices_S512x1024_o0_768_S512x256) (extractStridedSlice S256x256 ![0, 768] kv slices_S256x2048_o0_768_S256x256) (extractStridedSlice S256x256 ![0, 1792] kv slices_S256x2048_o0_1792_S256x256)⟩]
          concatenates_S512x256_S512x256_S512x256_S512x256_S512x1024_d1) bitsLt_bf16_f32 := by
  have e : k0_pay4 (F := Ideal) kv = kv := shapeCast_self _ _
  unfold k0_pay8 k0_pay5 k0_pay6 k0_pay7
  rw [e]
  rfl

/-- The attention's rows: the four heads laid side by side. -/
theorem attn_apply (x : Vec Ideal S512x1024 .f32) (w : Vec Ideal S1024x1024 .bf16) (kv : Vec Ideal S256x2048 .f32)
    (r : Fin 512) (c : Fin 1024) :
    k0_pay8 (k0_pay3 x w) (k0_pay4 kv) (k0_pay5 x w kv) (k0_pay6 kv) (k0_pay7 x w kv) (ix2 r c)
      = attn (rowMul 1024 (fun k => x (ix2 r k)) (fun k c => w (ix2 k c))) (fun m c => kv (ix2 m c)) c := by
  rw [attn_eq]
  have hq : rowMul 1024 (fun k => x (ix2 r k)) (fun k c => w (ix2 k c)) = fun c => k0_pay3 x w (ix2 r c) :=
    funext fun c => (pay3_apply x w r c).symm
  rw [hq]
  generalize k0_pay3 x w = q
  have hl (h : Fin 4) (d : Fin 256) (hc : c.val = h.val * 256 + d.val) := attn_lane (fun c => q (ix2 r c)) (fun m c => kv (ix2 m c)) c h d hc
  pointwise [headVec_apply]
  by_cases h0 : c.val < 256
  · rw [dif_pos h0, hl ⟨0, by omega⟩ ⟨c.val, h0⟩ (by show _ = 0 * 256 + c.val; omega)]
    have e (d : Fin 256) : lane ⟨0, by omega⟩ d = ⟨d.val, by omega⟩ := Fin.ext (by show 0 * 256 + d.val = d.val; omega)
    have e' (d : Fin 256) : kLane ⟨0, by omega⟩ d = ⟨d.val, by omega⟩ := Fin.ext (by show 0 * 256 + d.val = d.val; omega)
    have e'' (d : Fin 256) : vLane ⟨0, by omega⟩ d = ⟨1024 + d.val, by omega⟩ :=
      Fin.ext (by show 1024 + (0 * 256 + d.val) = 1024 + d.val; omega)
    simp only [e, e', e'']
  rw [dif_neg h0]
  by_cases h1 : c.val - 256 < 256
  · rw [dif_pos h1, hl ⟨1, by omega⟩ ⟨c.val - 256, h1⟩ (by show _ = 1 * 256 + (c.val - 256); omega)]
    have e'' (d : Fin 256) : vLane ⟨1, by omega⟩ d = ⟨1280 + d.val, by omega⟩ :=
      Fin.ext (by show 1024 + (1 * 256 + d.val) = 1280 + d.val; omega)
    simp only [e'']
    rfl
  rw [dif_neg h1]
  by_cases h2 : c.val - 256 - 256 < 256
  · rw [dif_pos h2, hl ⟨2, by omega⟩ ⟨c.val - 256 - 256, h2⟩ (by show _ = 2 * 256 + (c.val - 256 - 256); omega)]
    have e'' (d : Fin 256) : vLane ⟨2, by omega⟩ d = ⟨1536 + d.val, by omega⟩ :=
      Fin.ext (by show 1024 + (2 * 256 + d.val) = 1536 + d.val; omega)
    simp only [e'']
    rfl
  · rw [dif_neg h2, hl ⟨3, by omega⟩ ⟨c.val - 256 - 256 - 256, by omega⟩ (by show _ = 3 * 256 + (c.val - 256 - 256 - 256); omega)]
    have e'' (d : Fin 256) : vLane ⟨3, by omega⟩ d = ⟨1792 + d.val, by omega⟩ :=
      Fin.ext (by show 1024 + (3 * 256 + d.val) = 1792 + d.val; omega)
    simp only [e'']
    rfl

/-- The layer norm of the residual sum. -/
theorem pay1_apply (x : FVec Ideal S512x1024 .f32) (o : FVec Ideal S512x1024 .bf16) (wo : Vec Ideal S1024x1024 .bf16)
    (g b : Vec Ideal S1x1024 .f32) (r : Fin 512) (c : Fin 1024) :
    k0_pay1 x o wo g b (ix2 r c) = lnRow (fun c => Ideal.ofBits .f32 0x3FB504F3#32 * x (ix2 r c)
        + rowMul 1024 (fun k => o (ix2 r k)) (fun k c => wo (ix2 k c)) c) (fun c => g (ix2 0 c)) (fun c => b (ix2 0 c)) c := by
  pointwise [k0_pay1, lnRow, rowMul]

end Cert.X

end
-- ==== Proof.XKernel.lean ====
/-
  From blocks to the whole result array of the cross attention kernel: where the block of each window lies in its argument
  (`blk0` to `blk5`), and that the 32 output blocks together hold the row `xRow` of the model at every position.
-/
module

public import proofs.«01_k».proof.Proof.Gen.Kernel2Ideal.Value
public import proofs.«01_k».proof.Proof.XBlock
public import Idealize.ShloMosaic.Lib.Pipeline.ValueKit

@[expose] public section

set_option maxRecDepth 16384

noncomputable section

namespace Cert.X

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

theorem idx : ∀ t : Fin cfg0.N, win0_0.index t = ![t.val, 0] ∧ win0_1.index t = ![t.val / 16, 0] ∧ win0_2.index t = ![0, 0]
    ∧ win0_3.index t = ![0, 0] ∧ win0_4.index t = ![0, 0] ∧ win0_5.index t = ![0, 0] ∧ win0_6.index t = ![t.val, 0] ∧ t.val < 32 :=
  (by decide +kernel : ∀ t : Fin grid0.N, _)

theorem out_apply (x0 : Vec Ideal S512x1024 .f32) (x1 : Vec Ideal S256x2048 .f32) (x2 x3 : Vec Ideal S1024x1024 .bf16)
    (x4 x5 : Vec Ideal S1x1024 .f32) (r : Fin 512) (c : Fin 1024) :
    out0_6 x0 x1 x2 x3 x4 x5 (ix2 r c) = lnRow (zRow (fun k => x0 (ix2 r k)) (fun m k => x1 (ix2 m k))
      (fun k c => x2 (ix2 k c)) (fun k c => x3 (ix2 k c))) (fun c => x4 (ix2 0 c)) (fun c => x5 (ix2 0 c)) c := by
  frame_out
  rw [pay1_apply]
  simp only [attn_apply]
  have e : k0_pay2 (F := Ideal) x0 = x0 := shapeCast_self _ _
  rw [e]
  rfl

theorem blk0 (c : Dev nD) (t : Fin cfg0.N) (r : Fin 512) (k : Fin 1024) (b : Fin 2) (l : Fin 8192) (hb : t.val * 512 + r.val = b.val * 8192 + l.val) :
    (iblk m c 0 t : Vec Ideal S512x1024 .f32) (ix2 r k) = m ((c : Thread nD τ).loc main_arg0) (ix3 b l k) := by
  blk_ext! [iblk, V, idx t]

theorem blk1 (c : Dev nD) (t : Fin cfg0.N) (r : Fin 256) (k : Fin 2048) (b : Fin 2) (hb : b.val = t.val / 16) :
    (iblk m c 1 t : Vec Ideal S256x2048 .f32) (ix2 r k) = m ((c : Thread nD τ).loc main_arg1) (ix3 b r k) := by
  blk_ext! [iblk, V, idx t]

theorem blk2 (c : Dev nD) (t : Fin cfg0.N) (r : Fin 1024) (k : Fin 1024) :
    (iblk m c 2 t : Vec Ideal S1024x1024 .bf16) (ix2 r k) = m ((c : Thread nD τ).loc main_arg2) (ix2 r k) := by
  blk_ext! [iblk, V, idx t]

theorem blk3 (c : Dev nD) (t : Fin cfg0.N) (r : Fin 1024) (k : Fin 1024) :
    (iblk m c 3 t : Vec Ideal S1024x1024 .bf16) (ix2 r k) = m ((c : Thread nD τ).loc main_arg3) (ix2 r k) := by
  blk_ext! [iblk, V, idx t]

theorem blk4 (c : Dev nD) (t : Fin cfg0.N) (k : Fin 1024) :
    (iblk m c 4 t : Vec Ideal S1x1024 .f32) (ix2 0 k) = m ((c : Thread nD τ).loc main_arg4) (ix1 k) := by
  blk_ext! [iblk, V, idx t]

theorem blk5 (c : Dev nD) (t : Fin cfg0.N) (k : Fin 1024) :
    (iblk m c 5 t : Vec Ideal S1x1024 .f32) (ix2 0 k) = m ((c : Thread nD τ).loc main_arg5) (ix1 k) := by
  blk_ext! [iblk, V, idx t]

theorem final (c : Dev nD) : (dats m 0 c).arrAt 6 (cfgs 0).N = fun i => xRow (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1) := by
  refine (dats m 0 c).arrAt_eq_of_covers 6 _ (by decide +kernel) fun t _ y => ?_
  blk_simp
  rw [after0_6]
  idx_vars y
  rw [out_apply]
  have ht := (idx t).2.2.2.2.2.2.2
  have e : ((View.whole main_v6).slice (win0_6.rect t)).emb (ix2 y0 y1) = ix2 ⟨t.val * 512 + y0.val, by omega⟩ y1 := by
    blk_ext [idx t]
  rw [e]
  have h0 : ∀ k : Fin 1024, _ := fun k => blk0 m c t y0 k ⟨(t.val * 512 + y0.val) / 8192, by omega⟩ ⟨(t.val * 512 + y0.val) % 8192, by omega⟩ (by show _ = (t.val * 512 + y0.val) / 8192 * 8192 + (t.val * 512 + y0.val) % 8192; omega)
  have h1 : ∀ (r : Fin 256) (k : Fin 2048), _ := fun r k => blk1 m c t r k ⟨(t.val * 512 + y0.val) / 8192, by omega⟩ (by show (t.val * 512 + y0.val) / 8192 = _; omega)
  simp only [h0, h1, blk2, blk3, blk4, blk5]
  rfl

end Cert.X

end
-- ==== Proof.XReference.lean ====
/-
  The plain cross attention computes, at row `i` of the flattened batch and column `c`, the row `xRow` of the model. The
  printed program is read one stage at a time: the query of a head, its logits over the 256 memories, their maximum, the
  exponentials, the quotients, the averaged values, the residual sum and its layer norm.
-/
module

public import proofs.«01_k».proof.Proof.Gen.Reference2Ideal.Read
public import proofs.«01_k».proof.Proof.XModel

@[expose] public section

set_option maxRecDepth 16384

noncomputable section

namespace Cert.X.Ref

open Idealize.ShloMosaic Idealize.ShloMosaic.TcCoe Idealize.SL.Sem Cert.Reference2Ideal Cert.Reference2Ideal.Gen Cert.Reference2Ideal.Read

variable (x : FVec Ideal S2x8192x1024 .f32) (kv : FVec Ideal S2x256x2048 .f32) (wq wo : FVec Ideal S1024x1024 .f32)
    (g b : FVec Ideal S1024 .f32)

/-- The query row of a position, cut into heads. -/
theorem query (i : Fin 2) (l : Fin 8192) (h : Fin 4) (d : Fin 256) : val_main_v1 (F := Ideal) x wq (ix4 i l h d)
    = rowMul 1024 (fun k => x (ix3 i l k)) (fun k c => wq (ix2 k c)) (lane h d) := by
  pointwise [val_main_v1, val_main_v0, rowMul, lane]

/-- The scaled product of a query with a memory. -/
theorem logits (i : Fin 2) (h : Fin 4) (l : Fin 8192) (m : Fin 256) : val_main_v8 (F := Ideal) x kv wq (ix4 i h l m)
    = logit (fun d => rowMul 1024 (fun k => x (ix3 i l k)) (fun k c => wq (ix2 k c)) (lane h d)) (fun m d => kv (ix3 i m (kLane h d))) m := by
  pointwise [val_main_v8, val_main_v7, val_main_cst, val_main_v6, val_main_v4, val_main_v2, query, logit, kLane]

/-- A maximum over the memories, read as a fold. -/
theorem rowMax (y : FVec Ideal S2x4x8192x256 .f32) (i : Fin 2) (h : Fin 4) (l : Fin 8192) :
    Host.reduce (FloatOps.maximumf (F := Ideal) (φ := .f32)) y (constant (F := Ideal) S_ .f32 0xFF800000#32) reducesTo_S2x4x8192x256_S2x4x8192_d3 h_S_ (ix3 i h l)
    = Finset.univ.fold max (Ideal.ofBits .f32 0xFF800000#32) fun m => y (ix4 i h l m) := by
  pointwise []
/-- The maximum the softmax subtracts. -/
theorem maxes (i : Fin 2) (h : Fin 4) (l : Fin 8192) : val_main_v11 (F := Ideal) x kv wq (ix3 i h l)
    = Finset.univ.fold max (Ideal.ofBits .f32 0xFF800000#32) fun m => val_main_v8 (F := Ideal) x kv wq (ix4 i h l m) := by
  rw [val_main_v11_apply, val_main_v10_apply, val_main_v9]
  generalize val_main_v8 (F := Ideal) x kv wq = y
  rw [val_main_cst_1_apply]
  refine (congrArg (max (Ideal.ofBits .f32 0xFF800000#32)) (rowMax y i h l)).trans ?_
  exact max_fold _ _
/-- The exponential of a logit less the maximum. -/
theorem exps (i : Fin 2) (h : Fin 4) (l : Fin 8192) (m : Fin 256) : val_main_v15 (F := Ideal) x kv wq (ix4 i h l m)
    = Ideal.exp (val_main_v8 (F := Ideal) x kv wq (ix4 i h l m) - val_main_v11 (F := Ideal) x kv wq (ix3 i h l)) := by
  unfold val_main_v15 val_main_v14 val_main_v13 val_main_v12
  generalize val_main_v8 (F := Ideal) x kv wq = y
  generalize val_main_v11 (F := Ideal) x kv wq = z
  pointwise []

/-- The exponential over the row sum. -/
theorem quots (i : Fin 2) (h : Fin 4) (l : Fin 8192) (m : Fin 256) : val_main_v19 (F := Ideal) x kv wq (ix4 i h l m)
    = Ideal.div (val_main_v15 (F := Ideal) x kv wq (ix4 i h l m)) (∑ k, val_main_v15 (F := Ideal) x kv wq (ix4 i h l k)) := by
  unfold val_main_v19 val_main_v18 val_main_v17 val_main_v16
  generalize val_main_v15 (F := Ideal) x kv wq = y
  pointwise [val_main_cst_2]

/-- The attention weights are the softmax of the logits. -/
theorem probs (i : Fin 2) (h : Fin 4) (l : Fin 8192) (m : Fin 256) : val_main_v19 (F := Ideal) x kv wq (ix4 i h l m)
    = softmax (logit (fun d => rowMul 1024 (fun k => x (ix3 i l k)) (fun k c => wq (ix2 k c)) (lane h d)) (fun m d => kv (ix3 i m (kLane h d)))) m := by
  rw [quots]
  simp only [exps, maxes, logits]
  rfl

/-- The averaged values, heads joined again. -/
theorem out (i : Fin 2) (l : Fin 8192) (c : Fin 1024) : val_main_v22 (F := Ideal) x kv wq (ix3 i l c)
    = attn (rowMul 1024 (fun k => x (ix3 i l k)) (fun k c => wq (ix2 k c))) (fun m k => kv (ix3 i m k)) c := by
  pointwise [val_main_v22, val_main_v21, val_main_v20, val_main_v5, val_main_v3, probs, attn, head, vLane]
  refine Finset.sum_congr rfl fun m _ => ?_
  have e : c.val / 256 * 256 + c.val % 256 = c.val := by omega
  simp only [e]
  exact mul_comm _ _

/-- The residual sum before the norm. -/
theorem resid (i : Fin 2) (l : Fin 8192) (c : Fin 1024) : val_main_v26 (F := Ideal) x kv wq wo (ix3 i l c)
    = zRow (fun k => x (ix3 i l k)) (fun m k => kv (ix3 i m k)) (fun k c => wq (ix2 k c)) (fun k c => wo (ix2 k c)) c := by
  pointwise [val_main_v26, val_main_v25, val_main_v24, val_main_cst_3, val_main_v23, out, zRow, rowMul]

/-- The whole result, row by row. -/
theorem result (i : Fin 16384) (c : Fin 1024) : val_main_v51 (F := Ideal) x kv wq wo g b (ix2 i c) = xRow x kv wq wo g b i c := by
  pointwise [val_main_v51, val_main_v50, val_main_v49, val_main_v48, val_main_v47, val_main_v46, val_main_v45, val_main_v44,
    val_main_v43, val_main_v42, val_main_v41, val_main_v40, val_main_cst_8, val_main_v39, val_main_v38, val_main_v37, val_main_v36, val_main_cst_7,
    val_main_v35, val_main_v34, val_main_v33, val_main_cst_6, val_main_v32, val_main_v31, val_main_v30, val_main_v29, val_main_cst_5, val_main_v28,
    val_main_v27, val_main_cst_4, resid, xRow, lnRow]

end Cert.X.Ref

end
-- ==== Proof.XClaim.lean ====
/-
  The cross attention's value claim: the kernel's result array and the plain program's hold the same rows `xRow` of the model.
-/
module

public import proofs.«01_k».proof.Defs
public import proofs.«01_k».proof.Proof.XKernel
public import proofs.«01_k».proof.Proof.XReference

@[expose] public section

set_option maxRecDepth 16384

noncomputable section

namespace Cert.X

open Idealize.ShloMosaic Idealize.ShloMosaic.TcCoe Idealize.SL.Sem

theorem algebraic : Cert.algebraic_Kernel2Ideal_Reference2Ideal := by
  intro m ρ m' ρ' _ hagree
  refine ⟨fun c => (Cert.Kernel2Ideal.Gen.dats m 0 c).arrAt 6 (Cert.Kernel2Ideal.cfgs 0).N, Cert.Kernel2Ideal.Value.run_blocks m ρ, ?_⟩
  refine (θ_run _ _ _).mono (fun _ h c => ⟨(h c).1.trans ?_, (h c).2⟩) (Cert.Reference2Ideal.Value.run m' ρ')
  obtain ⟨h0, h1, h2, h3, h4, h5⟩ := hagree c
  refine (Cert.Reference2Ideal.Read.val_main_v51_eq m' c).trans (Eq.trans ?_ (final m c).symm)
  rw [h0, h1, h2, h3, h4, h5]
  funext i
  have e : i = ix2 (i 0) (i 1) := by funext a; match a with | ⟨0, _⟩ => rfl | ⟨1, _⟩ => rfl
  refine (congrArg _ e).trans ?_
  exact Ref.result _ _ _ _ _ _ (i 0) (i 1)

end Cert.X

end
-- ==== Proof.ProjModel.lean ====
/-
  The layer's plain projections over the extended reals: `dotCol x w c` is a row times column `c` of a matrix; `mainCol`
  says which column of the input projection each column of the kernel's main projection is.
-/
module

public import Idealize.ShloMosaic.PureOps.Ideal
public import Idealize.ShloMosaic.Lib.Pointwise

@[expose] public section

noncomputable section

namespace Cert.Proj

open Idealize.ShloMosaic

/-- A row of 1024 times one column of a matrix. -/
def dotCol (x w : Fin 1024 → EReal) : EReal := ∑ k, x k * w k

/-- Column `c` of the main projection: the convolution's input, the sparse attention's queries, the recurrence's three
    inputs, and last the compressed keys, which lie third among the columns of the input projection. -/
def mainCol (c : Fin 1920) : Fin 2252 :=
  if h : c.val < 1024 then ⟨c.val, by omega⟩
  else if h' : c.val < 1792 then ⟨c.val + 452, by omega⟩
  else ⟨c.val - 768, by omega⟩

theorem mainCol_val (c : Fin 1920) :
    (mainCol c).val = if c.val < 1024 then c.val else if c.val < 1792 then c.val + 452 else c.val - 768 := by
  unfold mainCol
  split_ifs <;> rfl

end Cert.Proj

end
-- ==== Proof.ProjMain.lean ====
/-
  The main projection: the kernel multiplies 512 rows at a time by the columns of the input projection put in the kernel's
  order; the plain program multiplies by the whole matrix and puts the columns of the product in that order. Both hold the
  product of row `i` with column `mainCol c`.
-/
module

public import proofs.«01_k».proof.Defs
public import proofs.«01_k».proof.Proof.Gen.Kernel3Ideal.Value
public import proofs.«01_k».proof.Proof.Gen.Reference3Ideal.Read
public import proofs.«01_k».proof.Proof.ProjModel
public import Idealize.ShloMosaic.Lib.Pipeline.ValueKit

@[expose] public section

set_option maxRecDepth 16384

noncomputable section

namespace Cert.Proj.Main

open Idealize.ShloMosaic Idealize.ShloMosaic.TcCoe Idealize.SL.Sem

/-- The array both programs end with. -/
def prod (x : (⟨3, ![2, 8192, 1024]⟩ : Shape).Idx → EReal) (w : (⟨2, ![1024, 2252]⟩ : Shape).Idx → EReal) (i : Fin 16384) (c : Fin 1920) : EReal :=
  dotCol (fun k => x (ix3 ⟨i.val / 8192, by omega⟩ ⟨i.val % 8192, by omega⟩ k)) (fun k => w (ix2 k (mainCol c)))

/-- Reading column `c` group by group is reading column `mainCol c`. -/
theorem byGroup {α : Type} (f : Fin 2252 → α) (c : Fin 1920) :
    (if h : c.val < 512 then f ⟨c.val, by omega⟩
      else if h : c.val - 512 < 512 then f ⟨512 + (c.val - 512), by omega⟩
      else if h : c.val - 512 - 512 < 256 then f ⟨1476 + (c.val - 512 - 512), by omega⟩
      else if h : c.val - 512 - 512 - 256 < 256 then f ⟨1732 + (c.val - 512 - 512 - 256), by omega⟩
      else if h : c.val - 512 - 512 - 256 - 256 < 256 then f ⟨1988 + (c.val - 512 - 512 - 256 - 256), by omega⟩
      else f ⟨1024 + (c.val - 512 - 512 - 256 - 256 - 256), by omega⟩) = f (mainCol c) := by
  have e : ∀ a b : Fin 2252, a.val = b.val → f a = f b := fun a b h => by rw [Fin.ext h]
  have hm := mainCol_val c
  by_cases h1 : c.val < 512
  · rw [if_pos (by omega)] at hm
    rw [dif_pos h1]
    exact e _ _ (by show c.val = _; omega)
  rw [dif_neg h1]
  by_cases h2 : c.val - 512 < 512
  · rw [if_pos (by omega)] at hm
    rw [dif_pos h2]
    exact e _ _ (by show 512 + (c.val - 512) = _; omega)
  rw [dif_neg h2]
  rw [if_neg (by omega)] at hm
  by_cases h3 : c.val - 512 - 512 < 256
  · rw [if_pos (by omega)] at hm
    rw [dif_pos h3]
    exact e _ _ (by show 1476 + (c.val - 512 - 512) = _; omega)
  rw [dif_neg h3]
  by_cases h4 : c.val - 512 - 512 - 256 < 256
  · rw [if_pos (by omega)] at hm
    rw [dif_pos h4]
    exact e _ _ (by show 1732 + (c.val - 512 - 512 - 256) = _; omega)
  rw [dif_neg h4]
  by_cases h5 : c.val - 512 - 512 - 256 - 256 < 256
  · rw [if_pos (by omega)] at hm
    rw [dif_pos h5]
    exact e _ _ (by show 1988 + (c.val - 512 - 512 - 256 - 256) = _; omega)
  rw [dif_neg h5]
  rw [if_neg (by omega)] at hm
  exact e _ _ (by show 1024 + (c.val - 512 - 512 - 256 - 256 - 256) = _; omega)

section Kernel
open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 32 :=
  (by decide +kernel : ∀ t : Fin grid0.N, _)

theorem out_apply (x0 : Vec Ideal S512x1024 .f32) (x1 : Vec Ideal S1024x1920 .bf16) (r : Fin 512) (c : Fin 1920) :
    out0_2 x0 x1 (ix2 r c) = dotCol (fun k => x0 (ix2 r k)) (fun k => x1 (ix2 k c)) := by
  frame_out
  pointwise [k0_pay1, dotCol]

theorem blk0 (c : Dev nD) (t : Fin cfg0.N) (r : Fin 512) (k : Fin 1024) (b : Fin 2) (l : Fin 8192) (hb : t.val * 512 + r.val = b.val * 8192 + l.val) :
    (iblk m c 0 t : Vec Ideal S512x1024 .f32) (ix2 r k) = m ((c : Thread nD τ).loc main_arg0) (ix3 b l k) := by
  blk_ext! [iblk, V, idx t]

/-- The six groups of columns joined, as the host code joins them. -/
def packed (w : FVec Ideal S1024x2252 .f32) : FVec Ideal S1024x1920 .f32 :=
  concatenate S1024x1920 1 [⟨S1024x512, (extractStridedSlice S1024x512 ![0, 0] w slices_S1024x2252_S1024x512_0_0 : FVec Ideal S1024x512 .f32)⟩,
    ⟨S1024x512, (extractStridedSlice S1024x512 ![0, 512] w slices_S1024x2252_S1024x512_0_512 : FVec Ideal S1024x512 .f32)⟩,
    ⟨S1024x256, (extractStridedSlice S1024x256 ![0, 1476] w slices_S1024x2252_S1024x256_0_1476 : FVec Ideal S1024x256 .f32)⟩,
    ⟨S1024x256, (extractStridedSlice S1024x256 ![0, 1732] w slices_S1024x2252_S1024x256_0_1732 : FVec Ideal S1024x256 .f32)⟩,
    ⟨S1024x256, (extractStridedSlice S1024x256 ![0, 1988] w slices_S1024x2252_S1024x256_0_1988 : FVec Ideal S1024x256 .f32)⟩,
    ⟨S1024x128, (extractStridedSlice S1024x128 ![0, 1024] w slices_S1024x2252_S1024x128_0_1024 : FVec Ideal S1024x128 .f32)⟩]
    concatenates_S1024x512_S1024x512_S1024x256_S1024x256_S1024x256_S1024x128_S1024x1920_d1

theorem packed_apply (w : FVec Ideal S1024x2252 .f32) (k : Fin 1024) (j : Fin 1920) :
    packed w (ix2 k j) = w (ix2 k (mainCol j)) := by
  pointwise [packed]
  exact byGroup (fun j => w (ix2 k j)) j

theorem host1 (c : Dev nD) : (V m c main_v17 : Vec Ideal S1024x1920 .bf16) = packed (m ((c : Thread nD τ).loc main_arg1)) := by
  show StableHlo.after hostOps0 (fun b => m (c, b)) main_v17 = _
  after_results <;> rfl

theorem blk1 (c : Dev nD) (t : Fin cfg0.N) (k : Fin 1024) (j : Fin 1920) :
    (iblk m c 1 t : Vec Ideal S1024x1920 .bf16) (ix2 k j) = m ((c : Thread nD τ).loc main_arg1) (ix2 k (mainCol j)) := by
  have h : (iblk m c 1 t : Vec Ideal S1024x1920 .bf16) (ix2 k j) = (V m c main_v17 : Vec Ideal S1024x1920 .bf16) (ix2 k j) := by
    blk_ext [iblk, idx t]
  rw [h, host1, packed_apply]

theorem final (c : Dev nD) : (dats m 0 c).arrAt 2 (cfgs 0).N = fun i => prod (m ((c : Thread nD τ).loc main_arg0))
    (m ((c : Thread nD τ).loc main_arg1)) (i 0) (i 1) := by
  refine (dats m 0 c).arrAt_eq_of_covers 2 _ (by decide +kernel) fun t _ y => ?_
  blk_simp
  rw [after0_2]
  idx_vars y
  rw [out_apply]
  have ht := (idx t).2.2.2
  have e : ((View.whole main_v18).slice (win0_2.rect t)).emb (ix2 y0 y1) = ix2 ⟨t.val * 512 + y0.val, by omega⟩ y1 := by
    blk_ext [idx t]
  rw [e]
  have h0 : ∀ k : Fin 1024, _ := fun k => blk0 m c t y0 k ⟨(t.val * 512 + y0.val) / 8192, by omega⟩ ⟨(t.val * 512 + y0.val) % 8192, by omega⟩ (by show _ = (t.val * 512 + y0.val) / 8192 * 8192 + (t.val * 512 + y0.val) % 8192; omega)
  simp only [h0, blk1]
  rfl
end Kernel

section Ref
open Cert.Reference3Ideal Cert.Reference3Ideal.Gen Cert.Reference3Ideal.Read

theorem whole (x : FVec Ideal S2x8192x1024 .f32) (w : FVec Ideal S1024x2252 .f32) (b : Fin 2) (l : Fin 8192) (j : Fin 2252) :
    val_main_v0 (F := Ideal) x w (ix3 b l j) = dotCol (fun k => x (ix3 b l k)) (fun k => w (ix2 k j)) := by
  pointwise [val_main_v0, dotCol]

theorem result (x : FVec Ideal S2x8192x1024 .f32) (w : FVec Ideal S1024x2252 .f32) (i : Fin 16384) (c : Fin 1920) :
    val_main_v13 (F := Ideal) x w (ix2 i c) = prod x w i c := by
  have h := whole x w
  unfold val_main_v13 val_main_v12 val_main_v1 val_main_v2 val_main_v3 val_main_v7 val_main_v8 val_main_v9
  generalize val_main_v0 (F := Ideal) x w = y at h ⊢
  pointwise [prod, h]
  exact byGroup (fun j => dotCol (fun k => x (ix3 ⟨i.val / 8192, by omega⟩ ⟨i.val % 8192, by omega⟩ k)) fun k => w (ix2 k j)) c
end Ref

theorem algebraic : Cert.algebraic_Kernel3Ideal_Reference3Ideal := by
  intro m ρ m' ρ' _ hagree
  refine ⟨fun c => (Cert.Kernel3Ideal.Gen.dats m 0 c).arrAt 2 (Cert.Kernel3Ideal.cfgs 0).N, Cert.Kernel3Ideal.Value.run_blocks m ρ, ?_⟩
  refine (θ_run _ _ _).mono (fun _ h c => ⟨(h c).1.trans ?_, (h c).2⟩) (Cert.Reference3Ideal.Value.run m' ρ')
  obtain ⟨h0, h1⟩ := hagree c
  refine (Cert.Reference3Ideal.Read.val_main_v13_eq (F := Ideal) _ _).trans (Eq.trans ?_ (final m c).symm)
  rw [h0, h1]
  funext i
  have e : i = ix2 (i 0) (i 1) := by funext a; match a with | ⟨0, _⟩ => rfl | ⟨1, _⟩ => rfl
  refine (congrArg _ e).trans ?_
  exact result _ _ (i 0) (i 1)

end Cert.Proj.Main

end
-- ==== Proof.MixOut.lean ====
/-
  The mixers' output projection: the three groups' rows, side by side, times one matrix, added to alpha times the stream
  and normed. The kernel multiplies each group by its own rows of the matrix; the sum over the 1024 joined lanes is the sum
  of the three sums.
-/
module

public import proofs.«01_k».proof.Defs
public import proofs.«01_k».proof.Proof.Gen.Kernel4Ideal.Value
public import proofs.«01_k».proof.Proof.Gen.Reference4Ideal.Read
public import proofs.«01_k».proof.Proof.XModel
public import Idealize.ShloMosaic.Lib.Pipeline.ValueKit

@[expose] public section

set_option maxRecDepth 16384

noncomputable section

namespace Cert.Mix

open Idealize.ShloMosaic Idealize.ShloMosaic.TcCoe Idealize.SL.Sem

/-- Lane `c` of the three groups' rows times their rows of the matrix. -/
def groups (ya : Fin 256 → EReal) (yb : Fin 512 → EReal) (yc : Fin 256 → EReal) (w : Fin 1024 → EReal) : EReal :=
  (∑ k : Fin 256, ya k * w ⟨k.val, by omega⟩) + (∑ k : Fin 512, yb k * w ⟨256 + k.val, by omega⟩) + ∑ k : Fin 256, yc k * w ⟨768 + k.val, by omega⟩

/-- The sum over the joined lanes is the sum of the three sums. -/
theorem groups_join (ya : Fin 256 → EReal) (yb : Fin 512 → EReal) (yc : Fin 256 → EReal) (w : Fin 1024 → EReal)
    (y : Fin 1024 → EReal) (ha : ∀ k : Fin 256, y ⟨k.val, by omega⟩ = ya k) (hb : ∀ k : Fin 512, y ⟨256 + k.val, by omega⟩ = yb k)
    (hc : ∀ k : Fin 256, y ⟨768 + k.val, by omega⟩ = yc k) : ∑ k, y k * w k = groups ya yb yc w := by
  refine (Fin.sum_univ_add (a := 768) (b := 256) fun k => y k * w k).trans ?_
  unfold groups
  refine congrArg₂ (· + ·) ((Fin.sum_univ_add (a := 256) (b := 512) fun k => y (Fin.castAdd 256 k) * w (Fin.castAdd 256 k)).trans ?_) ?_
  · exact congrArg₂ (· + ·) (Finset.sum_congr rfl fun k _ => by rw [← ha]; rfl) (Finset.sum_congr rfl fun k _ => by rw [← hb]; rfl)
  · exact Finset.sum_congr rfl fun k _ => by rw [← hc]; rfl

/-- The row both programs compute at position `i`. -/
def mixRow (ya : (⟨3, ![2, 8192, 256]⟩ : Shape).Idx → EReal) (yb : (⟨3, ![2, 8192, 512]⟩ : Shape).Idx → EReal)
    (yc : (⟨3, ![2, 8192, 256]⟩ : Shape).Idx → EReal) (x : (⟨3, ![2, 8192, 1024]⟩ : Shape).Idx → EReal)
    (w : (⟨2, ![1024, 1024]⟩ : Shape).Idx → EReal) (g b : (⟨1, ![1024]⟩ : Shape).Idx → EReal) (i : Fin 16384) (c : Fin 1024) : EReal :=
  X.lnRow (fun c => Ideal.ofBits .f32 0x3FB504F3#32 * x (ix3 ⟨i.val / 8192, by omega⟩ ⟨i.val % 8192, by omega⟩ c)
    + groups (fun k => ya (ix3 ⟨i.val / 8192, by omega⟩ ⟨i.val % 8192, by omega⟩ k)) (fun k => yb (ix3 ⟨i.val / 8192, by omega⟩ ⟨i.val % 8192, by omega⟩ k))
    (fun k => yc (ix3 ⟨i.val / 8192, by omega⟩ ⟨i.val % 8192, by omega⟩ k)) (fun k => w (ix2 k c))) (fun c => g (ix1 c)) (fun c => b (ix1 c)) c

section Kernel
open Cert.Kernel4Ideal Cert.Kernel4Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ t.val < 32 :=
  (by decide +kernel : ∀ t : Fin grid0.N, _)

theorem out_apply (x0 : Vec Ideal S512x256 .f32) (x1 : Vec Ideal S512x512 .f32) (x2 : Vec Ideal S512x256 .f32) (x3 : Vec Ideal S512x1024 .f32)
    (x4 : Vec Ideal S256x1024 .bf16) (x5 : Vec Ideal S512x1024 .bf16) (x6 : Vec Ideal S256x1024 .bf16)
    (x7 x8 : Vec Ideal S1x1024 .f32) (r : Fin 512) (c : Fin 1024) :
    out0_9 x0 x1 x2 x3 x4 x5 x6 x7 x8 (ix2 r c) = X.lnRow (fun c => Ideal.ofBits .f32 0x3FB504F3#32 * x3 (ix2 r c)
      + ((∑ k, x0 (ix2 r k) * x4 (ix2 k c)) + (∑ k, x1 (ix2 r k) * x5 (ix2 k c)) + ∑ k, x2 (ix2 r k) * x6 (ix2 k c)))
      (fun c => x7 (ix2 0 c)) (fun c => x8 (ix2 0 c)) c := by
  frame_out
  pointwise [k0_pay1, k0_pay2, k0_pay3, k0_pay4, X.lnRow]

theorem blk0 (c : Dev nD) (t : Fin cfg0.N) (r : Fin 512) (k : Fin 256) (b : Fin 2) (l : Fin 8192) (hb : t.val * 512 + r.val = b.val * 8192 + l.val) :
    (iblk m c 0 t : Vec Ideal S512x256 .f32) (ix2 r k) = m ((c : Thread nD τ).loc main_arg0) (ix3 b l k) := by
  blk_ext! [iblk, V, idx t]

theorem blk1 (c : Dev nD) (t : Fin cfg0.N) (r : Fin 512) (k : Fin 512) (b : Fin 2) (l : Fin 8192) (hb : t.val * 512 + r.val = b.val * 8192 + l.val) :
    (iblk m c 1 t : Vec Ideal S512x512 .f32) (ix2 r k) = m ((c : Thread nD τ).loc main_arg1) (ix3 b l k) := by
  blk_ext! [iblk, V, idx t]

theorem blk2 (c : Dev nD) (t : Fin cfg0.N) (r : Fin 512) (k : Fin 256) (b : Fin 2) (l : Fin 8192) (hb : t.val * 512 + r.val = b.val * 8192 + l.val) :
    (iblk m c 2 t : Vec Ideal S512x256 .f32) (ix2 r k) = m ((c : Thread nD τ).loc main_arg2) (ix3 b l k) := by
  blk_ext! [iblk, V, idx t]

theorem blk3 (c : Dev nD) (t : Fin cfg0.N) (r : Fin 512) (k : Fin 1024) (b : Fin 2) (l : Fin 8192) (hb : t.val * 512 + r.val = b.val * 8192 + l.val) :
    (iblk m c 3 t : Vec Ideal S512x1024 .f32) (ix2 r k) = m ((c : Thread nD τ).loc main_arg3) (ix3 b l k) := by
  blk_ext! [iblk, V, idx t]

theorem blk4 (c : Dev nD) (t : Fin cfg0.N) (r : Fin 256) (k : Fin 1024) :
    (iblk m c 4 t : Vec Ideal S256x1024 .bf16) (ix2 r k) = m ((c : Thread nD τ).loc main_arg4) (ix2 ⟨r.val, by omega⟩ k) := by
  blk_ext! [iblk, V, idx t]

theorem blk5 (c : Dev nD) (t : Fin cfg0.N) (r : Fin 512) (k : Fin 1024) :
    (iblk m c 5 t : Vec Ideal S512x1024 .bf16) (ix2 r k) = m ((c : Thread nD τ).loc main_arg4) (ix2 ⟨256 + r.val, by omega⟩ k) := by
  blk_ext! [iblk, V, idx t]

theorem blk6 (c : Dev nD) (t : Fin cfg0.N) (r : Fin 256) (k : Fin 1024) :
    (iblk m c 6 t : Vec Ideal S256x1024 .bf16) (ix2 r k) = m ((c : Thread nD τ).loc main_arg4) (ix2 ⟨768 + r.val, by omega⟩ k) := by
  blk_ext! [iblk, V, idx t]

theorem blk7 (c : Dev nD) (t : Fin cfg0.N) (k : Fin 1024) :
    (iblk m c 7 t : Vec Ideal S1x1024 .f32) (ix2 0 k) = m ((c : Thread nD τ).loc main_arg5) (ix1 k) := by
  blk_ext! [iblk, V, idx t]

theorem blk8 (c : Dev nD) (t : Fin cfg0.N) (k : Fin 1024) :
    (iblk m c 8 t : Vec Ideal S1x1024 .f32) (ix2 0 k) = m ((c : Thread nD τ).loc main_arg6) (ix1 k) := by
  blk_ext! [iblk, V, idx t]

theorem final (c : Dev nD) : (dats m 0 c).arrAt 9 (cfgs 0).N = fun i => mixRow (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (i 0) (i 1) := by
  refine (dats m 0 c).arrAt_eq_of_covers 9 _ (by decide +kernel) fun t _ y => ?_
  blk_simp
  rw [after0_9]
  idx_vars y
  rw [out_apply]
  have ht := (idx t).2.2.2.2.2.2.2.2.2.2
  have e : ((View.whole main_v10).slice (win0_9.rect t)).emb (ix2 y0 y1) = ix2 ⟨t.val * 512 + y0.val, by omega⟩ y1 := by
    blk_ext [idx t]
  rw [e]
  have hb : t.val * 512 + y0.val = (t.val * 512 + y0.val) / 8192 * 8192 + (t.val * 512 + y0.val) % 8192 := by omega
  have h0 : ∀ k, _ := fun k => blk0 m c t y0 k ⟨(t.val * 512 + y0.val) / 8192, by omega⟩ ⟨(t.val * 512 + y0.val) % 8192, by omega⟩ hb
  have h1 : ∀ k, _ := fun k => blk1 m c t y0 k ⟨(t.val * 512 + y0.val) / 8192, by omega⟩ ⟨(t.val * 512 + y0.val) % 8192, by omega⟩ hb
  have h2 : ∀ k, _ := fun k => blk2 m c t y0 k ⟨(t.val * 512 + y0.val) / 8192, by omega⟩ ⟨(t.val * 512 + y0.val) % 8192, by omega⟩ hb
  have h3 : ∀ k, _ := fun k => blk3 m c t y0 k ⟨(t.val * 512 + y0.val) / 8192, by omega⟩ ⟨(t.val * 512 + y0.val) % 8192, by omega⟩ hb
  simp only [h0, h1, h2, h3, blk4, blk5, blk6, blk7, blk8]
  rfl
end Kernel

section Ref
open Cert.Reference4Ideal Cert.Reference4Ideal.Gen Cert.Reference4Ideal.Read

variable (ya : FVec Ideal S2x8192x256 .f32) (yb : FVec Ideal S2x8192x512 .f32) (yc : FVec Ideal S2x8192x256 .f32)
  (x : FVec Ideal S2x8192x1024 .f32) (w : FVec Ideal S1024x1024 .f32) (g b : FVec Ideal S1024 .f32)

/-- The joined row times the matrix. -/
theorem joined (i : Fin 2) (l : Fin 8192) (c : Fin 1024) : val_main_v1 (F := Ideal) ya yb yc w (ix3 i l c)
    = groups (fun k => ya (ix3 i l k)) (fun k => yb (ix3 i l k)) (fun k => yc (ix3 i l k)) (fun k => w (ix2 k c)) := by
  have h : val_main_v1 (F := Ideal) ya yb yc w (ix3 i l c) = ∑ k, val_main_v0 (F := Ideal) ya yb yc (ix3 i l k) * w (ix2 k c) := by
    unfold val_main_v1
    generalize val_main_v0 (F := Ideal) ya yb yc = y
    pointwise []
  rw [h]
  refine groups_join _ _ _ _ (fun k => val_main_v0 (F := Ideal) ya yb yc (ix3 i l k)) ?_ ?_ ?_
  · intro k
    pointwise [val_main_v0]
  · intro k
    pointwise [val_main_v0]
  · intro k
    pointwise [val_main_v0]
    rw [dif_neg (by omega), dif_neg (by omega)]
    exact congrArg (fun j => yc (ix3 i l j)) (Fin.ext (by show 768 + k.val - 256 - 512 = k.val; omega))

/-- The residual sum before the norm. -/
theorem resid (i : Fin 2) (l : Fin 8192) (c : Fin 1024) : val_main_v4 (F := Ideal) ya yb yc x w (ix3 i l c)
    = Ideal.ofBits .f32 0x3FB504F3#32 * x (ix3 i l c)
      + groups (fun k => ya (ix3 i l k)) (fun k => yb (ix3 i l k)) (fun k => yc (ix3 i l k)) (fun k => w (ix2 k c)) := by
  pointwise [val_main_v4, val_main_v3, val_main_v2, val_main_cst, joined]

/-- The whole result. -/
theorem result (i : Fin 16384) (c : Fin 1024) : val_main_v29 (F := Ideal) ya yb yc x w g b (ix2 i c)
    = mixRow ya yb yc x w g b i c := by
  pointwise [val_main_v29, val_main_v28, val_main_v27, val_main_v26, val_main_v25, val_main_v24, val_main_v23, val_main_v22,
    val_main_v21, val_main_v20, val_main_v19, val_main_v18, val_main_cst_4, val_main_v17, val_main_v16, val_main_v15, val_main_v14,
    val_main_cst_3, val_main_v13, val_main_v12, val_main_cst_2, val_main_v11, val_main_v10, val_main_v9, val_main_v8, val_main_v7,
    val_main_cst_1, val_main_v6, val_main_v5, val_main_cst_0, resid, mixRow, X.lnRow]
end Ref

theorem algebraic : Cert.algebraic_Kernel4Ideal_Reference4Ideal := by
  intro m ρ m' ρ' _ hagree
  refine ⟨fun c => (Cert.Kernel4Ideal.Gen.dats m 0 c).arrAt 9 (Cert.Kernel4Ideal.cfgs 0).N, Cert.Kernel4Ideal.Value.run_blocks m ρ, ?_⟩
  refine (θ_run _ _ _).mono (fun _ h c => ⟨(h c).1.trans ?_, (h c).2⟩) (Cert.Reference4Ideal.Value.run m' ρ')
  obtain ⟨h0, h1, h2, h3, h4, h5, h6⟩ := hagree c
  refine (Cert.Reference4Ideal.Read.val_main_v29_eq (F := Ideal) m' c).trans (Eq.trans ?_ (final m c).symm)
  rw [h0, h1, h2, h3, h4, h5, h6]
  funext i
  have e : i = ix2 (i 0) (i 1) := by funext a; match a with | ⟨0, _⟩ => rfl | ⟨1, _⟩ => rfl
  refine (congrArg _ e).trans ?_
  exact result _ _ _ _ _ _ _ (i 0) (i 1)

end Cert.Mix

end
-- ==== Proof.ProjKV.lean ====
/-
  The keys and values of the cross attention: the memories times one matrix, 512 of its 2048 columns at a time.
-/
module

public import proofs.«01_k».proof.Defs
public import proofs.«01_k».proof.Proof.Gen.Kernel5Ideal.Value
public import proofs.«01_k».proof.Proof.Gen.Reference5Ideal.Read
public import proofs.«01_k».proof.Proof.ProjModel
public import Idealize.ShloMosaic.Lib.Pipeline.ValueKit

@[expose] public section

set_option maxRecDepth 16384

noncomputable section

namespace Cert.Proj.KV

open Idealize.ShloMosaic Idealize.ShloMosaic.TcCoe Idealize.SL.Sem

/-- The array both programs end with. -/
def prod (x : (⟨3, ![2, 256, 1024]⟩ : Shape).Idx → EReal) (w : (⟨2, ![1024, 2048]⟩ : Shape).Idx → EReal) (i : Fin 512) (c : Fin 2048) : EReal :=
  dotCol (fun k => x (ix3 ⟨i.val / 256, by omega⟩ ⟨i.val % 256, by omega⟩ k)) (fun k => w (ix2 k c))

section Kernel
open Cert.Kernel5Ideal Cert.Kernel5Ideal.Gen

variable (m : (ℓ : Loc nD τ sig) → Buf (Elt Ideal) ℓ)

theorem idx : ∀ t : Fin cfg0.N, win0_0.index t = ![0, 0] ∧ win0_1.index t = ![0, t.val] ∧ win0_2.index t = ![0, t.val] ∧ t.val < 4 :=
  (by decide +kernel : ∀ t : Fin grid0.N, _)

theorem out_apply (x0 : Vec Ideal S512x1024 .f32) (x1 : Vec Ideal S1024x512 .bf16) (r : Fin 512) (c : Fin 512) :
    out0_2 x0 x1 (ix2 r c) = dotCol (fun k => x0 (ix2 r k)) (fun k => x1 (ix2 k c)) := by
  frame_out
  pointwise [k0_pay1, dotCol]

theorem blk0 (c : Dev nD) (t : Fin cfg0.N) (r : Fin 512) (k : Fin 1024) :
    (iblk m c 0 t : Vec Ideal S512x1024 .f32) (ix2 r k) = m ((c : Thread nD τ).loc main_arg0) (ix3 ⟨r.val / 256, by omega⟩ ⟨r.val % 256, by omega⟩ k) := by
  blk_ext! [iblk, V, idx t]

theorem blk1 (c : Dev nD) (t : Fin cfg0.N) (k : Fin 1024) (j : Fin 512) (j' : Fin 2048) (hj : j'.val = t.val * 512 + j.val) :
    (iblk m c 1 t : Vec Ideal S1024x512 .bf16) (ix2 k j) = m ((c : Thread nD τ).loc main_arg1) (ix2 k j') := by
  blk_ext! [iblk, V, idx t]

theorem final (c : Dev nD) : (dats m 0 c).arrAt 2 (cfgs 0).N = fun i => prod (m ((c : Thread nD τ).loc main_arg0))
    (m ((c : Thread nD τ).loc main_arg1)) (i 0) (i 1) := by
  refine (dats m 0 c).arrAt_eq_of_covers 2 _ (by decide +kernel) fun t _ y => ?_
  blk_simp
  rw [after0_2]
  idx_vars y
  rw [out_apply]
  have ht := (idx t).2.2.2
  have e : ((View.whole main_v2).slice (win0_2.rect t)).emb (ix2 y0 y1) = ix2 y0 ⟨t.val * 512 + y1.val, by omega⟩ := by
    blk_ext [idx t]
  rw [e]
  have h1 : ∀ k : Fin 1024, _ := fun k => blk1 m c t k y1 ⟨t.val * 512 + y1.val, by omega⟩ rfl
  simp only [blk0, h1]
  rfl
end Kernel

theorem result (x : FVec Ideal Cert.Reference5Ideal.S2x256x1024 .f32) (w : FVec Ideal Cert.Reference5Ideal.S1024x2048 .f32) (i : Fin 512) (c : Fin 2048) :
    Cert.Reference5Ideal.Read.val_main_v1 (F := Ideal) x w (ix2 i c) = prod x w i c := by
  pointwise [Cert.Reference5Ideal.Read.val_main_v1, Cert.Reference5Ideal.Read.val_main_v0, prod, dotCol]

theorem algebraic : Cert.algebraic_Kernel5Ideal_Reference5Ideal := by
  intro m ρ m' ρ' _ hagree
  refine ⟨fun c => (Cert.Kernel5Ideal.Gen.dats m 0 c).arrAt 2 (Cert.Kernel5Ideal.cfgs 0).N, Cert.Kernel5Ideal.Value.run_blocks m ρ, ?_⟩
  refine (θ_run _ _ _).mono (fun _ h c => ⟨(h c).1.trans ?_, (h c).2⟩) (Cert.Reference5Ideal.Value.run m' ρ')
  obtain ⟨h0, h1⟩ := hagree c
  refine (Cert.Reference5Ideal.Read.val_main_v1_eq (F := Ideal) _ _).trans (Eq.trans ?_ (final m c).symm)
  rw [h0, h1]
  funext i
  have e : i = ix2 (i 0) (i 1) := by funext a; match a with | ⟨0, _⟩ => rfl | ⟨1, _⟩ => rfl
  refine (congrArg _ e).trans ?_
  exact result _ _ (i 0) (i 1)

end Cert.Proj.KV

end
-- ==== Proof.PeerModel.lean ====
module

public import Idealize.ShloMosaic.Lib.Pipeline.ValueKit
public import Idealize.ShloMosaic.PureOps

/-! # The key scores of the product-key memory, as formulas

A row's queries are one product with the query matrix; half `a` of them (16 halves of 128: two to a head) is scored
against the 128 keys of the first table (even `a`) or of the second (odd `a`). The kernel takes each query and each key
as a rounded part and the rest, and adds three of the four products of the parts; without rounding the rest is
`v − v`, which is zero at every finite `v`. -/

@[expose] public section

noncomputable section

namespace Cert.Peer

open Idealize.ShloMosaic

/-- The value is a real number. -/
def IsReal (v : EReal) : Prop := ∃ r : ℝ, v = (r : EReal)

theorem IsReal.sub_self {v : EReal} (h : IsReal v) : v - v = 0 := by
  obtain ⟨r, rfl⟩ := h
  rw [← EReal.coe_sub, _root_.sub_self, EReal.coe_zero]

theorem IsReal.mul {v w : EReal} (hv : IsReal v) (hw : IsReal w) : IsReal (v * w) := by
  obtain ⟨r, rfl⟩ := hv
  obtain ⟨s, rfl⟩ := hw
  exact ⟨r * s, (EReal.coe_mul r s).symm⟩

theorem IsReal.sum {ι : Type} (s : Finset ι) (f : ι → EReal) (h : ∀ k, IsReal (f k)) : IsReal (∑ k ∈ s, f k) := by
  classical
  refine Finset.induction_on s ⟨0, by simp⟩ fun k s hk ih => ?_
  rw [Finset.sum_insert hk]
  obtain ⟨r, hr⟩ := h k
  obtain ⟨t, ht⟩ := ih
  exact ⟨r + t, by rw [hr, ht, EReal.coe_add]⟩

/-- A value whose absolute value compares below `+∞` is real. -/
theorem isReal_of_lt (v : EReal) (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  induction v with
  | bot => simp [Ideal.cmp] at h
  | top => simp [Ideal.cmp] at h
  | coe r => exact ⟨r, rfl⟩

/-- Entry (row, column) of the queries. -/
def query (x w : Fin 1024 → EReal) : EReal := ∑ c, x c * w c

/-- A half's score against a key, from the parts: `kh`, `kl` the key's two parts, `q` the half. -/
def split (q kh kl : Fin 128 → EReal) : EReal :=
  ∑ d, kh d * q d + ∑ d, kl d * q d + ∑ d, kh d * (q d - q d)

/-- With a real key and a real half the parts give the plain score. -/
theorem split_eq (q k : Fin 128 → EReal) (hq : ∀ d, IsReal (q d)) (hk : ∀ d, IsReal (k d)) :
    split q k (fun d => k d - k d) = ∑ d, q d * k d := by
  unfold split
  simp only [(hq _).sub_self, (hk _).sub_self, zero_mul, mul_zero, Finset.sum_const_zero, add_zero]
  exact Finset.sum_congr rfl fun d _ => mul_comm _ _

end Cert.Peer

end
-- ==== Proof.PeerBlock.lean ====
module

public import proofs.«01_k».proof.Defs
public import proofs.«01_k».proof.Proof.Gen.Kernel6Ideal.Value
public import proofs.«01_k».proof.Proof.PeerModel
public import Idealize.ShloMosaic.Lib.Pipeline.ValueKit

/-! # One block of the key scores

A point's block holds, for each of the 16 query halves, the scores of 512 rows against 128 keys. Each of its 16 stores is
one function of the half's queries and the key table's parts, so entry `(a, n, r)` is `split` of the row's half `a` and
key `n`. -/

@[expose] public section

noncomputable section

namespace Cert.Peer

open Idealize.ShloMosaic
open Cert.Kernel6Ideal Cert.Kernel6Ideal.Gen

/-- What one store holds: the keys' parts against the half's. -/
def store (v : FVec Ideal S512x128 .f32) (kh kl : FVec Ideal S128x128 .bf16) : FVec Ideal S1x128x512 .f32 :=
  shapeCast S1x128x512
    (addf (addf
      (matmul dot_S128x128_S512x128_S128x512_1_1_0_0_n_n none (shapeCast S128x128 kh shapeCasts_S128x128_S128x128)
        (truncf .bf16 v bitsLt_bf16_f32) (constant S128x512 .f32 0x00000000#32))
      (matmul dot_S128x128_S512x128_S128x512_1_1_0_0_n_n none (shapeCast S128x128 kl shapeCasts_S128x128_S128x128)
        (truncf .bf16 v bitsLt_bf16_f32) (constant S128x512 .f32 0x00000000#32)))
      (matmul dot_S128x128_S512x128_S128x512_1_1_0_0_n_n none (shapeCast S128x128 kh shapeCasts_S128x128_S128x128)
        (truncf .bf16 (subf v (extf .f32 (truncf .bf16 v bitsLt_bf16_f32) bitsLt_bf16_f32)) bitsLt_bf16_f32)
        (constant S128x512 .f32 0x00000000#32)))
    shapeCasts_S128x512_S1x128x512

theorem store_apply (v : FVec Ideal S512x128 .f32) (kh kl : Vec Ideal S128x128 .bf16) (n : Fin 128) (r : Fin 512) :
    store v kh kl (ix3 0 n r) = split (fun d => v (ix2 r d)) (fun d => kh (ix2 n d)) (fun d => kl (ix2 n d)) := by
  pointwise [store, split]

/-- The table of half `a`: the first for even halves, the second for odd. -/
def table {α : Type} (a : Nat) (k1 k2 : α) : α := if a % 2 = 0 then k1 else k2

/-- The scores of a block, from its queries. -/
def scores (q : FVec Ideal S512x2048 .f32) (h1 l1 h2 l2 : Vec Ideal S128x128 .bf16) (a : Fin 16) (n : Fin 128) (r : Fin 512) : EReal :=
  split (fun d => q (ix2 r ⟨128 * a.val + d.val, by omega⟩)) (fun d => table a.val h1 h2 (ix2 n d)) (fun d => table a.val l1 l2 (ix2 n d))

/-- The same, by the block's index. -/
def scoresAt (q : FVec Ideal S512x2048 .f32) (h1 l1 h2 l2 : Vec Ideal S128x128 .bf16) : S16x128x512.Idx → Elt Ideal .f32 := fun y =>
  scores q h1 l1 h2 l2 (y 0) (y 1) (y 2)

/-- One store is its slice of the block's scores. -/
theorem store_piece (q : FVec Ideal S512x2048 .f32) (h1 l1 h2 l2 : Vec Ideal S128x128 .bf16) (a : Fin 16)
    (hs : S512x2048.Slices ![0, 128 * a.val] S512x128) (inb : ∀ b, (![a.val, 0, 0] : Fin 3 → Nat) b + S1x128x512.size b ≤ S16x128x512.size b)
    (x : S1x128x512.Idx) :
    store (extractStridedSlice S512x128 ![0, 128 * a.val] q hs) (table a.val h1 h2) (table a.val l1 l2) x
      = scoresAt q h1 l1 h2 l2 ((Rect.unit (s := S16x128x512) ![a.val, 0, 0] S1x128x512.size inb).emb x) := by
  have hx0 : (x 0).val < 1 := (x 0).isLt
  have hx : x = ix3 (0 : Fin 1) (x 1) (x 2) := by
    funext b
    match b with
    | ⟨0, _⟩ => exact Fin.ext (by show (x 0).val = 0; omega)
    | ⟨1, _⟩ => rfl
    | ⟨2, _⟩ => rfl
  have e : (Rect.unit (s := S16x128x512) ![a.val, 0, 0] S1x128x512.size inb).emb x = ix3 a (x 1) (x 2) := by
    funext b
    match b with
    | ⟨0, _⟩ => exact Fin.ext (by show a.val + 1 * (x 0).val = a.val; omega)
    | ⟨1, _⟩ => exact Fin.ext (by show 0 + 1 * (x 1).val = (x 1).val; omega)
    | ⟨2, _⟩ => exact Fin.ext (by show 0 + 1 * (x 2).val = (x 2).val; omega)
  refine ((congrArg (store _ _ _) hx).trans (store_apply _ _ _ (x 1) (x 2))).trans (Eq.trans ?_ (congrArg (scoresAt q h1 l1 h2 l2) e).symm)
  have s : ∀ d : Fin 128, extractStridedSlice S512x128 ![0, 128 * a.val] q hs (ix2 (x 2) d) = q (ix2 (x 2) ⟨128 * a.val + d.val, by omega⟩) := fun d =>
    extractStridedSlice_apply _ q hs _ _ fun b => match b with
      | ⟨0, _⟩ => by show (x 2).val = 0 + (x 2).val; omega
      | ⟨1, _⟩ => rfl
  simp only [s]
  rfl

/-- The block's queries: the point's rows times the query matrix. -/
theorem queries_apply (x0 : Vec Ideal S512x1024 .f32) (x1 : Vec Ideal S1024x2048 .bf16) (r : Fin 512) (j : Fin 2048) :
    k0_pay3 x0 x1 (ix2 r j) = query (fun c => x0 (ix2 r c)) (fun c => x1 (ix2 c j)) := by
  pointwise [k0_pay3, query]

/-- The whole block. -/
theorem out_apply (x0 : Vec Ideal S512x1024 .f32) (x1 : Vec Ideal S1024x2048 .bf16) (x2 x3 x4 x5 : Vec Ideal S128x128 .bf16)
    (y : S16x128x512.Idx) :
    out0_6 x0 x1 x2 x3 x4 x5 y = scores (k0_pay3 x0 x1) x2 x3 x4 x5 (y 0) (y 1) (y 2) := by
  have z0 : View.ld x0 r0_0 = x0 := View.ld_unit_zero (by decide) _ _
  have z1 : View.ld x1 r0_1 = x1 := View.ld_unit_zero (by decide) _ _
  have z2 : ∀ k : Vec Ideal S128x128 .bf16, View.ld k r0_2 = k := fun k => View.ld_unit_zero (by decide) _ _
  unfold_out out0_6
  simp only [z0, z1, z2]
  generalize hq : k0_pay3 x0 x1 = q
  refine View.canon_apply_of_pieces (scoresAt q x2 x3 x4 x5) _ ?_ y (cover0_6 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl <;> intro x
  · exact store_piece q x2 x3 x4 x5 15 slices_S512x2048_o0_1920_S512x128 inb_S16x128x512_S1x128x512_15_0_0 x
  · exact store_piece q x2 x3 x4 x5 14 slices_S512x2048_o0_1792_S512x128 inb_S16x128x512_S1x128x512_14_0_0 x
  · exact store_piece q x2 x3 x4 x5 13 slices_S512x2048_o0_1664_S512x128 inb_S16x128x512_S1x128x512_13_0_0 x
  · exact store_piece q x2 x3 x4 x5 12 slices_S512x2048_o0_1536_S512x128 inb_S16x128x512_S1x128x512_12_0_0 x
  · exact store_piece q x2 x3 x4 x5 11 slices_S512x2048_o0_1408_S512x128 inb_S16x128x512_S1x128x512_11_0_0 x
  · exact store_piece q x2 x3 x4 x5 10 slices_S512x2048_o0_1280_S512x128 inb_S16x128x512_S1x128x512_10_0_0 x
  · exact store_piece q x2 x3 x4 x5 9 slices_S512x2048_o0_1152_S512x128 inb_S16x128x512_S1x128x512_9_0_0 x
  · exact store_piece q x2 x3 x4 x5 8 slices_S512x2048_o0_1024_S512x128 inb_S16x128x512_S1x128x512_8_0_0 x
  · exact store_piece q x2 x3 x4 x5 7 slices_S512x2048_o0_896_S512x128 inb_S16x128x512_S1x128x512_7_0_0 x
  · exact store_piece q x2 x3 x4 x5 6 slices_S512x2048_o0_768_S512x128 inb_S16x128x512_S1x128x512_6_0_0 x
  · exact store_piece q x2 x3 x4 x5 5 slices_S512x2048_o0_640_S512x128 inb_S16x128x512_S1x128x512_5_0_0 x
  · exact store_piece q x2 x3 x4 x5 4 slices_S512x2048_o0_512_S512x128 inb_S16x128x512_S1x128x512_4_0_0 x
  · exact store_piece q x2 x3 x4 x5 3 slices_S512x2048_o0_384_S512x128 inb_S16x128x512_S1x128x512_3_0_0 x
  · exact store_piece q x2 x3 x4 x5 2 slices_S512x2048_o0_256_S512x128 inb_S16x128x512_S1x128x512_2_0_0 x
  · rw [← hq]; exact store_piece (k0_pay3 x0 x1) x2 x3 x4 x5 1 slices_S512x2048_o0_128_S512x128 inb_S16x128x512_S1x128x512_1_0_0 x
  · rw [← hq]; exact store_piece (k0_pay3 x0 x1) x2 x3 x4 x5 0 slices_S512x2048_o0_0_S512x128 inb_S16x128x512_S1x128x512_0_0_0 x

end Cert.Peer

end
-- ==== Proof.PeerScore.lean ====
module

public import proofs.«01_k».proof.Defs
public import proofs.«01_k».proof.Proof.Gen.Kernel6Ideal.Value
public import proofs.«01_k».proof.Proof.Gen.Reference6Ideal.Read
public import proofs.«01_k».proof.Proof.PeerBlock
public import Idealize.ShloMosaic.Lib.Pipeline.ValueKit

/-! # The key scores: both programs end with one array

The array's entry `(a, n, t)` is the score of row `t`'s query half `a` against key `n` of that half's table. The kernel
makes it in the split form, 512 rows a point; at finite arguments that is the plain sum the reference takes. -/

@[expose] public section

noncomputable section

namespace Cert.Peer

open Idealize.ShloMosaic Idealize.ShloMosaic.TcCoe Idealize.SL.Sem

/-- The query entry (row `t`, column `j`). -/
def queryAt (x : (⟨3, ![2, 8192, 1024]⟩ : Shape).Idx → EReal) (w : (⟨2, ![1024, 2048]⟩ : Shape).Idx → EReal) (t : Fin 16384) (j : Fin 2048) : EReal :=
  query (fun c => x (ix3 ⟨t.val / 8192, by omega⟩ ⟨t.val % 8192, by omega⟩ c)) (fun c => w (ix2 c j))

/-- The scores in the split form. -/
def splitAt (x : (⟨3, ![2, 8192, 1024]⟩ : Shape).Idx → EReal) (w : (⟨2, ![1024, 2048]⟩ : Shape).Idx → EReal)
    (k1 k2 : (⟨2, ![128, 128]⟩ : Shape).Idx → EReal) (a : Fin 16) (n : Fin 128) (t : Fin 16384) : EReal :=
  split (fun d => queryAt x w t ⟨128 * a.val + d.val, by omega⟩) (fun d => table a.val k1 k2 (ix2 n d))
    (fun d => table a.val k1 k2 (ix2 n d) - table a.val k1 k2 (ix2 n d))

section Kernel
open Cert.Kernel6Ideal Cert.Kernel6Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0, t.val] ∧ t.val < 32 :=
  (by decide +kernel : ∀ t : Fin grid0.N, _)

/-- What rounding to half the bits leaves of a key table, itself rounded. -/
def restOf (k : FVec Ideal S128x128 .f32) : FVec Ideal S128x128 .bf16 :=
  truncf .bf16 (subf k (extf .f32 (truncf .bf16 k bitsLt_bf16_f32) bitsLt_bf16_f32)) bitsLt_bf16_f32

/-- Without rounding, an entry of it. -/
def rest (k : S128x128.Idx → EReal) (n d : Fin 128) : EReal := k (ix2 n d) - k (ix2 n d)

theorem blk0 (c : Dev nD) (t : Fin cfg0.N) (r : Fin 512) (k : Fin 1024) (b : Fin 2) (l : Fin 8192) (hb : t.val * 512 + r.val = b.val * 8192 + l.val) :
    (iblk m c 0 t : Vec Ideal S512x1024 .f32) (ix2 r k) = m ((c : Thread nD τ).loc main_arg0) (ix3 b l k) := by
  blk_ext! [iblk, V, idx t]

theorem blk1 (c : Dev nD) (t : Fin cfg0.N) (k : Fin 1024) (j : Fin 2048) :
    (iblk m c 1 t : Vec Ideal S1024x2048 .bf16) (ix2 k j) = m ((c : Thread nD τ).loc main_arg1) (ix2 k j) := by
  blk_ext! [iblk, V, idx t]

theorem blk2 (c : Dev nD) (t : Fin cfg0.N) (n d : Fin 128) :
    (iblk m c 2 t : Vec Ideal S128x128 .bf16) (ix2 n d) = m ((c : Thread nD τ).loc main_arg2) (ix2 n d) := by
  blk_ext! [iblk, V, idx t]

theorem blk3 (c : Dev nD) (t : Fin cfg0.N) (n d : Fin 128) :
    (iblk m c 3 t : Vec Ideal S128x128 .bf16) (ix2 n d)
      = rest (m ((c : Thread nD τ).loc main_arg2)) n d := by
  have h : (iblk m c 3 t : Vec Ideal S128x128 .bf16) (ix2 n d) = (V m c main_v5 : Vec Ideal S128x128 .bf16) (ix2 n d) := by
    blk_ext [iblk, idx t]
  have hv : (V m c main_v5 : Vec Ideal S128x128 .bf16) = restOf (m ((c : Thread nD τ).loc main_arg2)) := by
    show StableHlo.after hostOps0 (fun b => m (c, b)) main_v5 = _
    after_results <;> rfl
  rw [h, hv]
  rfl

theorem blk4 (c : Dev nD) (t : Fin cfg0.N) (n d : Fin 128) :
    (iblk m c 4 t : Vec Ideal S128x128 .bf16) (ix2 n d) = m ((c : Thread nD τ).loc main_arg3) (ix2 n d) := by
  blk_ext! [iblk, V, idx t]

theorem blk5 (c : Dev nD) (t : Fin cfg0.N) (n d : Fin 128) :
    (iblk m c 5 t : Vec Ideal S128x128 .bf16) (ix2 n d)
      = rest (m ((c : Thread nD τ).loc main_arg3)) n d := by
  have h : (iblk m c 5 t : Vec Ideal S128x128 .bf16) (ix2 n d) = (V m c main_v9 : Vec Ideal S128x128 .bf16) (ix2 n d) := by
    blk_ext [iblk, idx t]
  have hv : (V m c main_v9 : Vec Ideal S128x128 .bf16) = restOf (m ((c : Thread nD τ).loc main_arg3)) := by
    show StableHlo.after hostOps0 (fun b => m (c, b)) main_v9 = _
    after_results <;> rfl
  rw [h, hv]
  rfl

theorem final (c : Dev nD) : (dats m 0 c).arrAt 6 (cfgs 0).N = fun i => splitAt (m ((c : Thread nD τ).loc main_arg0))
    (m ((c : Thread nD τ).loc main_arg1)) (m ((c : Thread nD τ).loc main_arg2)) (m ((c : Thread nD τ).loc main_arg3)) (i 0) (i 1) (i 2) := by
  refine (dats m 0 c).arrAt_eq_of_covers 6 _ (by decide +kernel) fun t _ y => ?_
  blk_simp
  rw [after0_6]
  idx_vars y
  rw [out_apply]
  have ht := (idx t).2.2.2.2.2.2.2
  have e : ((View.whole main_v10).slice (win0_6.rect t)).emb (ix3 y0 y1 y2) = ix3 y0 y1 ⟨t.val * 512 + y2.val, by omega⟩ := by
    blk_ext [idx t]
  rw [e]
  have h0 : ∀ k : Fin 1024, _ := fun k => blk0 m c t y2 k ⟨(t.val * 512 + y2.val) / 8192, by omega⟩ ⟨(t.val * 512 + y2.val) % 8192, by omega⟩ (by show _ = (t.val * 512 + y2.val) / 8192 * 8192 + (t.val * 512 + y2.val) % 8192; omega)
  show scores _ _ _ _ _ y0 y1 y2 = splitAt _ _ _ _ y0 y1 ⟨t.val * 512 + y2.val, by omega⟩
  unfold scores splitAt queryAt
  have hq : ∀ j : Fin 2048, k0_pay3 (F := Ideal) (iblk m c 0 t) (iblk m c 1 t) (ix2 y2 j) = _ := fun j => queries_apply _ _ y2 j
  simp only [hq, h0, blk1]
  have hd : y0.val % 2 = 0 ∨ y0.val % 2 = 1 := by omega
  unfold table
  rcases hd with hd | hd
  · simp only [hd, if_true, blk2, blk3, rest]
  · simp only [hd, if_neg (by decide : ¬ (1 = 0)), blk4, blk5, rest]
end Kernel

section Ref
open Cert.Reference6Ideal Cert.Reference6Ideal.Gen Cert.Reference6Ideal.Read

variable (x : FVec Ideal S2x8192x1024 .f32) (w : FVec Ideal S1024x2048 .f32) (k1 k2 : FVec Ideal S128x128 .f32)

theorem queries (t : Fin 16384) (j : Fin 2048) : val_main_v1 (F := Ideal) x w (ix2 t j) = queryAt x w t j := by
  pointwise [val_main_v1, val_main_v0, queryAt, query]

theorem first (t : Fin 16384) (h : Fin 8) (n : Fin 128) : val_main_v5 (F := Ideal) x w k1 (ix3 t h n)
    = ∑ d : Fin 128, queryAt x w t ⟨h.val * 256 + d.val, by omega⟩ * k1 (ix2 n d) := by
  have q := queries x w
  unfold val_main_v5 val_main_v3 val_main_v2
  generalize val_main_v1 (F := Ideal) x w = y at q ⊢
  pointwise [q]

theorem second (t : Fin 16384) (h : Fin 8) (n : Fin 128) : val_main_v6 (F := Ideal) x w k2 (ix3 t h n)
    = ∑ d : Fin 128, queryAt x w t ⟨h.val * 256 + (128 + d.val), by omega⟩ * k2 (ix2 n d) := by
  have q := queries x w
  unfold val_main_v6 val_main_v4 val_main_v2
  generalize val_main_v1 (F := Ideal) x w = y at q ⊢
  pointwise [q]

/-- The reference's array, in the plain form. -/
theorem result (a : Fin 16) (n : Fin 128) (t : Fin 16384) : val_main_v11 (F := Ideal) x w k1 k2 (ix3 a n t)
    = ∑ d : Fin 128, queryAt x w t ⟨128 * a.val + d.val, by omega⟩ * table a.val k1 k2 (ix2 n d) := by
  have f1 := first x w k1
  have f2 := second x w k2
  unfold val_main_v11 val_main_v10 val_main_v9 val_main_v8 val_main_v7
  generalize val_main_v5 (F := Ideal) x w k1 = y at f1 ⊢
  generalize val_main_v6 (F := Ideal) x w k2 = z at f2 ⊢
  pointwise [f1, f2]
  rcases (by omega : a.val % 2 = 0 ∨ a.val % 2 = 1) with h | h
  · rw [show table a.val k1 k2 = k1 from if_pos h]
    refine (dif_pos (by omega)).trans (Finset.sum_congr rfl fun d _ => ?_)
    exact congrArg (fun j => queryAt x w t j * k1 (ix2 n d)) (Fin.ext (by show a.val / 2 * 256 + d.val = 128 * a.val + d.val; omega))
  · rw [show table a.val k1 k2 = k2 from if_neg (by omega)]
    refine (dif_neg (by omega)).trans (Finset.sum_congr rfl fun d _ => ?_)
    exact congrArg (fun j => queryAt x w t j * k2 (ix2 n d)) (Fin.ext (by show a.val / 2 * 256 + (128 + d.val) = 128 * a.val + d.val; omega))
end Ref

/-- The precondition read: every argument is an array of real numbers. -/
theorem reals [hP : Cert.Pre_finite6.Facts] (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) :
    (∀ i, IsReal (m ((c : Thread Cert.Kernel6Ideal.nD Cert.Kernel6Ideal.τ).loc Cert.Kernel6Ideal.main_arg0) i))
    ∧ (∀ i, IsReal (m ((c : Thread Cert.Kernel6Ideal.nD Cert.Kernel6Ideal.τ).loc Cert.Kernel6Ideal.main_arg1) i))
    ∧ (∀ i, IsReal (m ((c : Thread Cert.Kernel6Ideal.nD Cert.Kernel6Ideal.τ).loc Cert.Kernel6Ideal.main_arg2) i))
    ∧ ∀ i, IsReal (m ((c : Thread Cert.Kernel6Ideal.nD Cert.Kernel6Ideal.τ).loc Cert.Kernel6Ideal.main_arg3) i) :=
  ⟨fun i => isReal_of_lt _ (congrFun (h c).1 i), fun i => isReal_of_lt _ (congrFun (h c).2.1 i),
    fun i => isReal_of_lt _ (congrFun (h c).2.2.1 i), fun i => isReal_of_lt _ (congrFun (h c).2.2.2 i)⟩

/-- At real arguments the split form is the plain one. -/
theorem splitAt_eq (x : (⟨3, ![2, 8192, 1024]⟩ : Shape).Idx → EReal) (w : (⟨2, ![1024, 2048]⟩ : Shape).Idx → EReal)
    (k1 k2 : (⟨2, ![128, 128]⟩ : Shape).Idx → EReal) (hx : ∀ i, IsReal (x i)) (hw : ∀ i, IsReal (w i))
    (h1 : ∀ i, IsReal (k1 i)) (h2 : ∀ i, IsReal (k2 i)) (a : Fin 16) (n : Fin 128) (t : Fin 16384) :
    splitAt x w k1 k2 a n t = ∑ d : Fin 128, queryAt x w t ⟨128 * a.val + d.val, by omega⟩ * table a.val k1 k2 (ix2 n d) :=
  split_eq _ _ (fun d => by unfold queryAt query; exact IsReal.sum _ _ fun _ => (hx _).mul (hw _)) fun d => by
    unfold table
    split
    · exact h1 _
    · exact h2 _

theorem preFacts : Cert.Pre_finite6.Facts where
  bcast_S_S2x8192x1024 := by decide
  bcast_S_S1024x2048 := by decide
  bcast_S_S128x128 := by decide

theorem algebraic : Cert.algebraic_Kernel6Ideal_Reference6Ideal_pre_finite6 (hPre_finite6 := preFacts) := by
  intro m ρ m' ρ' hpre hagree
  refine ⟨fun c => (Cert.Kernel6Ideal.Gen.dats m 0 c).arrAt 6 (Cert.Kernel6Ideal.cfgs 0).N, Cert.Kernel6Ideal.Value.run_blocks m ρ, ?_⟩
  refine (θ_run _ _ _).mono (fun _ h c => ⟨(h c).1.trans ?_, (h c).2⟩) (Cert.Reference6Ideal.Value.run m' ρ')
  obtain ⟨h0, h1, h2, h3⟩ := hagree c
  obtain ⟨r0, r1, r2, r3⟩ := reals (hP := preFacts) m hpre c
  refine (Cert.Reference6Ideal.Read.val_main_v11_eq (F := Ideal) _ _ _ _).trans (Eq.trans ?_ (final m c).symm)
  rw [h0, h1, h2, h3]
  funext i
  have e : i = ix3 (i 0) (i 1) (i 2) := by funext a; match a with | ⟨0, _⟩ => rfl | ⟨1, _⟩ => rfl | ⟨2, _⟩ => rfl
  refine (congrArg _ e).trans ?_
  exact (result _ _ _ _ (i 0) (i 1) (i 2)).trans (splitAt_eq _ _ _ _ r0 r1 r2 r3 (i 0) (i 1) (i 2)).symm

end Cert.Peer

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Step
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.MClaim
public import proofs.«01_k».proof.Proof.XClaim
public import proofs.«01_k».proof.Proof.ProjMain
public import proofs.«01_k».proof.Proof.MixOut
public import proofs.«01_k».proof.Proof.ProjKV
public import proofs.«01_k».proof.Proof.PeerScore
public import Idealize.ShloMosaic.Lib.Quiescent
public import Idealize.ShloMosaic.Adequacy
public import Idealize.ShloMosaic.Init

@[expose] public section

noncomputable section

open Idealize.ShloMosaic Idealize.SL.Sem

/-- The generated frames of the kernels, the runs of the plain programs, and the value claims. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Peer.preFacts,
    fun m ρ _ => Cert.Kernel.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run m ρ),
    fun m ρ _ => Cert.Kernel2.Gen.frame m ρ,
    fun m ρ _ => Cert.Kernel2Ideal.Gen.frame m ρ,
    fun m ρ _ => (θ_run Cert.Reference2Ideal.defs _ _).mono
      (fun r h => ⟨fun c => (h c).2, sem_eq_zero_of_no_sems (by decide) r.2⟩) (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono
      (fun r h => ⟨fun c => (h c).2, sem_eq_zero_of_no_sems (by decide) r.2⟩) (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono
      (fun r h => ⟨fun c => (h c).2, sem_eq_zero_of_no_sems (by decide) r.2⟩) (Cert.Reference4Ideal.Value.run m ρ),
    fun m ρ _ => Cert.Kernel5.Gen.frame m ρ,
    fun m ρ _ => Cert.Kernel5Ideal.Gen.frame m ρ,
    fun m ρ _ => (θ_run Cert.Reference5Ideal.defs _ _).mono
      (fun r h => ⟨fun c => (h c).2, sem_eq_zero_of_no_sems (by decide) r.2⟩) (Cert.Reference5Ideal.Value.run m ρ),
    fun m ρ _ => Cert.Kernel6.Gen.frame m ρ,
    fun m ρ _ => Cert.Kernel6Ideal.Gen.frame m ρ,
    fun m ρ _ => Cert.Kernel6Ideal.Gen.frame m ρ,
    fun m ρ _ => (θ_run Cert.Reference6Ideal.defs _ _).mono
      (fun r h => ⟨fun c => (h c).2, sem_eq_zero_of_no_sems (by decide) r.2⟩) (Cert.Reference6Ideal.Value.run m ρ),
    fun m ρ _ => (θ_run Cert.Reference6Ideal.defs _ _).mono
      (fun r h => ⟨fun c => (h c).2, sem_eq_zero_of_no_sems (by decide) r.2⟩) (Cert.Reference6Ideal.Value.run m ρ),
    trivial, Cert.M.algebraic, trivial, Cert.X.algebraic, trivial, Cert.Proj.Main.algebraic, trivial, Cert.Mix.algebraic,
    trivial, Cert.Proj.KV.algebraic, trivial, Cert.Peer.algebraic⟩

end
